-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16384x5376 : Shape := ⟨2, ![16384, 5376]⟩
abbrev S4x1024 : Shape := ⟨2, ![4, 1024]⟩
abbrev S1024 : Shape := ⟨1, ![1024]⟩
abbrev S4 : Shape := ⟨1, ![4]⟩
abbrev S4x128 : Shape := ⟨2, ![4, 128]⟩
abbrev S8 : Shape := ⟨1, ![8]⟩
abbrev S1x8 : Shape := ⟨2, ![1, 8]⟩
abbrev S_ : Shape := ⟨0, ![]⟩
abbrev S1x120 : Shape := ⟨2, ![1, 120]⟩
abbrev S1x128 : Shape := ⟨2, ![1, 128]⟩
abbrev S1x1024 : Shape := ⟨2, ![1, 1024]⟩
abbrev S1x512 : Shape := ⟨2, ![1, 512]⟩
abbrev S16384x512 : Shape := ⟨2, ![16384, 512]⟩
abbrev S128x1024 : Shape := ⟨2, ![128, 1024]⟩
abbrev S128x512 : Shape := ⟨2, ![128, 512]⟩
abbrev S128x128 : Shape := ⟨2, ![128, 128]⟩
abbrev S8x1024 : Shape := ⟨2, ![8, 1024]⟩
abbrev S4x128x128 : Shape := ⟨3, ![4, 128, 128]⟩
abbrev S8x128 : Shape := ⟨2, ![8, 128]⟩
abbrev S128x1 : Shape := ⟨2, ![128, 1]⟩
abbrev S1x1 : Shape := ⟨2, ![1, 1]⟩
abbrev S1x128x128 : Shape := ⟨3, ![1, 128, 128]⟩
abbrev S1 : Shape := ⟨1, ![1]⟩
abbrev S128 : Shape := ⟨1, ![128]⟩

abbrev nBuf : Space → Nat
  | .hbm => 14
  | .vmem => 18
  | .smem => 0
  | _ => 0

abbrev bufTy : (tb : Table) → Fin (tcTables nBuf tb) → BufTy
  | .hbm, ⟨0, _⟩ => ⟨S16384x5376, .f32⟩
  | .hbm, ⟨1, _⟩ => ⟨S4x1024, .f32⟩
  | .hbm, ⟨2, _⟩ => ⟨S1024, .f32⟩
  | .hbm, ⟨3, _⟩ => ⟨S4, .f32⟩
  | .hbm, ⟨4, _⟩ => ⟨S4, .f32⟩
  | .hbm, ⟨5, _⟩ => ⟨S4x128, .f32⟩
  | .hbm, ⟨6, _⟩ => ⟨S8, .f32⟩
  | .hbm, ⟨7, _⟩ => ⟨S1x8, .f32⟩
  | .hbm, ⟨8, _⟩ => ⟨S_, .f32⟩
  | .hbm, ⟨9, _⟩ => ⟨S1x120, .f32⟩
  | .hbm, ⟨10, _⟩ => ⟨S1x128, .f32⟩
  | .hbm, ⟨11, _⟩ => ⟨S1x1024, .f32⟩
  | .hbm, ⟨12, _⟩ => ⟨S1x512, .f32⟩
  | .hbm, ⟨13, _⟩ => ⟨S16384x512, .bf16⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x128, .f32⟩
  | .local _ .vmem, ⟨7, _⟩ => ⟨S128x128, .f32⟩
  | .local _ .vmem, ⟨8, _⟩ => ⟨S4x1024, .f32⟩
  | .local _ .vmem, ⟨9, _⟩ => ⟨S1x1024, .f32⟩
  | .local _ .vmem, ⟨10, _⟩ => ⟨S1x128, .f32⟩
  | .local _ .vmem, ⟨11, _⟩ => ⟨S1x512, .f32⟩
  | .local _ .vmem, ⟨12, _⟩ => ⟨S128x512, .bf16⟩
  | .local _ .vmem, ⟨13, _⟩ => ⟨S128x512, .bf16⟩
  | .local _ .vmem, ⟨14, _⟩ => ⟨S8x1024, .f32⟩
  | .local _ .vmem, ⟨15, _⟩ => ⟨S4x128x128, .f32⟩
  | .local _ .vmem, ⟨16, _⟩ => ⟨S8x128, .f32⟩
  | .local _ .vmem, ⟨17, _⟩ => ⟨S8x128, .f32⟩
  | _, _ => ⟨S16384x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x5376 : Shape := ⟨2, ![16384, 5376]⟩
abbrev S4x1024 : Shape := ⟨2, ![4, 1024]⟩
abbrev S1024 : Shape := ⟨1, ![1024]⟩
abbrev S4 : Shape := ⟨1, ![4]⟩
abbrev S4x128 : Shape := ⟨2, ![4, 128]⟩
abbrev S16384x1024 : Shape := ⟨2, ![16384, 1024]⟩
abbrev S16384x512 : Shape := ⟨2, ![16384, 512]⟩
abbrev S16384x4 : Shape := ⟨2, ![16384, 4]⟩
abbrev S_ : Shape := ⟨0, ![]⟩
abbrev S16387x1024 : Shape := ⟨2, ![16387, 1024]⟩
abbrev S1x1024 : Shape := ⟨2, ![1, 1024]⟩
abbrev S16384x4x128 : Shape := ⟨3, ![16384, 4, 128]⟩
abbrev S128x128x4x128 : Shape := ⟨4, ![128, 128, 4, 128]⟩
abbrev S4x128x128x128 : Shape := ⟨4, ![4, 128, 128, 128]⟩
abbrev S1x4 : Shape := ⟨2, ![1, 4]⟩
abbrev S128x128x4 : Shape := ⟨3, ![128, 128, 4]⟩
abbrev S4x128x128 : Shape := ⟨3, ![4, 128, 128]⟩
abbrev S4x128x1 : Shape := ⟨3, ![4, 128, 1]⟩
abbrev S4x128x128x1 : Shape := ⟨4, ![4, 128, 128, 1]⟩
abbrev S128x4x128x128 : Shape := ⟨4, ![128, 4, 128, 128]⟩
abbrev S128x4x128 : Shape := ⟨3, ![128, 4, 128]⟩
abbrev S128x4 : Shape := ⟨2, ![128, 4]⟩
abbrev S1x4x128x128 : Shape := ⟨4, ![1, 4, 128, 128]⟩
abbrev S1x4x128 : Shape := ⟨3, ![1, 4, 128]⟩
abbrev S4x1x1 : Shape := ⟨3, ![4, 1, 1]⟩
abbrev S4x1 : Shape := ⟨2, ![4, 1]⟩
abbrev S128x128 : Shape := ⟨2, ![128, 128]⟩
abbrev S4x128x1x128 : Shape := ⟨4, ![4, 128, 1, 128]⟩
abbrev S16384x4x1 : Shape := ⟨3, ![16384, 4, 1]⟩

abbrev nBuf : Space → Nat
  | .hbm => 289
  | .vmem => 0
  | .smem => 0
  | _ => 0

abbrev hbmTy0_0 (i : Nat) : BufTy := match i % 128 with
  | 0 => ⟨S16384x5376, .f32⟩
  | 1 => ⟨S4x1024, .f32⟩
  | 2 => ⟨S1024, .f32⟩
  | 3 => ⟨S4, .f32⟩
  | 4 => ⟨S4, .f32⟩
  | 5 => ⟨S4x128, .f32⟩
  | 6 => ⟨S16384x1024, .f32⟩
  | 7 => ⟨S16384x512, .f32⟩
  | 8 => ⟨S16384x512, .f32⟩
  | 9 => ⟨S16384x4, .f32⟩
  | 10 => ⟨S16384x4, .f32⟩
  | 11 => ⟨S_, .i32⟩
  | 12 => ⟨S_, .f32⟩
  | 13 => ⟨S16387x1024, .f32⟩
  | 14 => ⟨S1x1024, .f32⟩
  | 15 => ⟨S1024, .f32⟩
  | 16 => ⟨S1x1024, .f32⟩
  | 17 => ⟨S16384x1024, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S1x1024, .f32⟩
  | 24 => ⟨S1024, .f32⟩
  | 25 => ⟨S1x1024, .f32⟩
  | 26 => ⟨S16384x1024, .f32⟩
  | 27 => ⟨S16384x1024, .f32⟩
  | 28 => ⟨S16384x1024, .f32⟩
  | 29 => ⟨S16384x1024, .f32⟩
  | 30 => ⟨S1x1024, .f32⟩
  | 31 => ⟨S1024, .f32⟩
  | 32 => ⟨S1x1024, .f32⟩
  | 33 => ⟨S16384x1024, .f32⟩
  | 34 => ⟨S16384x1024, .f32⟩
  | 35 => ⟨S16384x1024, .f32⟩
  | 36 => ⟨S16384x1024, .f32⟩
  | 37 => ⟨S1x1024, .f32⟩
  | 38 => ⟨S1024, .f32⟩
  | 39 => ⟨S1x1024, .f32⟩
  | 40 => ⟨S16384x1024, .f32⟩
  | 41 => ⟨S16384x1024, .f32⟩
  | 42 => ⟨S16384x1024, .f32⟩
  | 43 => ⟨S16384x1024, .f32⟩
  | 44 => ⟨S1x1024, .f32⟩
  | 45 => ⟨S16384x1024, .f32⟩
  | 46 => ⟨S16384x1024, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S_, .f32⟩
  | 53 => ⟨S16384x1024, .f32⟩
  | 54 => ⟨S16384x1024, .f32⟩
  | 55 => ⟨S16384x1024, .f32⟩
  | 56 => ⟨S16384x512, .f32⟩
  | 57 => ⟨S16384x512, .f32⟩
  | 58 => ⟨S16384x4x128, .f32⟩
  | 59 => ⟨S128x128x4x128, .f32⟩
  | 60 => ⟨S4x128x128x128, .f32⟩
  | 61 => ⟨S16384x4x128, .f32⟩
  | 62 => ⟨S128x128x4x128, .f32⟩
  | 63 => ⟨S4x128x128x128, .f32⟩
  | 64 => ⟨S_, .f32⟩
  | 65 => ⟨S4x128x128x128, .f32⟩
  | 66 => ⟨S4x128x128x128, .f32⟩
  | 67 => ⟨S16384x4x128, .f32⟩
  | 68 => ⟨S128x128x4x128, .f32⟩
  | 69 => ⟨S4x128x128x128, .f32⟩
  | 70 => ⟨S1x4, .f32⟩
  | 71 => ⟨S16384x4, .f32⟩
  | 72 => ⟨S16384x4, .f32⟩
  | 73 => ⟨S128x128x4, .f32⟩
  | 74 => ⟨S4x128x128, .f32⟩
  | 75 => ⟨S1x4, .f32⟩
  | 76 => ⟨S16384x4, .f32⟩
  | 77 => ⟨S16384x4, .f32⟩
  | 78 => ⟨S128x128x4, .f32⟩
  | 79 => ⟨S4x128x128, .f32⟩
  | 80 => ⟨S4x128x128, .f32⟩
  | 81 => ⟨S_, .f32⟩
  | 82 => ⟨S4x128x128, .f32⟩
  | 83 => ⟨S4x128x128, .f32⟩
  | 84 => ⟨S4x128x128, .f32⟩
  | 85 => ⟨S4x128x128, .f32⟩
  | 86 => ⟨S4x128x128, .i1⟩
  | 87 => ⟨S4x128x128, .f32⟩
  | 88 => ⟨S4x128x128, .f32⟩
  | 89 => ⟨S4x128x128, .f32⟩
  | 90 => ⟨S4x128x128, .f32⟩
  | 91 => ⟨S4x128x128, .f32⟩
  | 92 => ⟨S4x128x128, .f32⟩
  | 93 => ⟨S4x128x128, .f32⟩
  | 94 => ⟨S4x128x128, .f32⟩
  | 95 => ⟨S4x128x128, .f32⟩
  | 96 => ⟨S_, .f32⟩
  | 97 => ⟨S_, .f32⟩
  | 98 => ⟨S4x128x128, .f32⟩
  | 99 => ⟨S4x128x1, .f32⟩
  | 100 => ⟨S4x128, .f32⟩
  | 101 => ⟨S4x128x1, .f32⟩
  | 102 => ⟨S4x128x128, .f32⟩
  | 103 => ⟨S4x128x128, .f32⟩
  | 104 => ⟨S4x128x128, .f32⟩
  | 105 => ⟨S_, .f32⟩
  | 106 => ⟨S4x128, .f32⟩
  | 107 => ⟨S4x128x1, .f32⟩
  | 108 => ⟨S4x128x128, .f32⟩
  | 109 => ⟨S4x128x128, .f32⟩
  | 110 => ⟨S4x128x128, .f32⟩
  | 111 => ⟨S4x128x128x1, .f32⟩
  | 112 => ⟨S4x128x128x128, .f32⟩
  | 113 => ⟨S4x128x128x128, .f32⟩
  | 114 => ⟨S4x128x128x128, .f32⟩
  | 115 => ⟨S4x128x128x1, .f32⟩
  | 116 => ⟨S4x128x128x128, .f32⟩
  | 117 => ⟨S4x128x128x128, .f32⟩
  | 118 => ⟨S_, .f32⟩
  | 119 => ⟨S4x128x128, .f32⟩
  | 120 => ⟨S_, .f32⟩
  | 121 => ⟨S4x128x128, .f32⟩
  | 122 => ⟨S_, .f32⟩
  | 123 => ⟨S4x128, .f32⟩
  | 124 => ⟨S_, .f32⟩
  | 125 => ⟨S4, .f32⟩
  | 126 => ⟨S128x4x128x128, .f32⟩
  | 127 => ⟨S128x4x128, .f32⟩
  | _ => ⟨S16384x5376, .f32⟩

abbrev hbmTy0_1 (i : Nat) : BufTy := match i % 128 with
  | 0 => ⟨S128x4, .f32⟩
  | 1 => ⟨S128x4, .f32⟩
  | 2 => ⟨S_, .f32⟩
  | 3 => ⟨S128x4x128x128, .f32⟩
  | 4 => ⟨S_, .f32⟩
  | 5 => ⟨S128x4x128, .f32⟩
  | 6 => ⟨S_, .f32⟩
  | 7 => ⟨S128x4, .f32⟩
  | 8 => ⟨S_, .i32⟩
  | 9 => ⟨S128x4x128x128, .f32⟩
  | 10 => ⟨S128x4x128, .f32⟩
  | 11 => ⟨S128x4, .f32⟩
  | 12 => ⟨S128x4, .f32⟩
  | 13 => ⟨S_, .i32⟩
  | 14 => ⟨S4x128x128, .f32⟩
  | 15 => ⟨S4x128, .f32⟩
  | 16 => ⟨S4, .f32⟩
  | 17 => ⟨S128x4x128x128, .f32⟩
  | 18 => ⟨S128x4x128, .f32⟩
  | 19 => ⟨S128x4, .f32⟩
  | 20 => ⟨S_, .i32⟩
  | 21 => ⟨S_, .i1⟩
  | 22 => ⟨S_, .i32⟩
  | 23 => ⟨S_, .i32⟩
  | 24 => ⟨S_, .i32⟩
  | 25 => ⟨S1x4x128x128, .f32⟩
  | 26 => ⟨S4x128x128, .f32⟩
  | 27 => ⟨S_, .i32⟩
  | 28 => ⟨S_, .i32⟩
  | 29 => ⟨S1x4x128, .f32⟩
  | 30 => ⟨S4x128, .f32⟩
  | 31 => ⟨S_, .i32⟩
  | 32 => ⟨S1x4, .f32⟩
  | 33 => ⟨S4, .f32⟩
  | 34 => ⟨S_, .i32⟩
  | 35 => ⟨S1x4, .f32⟩
  | 36 => ⟨S4, .f32⟩
  | 37 => ⟨S4, .f32⟩
  | 38 => ⟨S4, .f32⟩
  | 39 => ⟨S4, .f32⟩
  | 40 => ⟨S4, .f32⟩
  | 41 => ⟨S4, .f32⟩
  | 42 => ⟨S4, .f32⟩
  | 43 => ⟨S4, .f32⟩
  | 44 => ⟨S4x1x1, .f32⟩
  | 45 => ⟨S4x128x128, .f32⟩
  | 46 => ⟨S4x128x128, .f32⟩
  | 47 => ⟨S4x1x1, .f32⟩
  | 48 => ⟨S4x128x128, .f32⟩
  | 49 => ⟨S4x128x128, .f32⟩
  | 50 => ⟨S4x128x128, .f32⟩
  | 51 => ⟨S4x1, .f32⟩
  | 52 => ⟨S4x128, .f32⟩
  | 53 => ⟨S4x128, .f32⟩
  | 54 => ⟨S4x1, .f32⟩
  | 55 => ⟨S4x128, .f32⟩
  | 56 => ⟨S4x128, .f32⟩
  | 57 => ⟨S4x128, .f32⟩
  | 58 => ⟨S1x4x128x128, .f32⟩
  | 59 => ⟨S_, .i32⟩
  | 60 => ⟨S_, .i32⟩
  | 61 => ⟨S_, .i32⟩
  | 62 => ⟨S128x4x128x128, .f32⟩
  | 63 => ⟨S1x4x128, .f32⟩
  | 64 => ⟨S_, .i32⟩
  | 65 => ⟨S_, .i32⟩
  | 66 => ⟨S128x4x128, .f32⟩
  | 67 => ⟨S1x4, .f32⟩
  | 68 => ⟨S_, .i32⟩
  | 69 => ⟨S128x4, .f32⟩
  | 70 => ⟨S_, .i32⟩
  | 71 => ⟨S_, .i32⟩
  | 72 => ⟨S4x128x128x128, .f32⟩
  | 73 => ⟨S4x128x128, .f32⟩
  | 74 => ⟨S4x128, .f32⟩
  | 75 => ⟨S_, .i1⟩
  | 76 => ⟨S128x128, .i1⟩
  | 77 => ⟨S128x128, .i32⟩
  | 78 => ⟨S_, .i32⟩
  | 79 => ⟨S128x128, .i32⟩
  | 80 => ⟨S128x128, .i32⟩
  | 81 => ⟨S128x128, .i32⟩
  | 82 => ⟨S128x128, .i1⟩
  | 83 => ⟨S_, .i1⟩
  | 84 => ⟨S128x128, .i1⟩
  | 85 => ⟨S128x128, .i1⟩
  | 86 => ⟨S4x128x128x1, .f32⟩
  | 87 => ⟨S4x128x1x128, .f32⟩
  | 88 => ⟨S4x128x128x128, .f32⟩
  | 89 => ⟨S4x128x128x128, .f32⟩
  | 90 => ⟨S4x128x128x128, .f32⟩
  | 91 => ⟨S4x128x1x128, .f32⟩
  | 92 => ⟨S4x128x128x128, .f32⟩
  | 93 => ⟨S4x128x128x128, .f32⟩
  | 94 => ⟨S_, .f32⟩
  | 95 => ⟨S_, .f32⟩
  | 96 => ⟨S4x128x128x128, .i1⟩
  | 97 => ⟨S4x128x128x128, .f32⟩
  | 98 => ⟨S4x128x128x128, .f32⟩
  | 99 => ⟨S4x128x1, .f32⟩
  | 100 => ⟨S4x128x128, .f32⟩
  | 101 => ⟨S4x128x128, .f32⟩
  | 102 => ⟨S_, .f32⟩
  | 103 => ⟨S4x128x128, .f32⟩
  | 104 => ⟨S4x128x128, .f32⟩
  | 105 => ⟨S4x128x128x128, .f32⟩
  | 106 => ⟨S4x128x128x1, .f32⟩
  | 107 => ⟨S4x128x128x128, .f32⟩
  | 108 => ⟨S4x128x128x128, .f32⟩
  | 109 => ⟨S4x128x128x128, .f32⟩
  | 110 => ⟨S4x128x128x128, .f32⟩
  | 111 => ⟨S4x128x128, .f32⟩
  | 112 => ⟨S4x128x128, .f32⟩
  | 113 => ⟨S4x128x128x128, .f32⟩
  | 114 => ⟨S4x128x128x1, .f32⟩
  | 115 => ⟨S4x128x128x128, .f32⟩
  | 116 => ⟨S4x128x128x128, .f32⟩
  | 117 => ⟨S4x128x128x128, .f32⟩
  | 118 => ⟨S4x128x128x128, .f32⟩
  | 119 => ⟨S_, .f32⟩
  | 120 => ⟨S4x128x128, .f32⟩
  | 121 => ⟨S4x128x128, .f32⟩
  | 122 => ⟨S4x128x128, .f32⟩
  | 123 => ⟨S4x128x128, .f32⟩
  | 124 => ⟨S4x128x128, .f32⟩
  | 125 => ⟨S4x128x128, .f32⟩
  | 126 => ⟨S4x128x128, .f32⟩
  | 127 => ⟨S4x128x128, .f32⟩
  | _ => ⟨S16384x5376, .f32⟩

abbrev hbmTy0_2 (i : Nat) : BufTy := match i % 128 with
  | 0 => ⟨S4x128x128x1, .f32⟩
  | 1 => ⟨S4x128x128x128, .f32⟩
  | 2 => ⟨S4x128x128x128, .f32⟩
  | 3 => ⟨S128x128x4x128, .f32⟩
  | 4 => ⟨S16384x4x128, .f32⟩
  | 5 => ⟨S16384x4x128, .f32⟩
  | 6 => ⟨S_, .f32⟩
  | 7 => ⟨S16384x4, .f32⟩
  | 8 => ⟨S16384x4x1, .f32⟩
  | 9 => ⟨S_, .f32⟩
  | 10 => ⟨S16384x4x1, .f32⟩
  | 11 => ⟨S16384x4x1, .f32⟩
  | 12 => ⟨S_, .f32⟩
  | 13 => ⟨S16384x4x1, .f32⟩
  | 14 => ⟨S16384x4x1, .f32⟩
  | 15 => ⟨S16384x4x1, .f32⟩
  | 16 => ⟨S16384x4x128, .f32⟩
  | 17 => ⟨S16384x4x128, .f32⟩
  | 18 => ⟨S1x4x128, .f32⟩
  | 19 => ⟨S16384x4x128, .f32⟩
  | 20 => ⟨S16384x4x128, .f32⟩
  | 21 => ⟨S16384x512, .f32⟩
  | 22 => ⟨S16384x512, .f32⟩
  | 23 => ⟨S_, .f32⟩
  | 24 => ⟨S16384x512, .f32⟩
  | 25 => ⟨S16384x512, .f32⟩
  | 26 => ⟨S_, .f32⟩
  | 27 => ⟨S16384x512, .f32⟩
  | 28 => ⟨S16384x512, .f32⟩
  | 29 => ⟨S16384x4x128, .f32⟩
  | 30 => ⟨S16384x4x128, .f32⟩
  | 31 => ⟨S16384x512, .f32⟩
  | 32 => ⟨S16384x512, .bf16⟩
  | _ => ⟨S16384x5376, .f32⟩

abbrev hbmTy (i : Nat) : BufTy := match i / 128 with
  | 0 => hbmTy0_0 i
  | 1 => hbmTy0_1 i
  | 2 => hbmTy0_2 i
  | _ => ⟨S16384x5376, .f32⟩

abbrev bufTy : (tb : Table) → Fin (tcTables nBuf tb) → BufTy
  | .hbm, ⟨i, _⟩ => hbmTy i
  | _, _ => ⟨S16384x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_0 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_call2_v0 : Ref sig .tc := ⟨.hbm, 80, rfl⟩
abbrev main_call2_call0_cst : Ref sig .tc := ⟨.hbm, 81, rfl⟩
abbrev main_call2_call0_v0 : Ref sig .tc := ⟨.hbm, 82, rfl⟩
abbrev main_call2_call0_v1 : Ref sig .tc := ⟨.hbm, 83, rfl⟩
abbrev main_call2_call0_v2 : Ref sig .tc := ⟨.hbm, 84, rfl⟩
abbrev main_call2_call0_v3 : Ref sig .tc := ⟨.hbm, 85, rfl⟩
abbrev main_call2_call0_v4 : Ref sig .tc := ⟨.hbm, 86, rfl⟩
abbrev main_call2_call0_v5 : Ref sig .tc := ⟨.hbm, 87, rfl⟩
abbrev main_call2_call0_v6 : Ref sig .tc := ⟨.hbm, 88, rfl⟩
abbrev main_call2_call0_v7 : Ref sig .tc := ⟨.hbm, 89, rfl⟩
abbrev main_call2_call0_v8 : Ref sig .tc := ⟨.hbm, 90, rfl⟩
abbrev main_call2_call0_v9 : Ref sig .tc := ⟨.hbm, 91, rfl⟩
abbrev main_call2_call0_v10 : Ref sig .tc := ⟨.hbm, 92, rfl⟩
abbrev main_call2_call0_v11 : Ref sig .tc := ⟨.hbm, 93, rfl⟩
abbrev main_call2_v1 : Ref sig .tc := ⟨.hbm, 94, rfl⟩
abbrev main_v62 : Ref sig .tc := ⟨.hbm, 95, rfl⟩
abbrev main_call3_call0_cst : Ref sig .tc := ⟨.hbm, 96, rfl⟩
abbrev main_call3_call0_v0 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_1 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_2 : Ref sig .tc := ⟨.hbm, 118, rfl⟩
abbrev main_v82 : Ref sig .tc := ⟨.hbm, 119, rfl⟩
abbrev main_cst_3 : Ref sig .tc := ⟨.hbm, 120, rfl⟩
abbrev main_v83 : Ref sig .tc := ⟨.hbm, 121, rfl⟩
abbrev main_cst_4 : Ref sig .tc := ⟨.hbm, 122, rfl⟩
abbrev main_v84 : Ref sig .tc := ⟨.hbm, 123, rfl⟩
abbrev main_cst_5 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_6 : Ref sig .tc := ⟨.hbm, 130, rfl⟩
abbrev main_v90 : Ref sig .tc := ⟨.hbm, 131, rfl⟩
abbrev main_cst_7 : Ref sig .tc := ⟨.hbm, 132, rfl⟩
abbrev main_v91 : Ref sig .tc := ⟨.hbm, 133, rfl⟩
abbrev main_cst_8 : Ref sig .tc := ⟨.hbm, 134, rfl⟩
abbrev main_v92 : Ref sig .tc := ⟨.hbm, 135, rfl⟩
abbrev main_c_9 : Ref sig .tc := ⟨.hbm, 136, rfl⟩
abbrev main_v93_0 : Ref sig .tc := ⟨.hbm, 137, rfl⟩
abbrev main_v93_1 : Ref sig .tc := ⟨.hbm, 138, rfl⟩
abbrev main_v93_2 : Ref sig .tc := ⟨.hbm, 139, rfl⟩
abbrev main_v93_3 : Ref sig .tc := ⟨.hbm, 140, rfl⟩
abbrev main_v93_4 : Ref sig .tc := ⟨.hbm, 141, rfl⟩
abbrev main_v93_5 : Ref sig .tc := ⟨.hbm, 142, rfl⟩
abbrev main_v93_6 : Ref sig .tc := ⟨.hbm, 143, rfl⟩
abbrev main_v93_7 : Ref sig .tc := ⟨.hbm, 144, rfl⟩
abbrev main_v93_8 : Ref sig .tc := ⟨.hbm, 145, rfl⟩
abbrev main_v93_9 : Ref sig .tc := ⟨.hbm, 146, rfl⟩
abbrev main_v93_10 : Ref sig .tc := ⟨.hbm, 147, rfl⟩
abbrev main_while0c_c_29 : Ref sig .tc := ⟨.hbm, 148, rfl⟩
abbrev main_while0c_v163 : Ref sig .tc := ⟨.hbm, 149, rfl⟩
abbrev main_while0b_call4_c : Ref sig .tc := ⟨.hbm, 150, rfl⟩
abbrev main_while0b_call4_c_0 : Ref sig .tc := ⟨.hbm, 151, rfl⟩
abbrev main_while0b_call4_c_1 : Ref sig .tc := ⟨.hbm, 152, rfl⟩
abbrev main_while0b_call4_v0 : Ref sig .tc := ⟨.hbm, 153, rfl⟩
abbrev main_while0b_v163 : Ref sig .tc := ⟨.hbm, 154, rfl⟩
abbrev main_while0b_call5_c : Ref sig .tc := ⟨.hbm, 155, rfl⟩
abbrev main_while0b_call5_c_0 : Ref sig .tc := ⟨.hbm, 156, rfl⟩
abbrev main_while0b_call5_v0 : Ref sig .tc := ⟨.hbm, 157, rfl⟩
abbrev main_while0b_v164 : Ref sig .tc := ⟨.hbm, 158, rfl⟩
abbrev main_while0b_call6_c : Ref sig .tc := ⟨.hbm, 159, rfl⟩
abbrev main_while0b_call6_v0 : Ref sig .tc := ⟨.hbm, 160, rfl⟩
abbrev main_while0b_v165 : Ref sig .tc := ⟨.hbm, 161, rfl⟩
abbrev main_while0b_call7_c : Ref sig .tc := ⟨.hbm, 162, rfl⟩
abbrev main_while0b_call7_v0 : Ref sig .tc := ⟨.hbm, 163, rfl⟩
abbrev main_while0b_v166 : Ref sig .tc := ⟨.hbm, 164, rfl⟩
abbrev main_while0b_v167 : Ref sig .tc := ⟨.hbm, 165, rfl⟩
abbrev main_while0b_v168 : Ref sig .tc := ⟨.hbm, 166, rfl⟩
abbrev main_while0b_v169 : Ref sig .tc := ⟨.hbm, 167, rfl⟩
abbrev main_while0b_v170 : Ref sig .tc := ⟨.hbm, 168, rfl⟩
abbrev main_while0b_v171 : Ref sig .tc := ⟨.hbm, 169, rfl⟩
abbrev main_while0b_v172 : Ref sig .tc := ⟨.hbm, 170, rfl⟩
abbrev main_while0b_v173 : Ref sig .tc := ⟨.hbm, 171, rfl⟩
abbrev main_while0b_v174 : Ref sig .tc := ⟨.hbm, 172, rfl⟩
abbrev main_while0b_v175 : Ref sig .tc := ⟨.hbm, 173, rfl⟩
abbrev main_while0b_v176 : Ref sig .tc := ⟨.hbm, 174, rfl⟩
abbrev main_while0b_v177 : Ref sig .tc := ⟨.hbm, 175, rfl⟩
abbrev main_while0b_v178 : Ref sig .tc := ⟨.hbm, 176, rfl⟩
abbrev main_while0b_v179 : Ref sig .tc := ⟨.hbm, 177, rfl⟩
abbrev main_while0b_v180 : Ref sig .tc := ⟨.hbm, 178, rfl⟩
abbrev main_while0b_v181 : Ref sig .tc := ⟨.hbm, 179, rfl⟩
abbrev main_while0b_v182 : Ref sig .tc := ⟨.hbm, 180, rfl⟩
abbrev main_while0b_v183 : Ref sig .tc := ⟨.hbm, 181, rfl⟩
abbrev main_while0b_v184 : Ref sig .tc := ⟨.hbm, 182, rfl⟩
abbrev main_while0b_v185 : Ref sig .tc := ⟨.hbm, 183, rfl⟩
abbrev main_while0b_v186 : Ref sig .tc := ⟨.hbm, 184, rfl⟩
abbrev main_while0b_v187 : Ref sig .tc := ⟨.hbm, 185, rfl⟩
abbrev main_while0b_call8_v0 : Ref sig .tc := ⟨.hbm, 186, rfl⟩
abbrev main_while0b_call8_c : Ref sig .tc := ⟨.hbm, 187, rfl⟩
abbrev main_while0b_call8_c_0 : Ref sig .tc := ⟨.hbm, 188, rfl⟩
abbrev main_while0b_call8_c_1 : Ref sig .tc := ⟨.hbm, 189, rfl⟩
abbrev main_while0b_v188 : Ref sig .tc := ⟨.hbm, 190, rfl⟩
abbrev main_while0b_call9_v0 : Ref sig .tc := ⟨.hbm, 191, rfl⟩
abbrev main_while0b_call9_c : Ref sig .tc := ⟨.hbm, 192, rfl⟩
abbrev main_while0b_call9_c_0 : Ref sig .tc := ⟨.hbm, 193, rfl⟩
abbrev main_while0b_v189 : Ref sig .tc := ⟨.hbm, 194, rfl⟩
abbrev main_while0b_call10_v0 : Ref sig .tc := ⟨.hbm, 195, rfl⟩
abbrev main_while0b_call10_c : Ref sig .tc := ⟨.hbm, 196, rfl⟩
abbrev main_while0b_v190 : Ref sig .tc := ⟨.hbm, 197, rfl⟩
abbrev main_while0b_c_29 : Ref sig .tc := ⟨.hbm, 198, rfl⟩
abbrev main_while0b_v191 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_c_10 : Ref sig .tc := ⟨.hbm, 203, rfl⟩
abbrev main_v97 : Ref sig .tc := ⟨.hbm, 204, rfl⟩
abbrev main_call11_v0 : Ref sig .tc := ⟨.hbm, 205, rfl⟩
abbrev main_call11_c : Ref sig .tc := ⟨.hbm, 206, rfl⟩
abbrev main_call11_v1 : Ref sig .tc := ⟨.hbm, 207, rfl⟩
abbrev main_call11_v2 : Ref sig .tc := ⟨.hbm, 208, rfl⟩
abbrev main_call11_v3 : Ref sig .tc := ⟨.hbm, 209, rfl⟩
abbrev main_call11_v4 : Ref sig .tc := ⟨.hbm, 210, rfl⟩
abbrev main_call11_c_0 : Ref sig .tc := ⟨.hbm, 211, rfl⟩
abbrev main_call11_v5 : Ref sig .tc := ⟨.hbm, 212, rfl⟩
abbrev main_v98 : Ref sig .tc := ⟨.hbm, 213, rfl⟩
abbrev main_v99 : Ref sig .tc := ⟨.hbm, 214, rfl⟩
abbrev main_v100 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_cst_11 : Ref sig .tc := ⟨.hbm, 222, rfl⟩
abbrev main_call12_v0 : Ref sig .tc := ⟨.hbm, 223, rfl⟩
abbrev main_call12_v1 : Ref sig .tc := ⟨.hbm, 224, rfl⟩
abbrev main_call12_v2 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_cst_12 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_v116 : Ref sig .tc := ⟨.hbm, 236, rfl⟩
abbrev main_v117 : Ref sig .tc := ⟨.hbm, 237, rfl⟩
abbrev main_v118 : Ref sig .tc := ⟨.hbm, 238, rfl⟩
abbrev main_v119 : Ref sig .tc := ⟨.hbm, 239, rfl⟩
abbrev main_v120 : Ref sig .tc := ⟨.hbm, 240, rfl⟩
abbrev main_v121 : Ref sig .tc := ⟨.hbm, 241, rfl⟩
abbrev main_v122 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_cst_13 : Ref sig .tc := ⟨.hbm, 247, rfl⟩
abbrev main_v127 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_v132 : Ref sig .tc := ⟨.hbm, 253, rfl⟩
abbrev main_v133 : Ref sig .tc := ⟨.hbm, 254, rfl⟩
abbrev main_v134 : Ref sig .tc := ⟨.hbm, 255, rfl⟩
abbrev main_v135 : Ref sig .tc := ⟨.hbm, 256, rfl⟩
abbrev main_v136 : Ref sig .tc := ⟨.hbm, 257, rfl⟩
abbrev main_v137 : Ref sig .tc := ⟨.hbm, 258, rfl⟩
abbrev main_v138 : Ref sig .tc := ⟨.hbm, 259, rfl⟩
abbrev main_v139 : Ref sig .tc := ⟨.hbm, 260, rfl⟩
abbrev main_v140 : Ref sig .tc := ⟨.hbm, 261, rfl⟩
abbrev main_cst_14 : Ref sig .tc := ⟨.hbm, 262, rfl⟩
abbrev main_v141 : Ref sig .tc := ⟨.hbm, 263, rfl⟩
abbrev main_v142 : Ref sig .tc := ⟨.hbm, 264, rfl⟩
abbrev main_cst_15 : Ref sig .tc := ⟨.hbm, 265, rfl⟩
abbrev main_v143 : Ref sig .tc := ⟨.hbm, 266, rfl⟩
abbrev main_v144 : Ref sig .tc := ⟨.hbm, 267, rfl⟩
abbrev main_cst_16 : Ref sig .tc := ⟨.hbm, 268, rfl⟩
abbrev main_v145 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_v151 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_cst_17 : Ref sig .tc := ⟨.hbm, 279, rfl⟩
abbrev main_v155 : Ref sig .tc := ⟨.hbm, 280, rfl⟩
abbrev main_v156 : Ref sig .tc := ⟨.hbm, 281, rfl⟩
abbrev main_cst_18 : Ref sig .tc := ⟨.hbm, 282, rfl⟩
abbrev main_v157 : Ref sig .tc := ⟨.hbm, 283, rfl⟩
abbrev main_v158 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_v162 : Ref sig .tc := ⟨.hbm, 288, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16384x2048 : Shape := ⟨2, ![16384, 2048]⟩
abbrev S2048 : Shape := ⟨1, ![2048]⟩
abbrev S1x2048 : Shape := ⟨2, ![1, 2048]⟩
abbrev S2048x11008 : Shape := ⟨2, ![2048, 11008]⟩
abbrev S3x5504 : Shape := ⟨2, ![3, 5504]⟩
abbrev S5504 : Shape := ⟨1, ![5504]⟩
abbrev S5504x2048 : Shape := ⟨2, ![5504, 2048]⟩
abbrev S2048x5504 : Shape := ⟨2, ![2048, 5504]⟩
abbrev S_ : Shape := ⟨0, ![]⟩
abbrev S2048x128 : Shape := ⟨2, ![2048, 128]⟩
abbrev S2048x5632 : Shape := ⟨2, ![2048, 5632]⟩
abbrev S128x2048 : Shape := ⟨2, ![128, 2048]⟩
abbrev S5632x2048 : Shape := ⟨2, ![5632, 2048]⟩
abbrev S3x128 : Shape := ⟨2, ![3, 128]⟩
abbrev S3x5632 : Shape := ⟨2, ![3, 5632]⟩
abbrev S1x5504 : Shape := ⟨2, ![1, 5504]⟩
abbrev S1x128 : Shape := ⟨2, ![1, 128]⟩
abbrev S1x5632 : Shape := ⟨2, ![1, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S11x8x512 : Shape := ⟨3, ![11, 8, 512]⟩
abbrev S512 : Shape := ⟨1, ![512]⟩
abbrev S512x1 : Shape := ⟨2, ![512, 1]⟩
abbrev S8x512 : Shape := ⟨2, ![8, 512]⟩
abbrev S1x8x512 : Shape := ⟨3, ![1, 8, 512]⟩
abbrev S512x512 : Shape := ⟨2, ![512, 512]⟩

abbrev nBuf : Space → Nat
  | .hbm => 34
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x11008, .f32⟩
  | .hbm, ⟨5, _⟩ => ⟨S3x5504, .f32⟩
  | .hbm, ⟨6, _⟩ => ⟨S5504, .f32⟩
  | .hbm, ⟨7, _⟩ => ⟨S5504x2048, .f32⟩
  | .hbm, ⟨8, _⟩ => ⟨S2048, .f32⟩
  | .hbm, ⟨9, _⟩ => ⟨S1x2048, .f32⟩
  | .hbm, ⟨10, _⟩ => ⟨S2048x5504, .f32⟩
  | .hbm, ⟨11, _⟩ => ⟨S_, .f32⟩
  | .hbm, ⟨12, _⟩ => ⟨S2048x128, .f32⟩
  | .hbm, ⟨13, _⟩ => ⟨S2048x5632, .f32⟩
  | .hbm, ⟨14, _⟩ => ⟨S2048x5632, .bf16⟩
  | .hbm, ⟨15, _⟩ => ⟨S2048x5504, .f32⟩
  | .hbm, ⟨16, _⟩ => ⟨S_, .f32⟩
  | .hbm, ⟨17, _⟩ => ⟨S2048x128, .f32⟩
  | .hbm, ⟨18, _⟩ => ⟨S2048x5632, .f32⟩
  | .hbm, ⟨19, _⟩ => ⟨S2048x5632, .bf16⟩
  | .hbm, ⟨20, _⟩ => ⟨S_, .f32⟩
  | .hbm, ⟨21, _⟩ => ⟨S128x2048, .f32⟩
  | .hbm, ⟨22, _⟩ => ⟨S5632x2048, .f32⟩
  | .hbm, ⟨23, _⟩ => ⟨S5632x2048, .bf16⟩
  | .hbm, ⟨24, _⟩ => ⟨S1x2048, .f32⟩
  | .hbm, ⟨25, _⟩ => ⟨S_, .f32⟩
  | .hbm, ⟨26, _⟩ => ⟨S3x128, .f32⟩
  | .hbm, ⟨27, _⟩ => ⟨S3x5632, .f32⟩
  | .hbm, ⟨28, _⟩ => ⟨S1x5504, .f32⟩
  | .hbm, ⟨29, _⟩ => ⟨S_, .f32⟩
  | .hbm, ⟨30, _⟩ => ⟨S1x128, .f32⟩
  | .hbm, ⟨31, _⟩ => ⟨S1x5632, .f32⟩
  | .hbm, ⟨32, _⟩ => ⟨S1x2048, .f32⟩
  | .hbm, ⟨33, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .f32⟩
  | .local _ .vmem, ⟨21, _⟩ => ⟨S11x8x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v86 : Index := Scalar.indexCast arg1
  let c0_33 : Index := 0#32
  let c0_34 : Index := 0#32
  ![v86.toNat, 0, 0]
def k0_off2 (i : grid0.Coords) : Fin 3 → Nat :=
  let arg1 : BitVec 32 := BitVec.ofNat 32 (i 1).val
  let v13 : Index := Scalar.indexCast arg1
  let c0_9 : Index := 0#32
  let c0_10 : Index := 0#32
  ![v13.toNat, 0, 0]
def k0_cond3 (i : grid0.Coords) : BitVec 1 :=
  let arg1 : BitVec 32 := BitVec.ofNat 32 (i 1).val
  let c10_i32 : BitVec 32 := 10#32
  let v82 : BitVec 1 := Scalar.cmpi .eq arg1 c10_i32
  let v83 : BitVec 32 := Scalar.extui v82
  let c0_i32_31 : BitVec 32 := 0#32
  let v84 : BitVec 1 := Scalar.cmpi .ne v83 c0_i32_31
  v84

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S16384x2048 : Shape := ⟨2, ![16384, 2048]⟩
abbrev S2048 : Shape := ⟨1, ![2048]⟩
abbrev S1x2048 : Shape := ⟨2, ![1, 2048]⟩
abbrev S2048x11008 : Shape := ⟨2, ![2048, 11008]⟩
abbrev S3x5504 : Shape := ⟨2, ![3, 5504]⟩
abbrev S5504 : Shape := ⟨1, ![5504]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S16384x11008 : Shape := ⟨2, ![16384, 11008]⟩
abbrev S16384x5504 : Shape := ⟨2, ![16384, 5504]⟩
abbrev S16386x5504 : Shape := ⟨2, ![16386, 5504]⟩
abbrev S1x5504 : Shape := ⟨2, ![1, 5504]⟩

abbrev nBuf : Space → Nat
  | .hbm => 103
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x11008, .f32⟩
  | .hbm, ⟨5, _⟩ => ⟨S3x5504, .f32⟩
  | .hbm, ⟨6, _⟩ => ⟨S5504, .f32⟩
  | .hbm, ⟨7, _⟩ => ⟨S5504x2048, .f32⟩
  | .hbm, ⟨8, _⟩ => ⟨S2048, .f32⟩
  | .hbm, ⟨9, _⟩ => ⟨S1x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x11008, .f32⟩
  | .hbm, ⟨34, _⟩ => ⟨S16384x5504, .f32⟩
  | .hbm, ⟨35, _⟩ => ⟨S16384x5504, .f32⟩
  | .hbm, ⟨36, _⟩ => ⟨S_, .i32⟩
  | .hbm, ⟨37, _⟩ => ⟨S_, .f32⟩
  | .hbm, ⟨38, _⟩ => ⟨S16386x5504, .f32⟩
  | .hbm, ⟨39, _⟩ => ⟨S1x5504, .f32⟩
  | .hbm, ⟨40, _⟩ => ⟨S5504, .f32⟩
  | .hbm, ⟨41, _⟩ => ⟨S1x5504, .f32⟩
  | .hbm, ⟨42, _⟩ => ⟨S16384x5504, .f32⟩
  | .hbm, ⟨43, _⟩ => ⟨S16384x5504, .f32⟩
  | .hbm, ⟨44, _⟩ => ⟨S16384x5504, .f32⟩
  | .hbm, ⟨45, _⟩ => ⟨S_, .f32⟩
  | .hbm, ⟨46, _⟩ => ⟨S16384x5504, .f32⟩
  | .hbm, ⟨47, _⟩ => ⟨S16384x5504, .f32⟩
  | .hbm, ⟨48, _⟩ => ⟨S1x5504, .f32⟩
  | .hbm, ⟨49, _⟩ => ⟨S5504, .f32⟩
  | .hbm, ⟨50, _⟩ => ⟨S1x5504, .f32⟩
  | .hbm, ⟨51, _⟩ => ⟨S16384x5504, .f32⟩
  | .hbm, ⟨52, _⟩ => ⟨S16384x5504, .f32⟩
  | .hbm, ⟨53, _⟩ => ⟨S16384x5504, .f32⟩
  | .hbm, ⟨54, _⟩ => ⟨S16384x5504, .f32⟩
  | .hbm, ⟨55, _⟩ => ⟨S1x5504, .f32⟩
  | .hbm, ⟨56, _⟩ => ⟨S5504, .f32⟩
  | .hbm, ⟨57, _⟩ => ⟨S1x5504, .f32⟩
  | .hbm, ⟨58, _⟩ => ⟨S16384x5504, .f32⟩
  | .hbm, ⟨59, _⟩ => ⟨S16384x5504, .f32⟩
  | .hbm, ⟨60, _⟩ => ⟨S16384x5504, .f32⟩
  | .hbm, ⟨61, _⟩ => ⟨S16384x5504, .f32⟩
  | .hbm, ⟨62, _⟩ => ⟨S1x5504, .f32⟩
  | .hbm, ⟨63, _⟩ => ⟨S16384x5504, .f32⟩
  | .hbm, ⟨64, _⟩ => ⟨S16384x5504, .f32⟩
  | .hbm, ⟨65, _⟩ => ⟨S16384x5504, .f32⟩
  | .hbm, ⟨66, _⟩ => ⟨S16384x5504, .f32⟩
  | .hbm, ⟨67, _⟩ => ⟨S_, .f32⟩
  | .hbm, ⟨68, _⟩ => ⟨S16384x5504, .f32⟩
  | .hbm, ⟨69, _⟩ => ⟨S16384x5504, .f32⟩
  | .hbm, ⟨70, _⟩ => ⟨S16384x5504, .f32⟩
  | .hbm, ⟨71, _⟩ => ⟨S_, .f32⟩
  | .hbm, ⟨72, _⟩ => ⟨S16384x5504, .f32⟩
  | .hbm, ⟨73, _⟩ => ⟨S16384x5504, .f32⟩
  | .hbm, ⟨74, _⟩ => ⟨S16384x5504, .f32⟩
  | .hbm, ⟨75, _⟩ => ⟨S_, .f32⟩
  | .hbm, ⟨76, _⟩ => ⟨S16384x5504, .f32⟩
  | .hbm, ⟨77, _⟩ => ⟨S16384x5504, .f32⟩
  | .hbm, ⟨78, _⟩ => ⟨S_, .f32⟩
  | .hbm, ⟨79, _⟩ => ⟨S16384x5504, .f32⟩
  | .hbm, ⟨80, _⟩ => ⟨S16384x5504, .f32⟩
  | .hbm, ⟨81, _⟩ => ⟨S16384x5504, .f32⟩
  | .hbm, ⟨82, _⟩ => ⟨S16384x5504, .f32⟩
  | .hbm, ⟨83, _⟩ => ⟨S16384x2048, .f32⟩
  | .hbm, ⟨84, _⟩ => ⟨S16384x2048, .f32⟩
  | .hbm, ⟨85, _⟩ => ⟨S_, .f32⟩
  | .hbm, ⟨86, _⟩ => ⟨S16384, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S16384x1, .f32⟩
  | .hbm, ⟨95, _⟩ => ⟨S16384x2048, .f32⟩
  | .hbm, ⟨96, _⟩ => ⟨S16384x2048, .f32⟩
  | .hbm, ⟨97, _⟩ => ⟨S1x2048, .f32⟩
  | .hbm, ⟨98, _⟩ => ⟨S16384x2048, .f32⟩
  | .hbm, ⟨99, _⟩ => ⟨S16384x2048, .f32⟩
  | .hbm, ⟨100, _⟩ => ⟨S16384x2048, .f32⟩
  | .hbm, ⟨101, _⟩ => ⟨S16384x2048, .f32⟩
  | .hbm, ⟨102, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_4 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_8 : Ref sig .tc := ⟨.hbm, 85, rfl⟩
abbrev main_v64 : Ref sig .tc := ⟨.hbm, 86, rfl⟩
abbrev main_v65 : Ref sig .tc := ⟨.hbm, 87, rfl⟩
abbrev main_cst_9 : Ref sig .tc := ⟨.hbm, 88, rfl⟩
abbrev main_v66 : Ref sig .tc := ⟨.hbm, 89, rfl⟩
abbrev main_v67 : Ref sig .tc := ⟨.hbm, 90, rfl⟩
abbrev main_cst_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S1x2048 : Shape := ⟨2, ![1, 2048]⟩
abbrev S2048x5152 : Shape := ⟨2, ![2048, 5152]⟩
abbrev S2048x1024 : Shape := ⟨2, ![2048, 1024]⟩
abbrev S2048x512 : Shape := ⟨2, ![2048, 512]⟩
abbrev S2048x4 : Shape := ⟨2, ![2048, 4]⟩
abbrev S2048x1536 : Shape := ⟨2, ![2048, 1536]⟩
abbrev S2048x24 : Shape := ⟨2, ![2048, 24]⟩
abbrev S2048x32 : Shape := ⟨2, ![2048, 32]⟩
abbrev S_ : Shape := ⟨0, ![]⟩
abbrev S2048x224 : Shape := ⟨2, ![2048, 224]⟩
abbrev S2048x5376 : Shape := ⟨2, ![2048, 5376]⟩
abbrev S16384x5376 : Shape := ⟨2, ![16384, 5376]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 21
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x5152, .f32⟩
  | .hbm, ⟨5, _⟩ => ⟨S1x2048, .f32⟩
  | .hbm, ⟨6, _⟩ => ⟨S2048x1024, .f32⟩
  | .hbm, ⟨7, _⟩ => ⟨S2048x512, .f32⟩
  | .hbm, ⟨8, _⟩ => ⟨S2048x512, .f32⟩
  | .hbm, ⟨9, _⟩ => ⟨S2048x4, .f32⟩
  | .hbm, ⟨10, _⟩ => ⟨S2048x4, .f32⟩
  | .hbm, ⟨11, _⟩ => ⟨S2048x512, .f32⟩
  | .hbm, ⟨12, _⟩ => ⟨S2048x1024, .f32⟩
  | .hbm, ⟨13, _⟩ => ⟨S2048x1536, .f32⟩
  | .hbm, ⟨14, _⟩ => ⟨S2048x24, .f32⟩
  | .hbm, ⟨15, _⟩ => ⟨S2048x32, .f32⟩
  | .hbm, ⟨16, _⟩ => ⟨S_, .f32⟩
  | .hbm, ⟨17, _⟩ => ⟨S2048x224, .f32⟩
  | .hbm, ⟨18, _⟩ => ⟨S2048x5376, .f32⟩
  | .hbm, ⟨19, _⟩ => ⟨S2048x5376, .bf16⟩
  | .hbm, ⟨20, _⟩ => ⟨S16384x5376, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x768, .bf16⟩
  | .local _ .vmem, ⟨6, _⟩ => ⟨S2048x768, .bf16⟩
  | .local _ .vmem, ⟨7, _⟩ => ⟨S1024x768, .f32⟩
  | .local _ .vmem, ⟨8, _⟩ => ⟨S1024x768, .f32⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x2048 : Shape := ⟨2, ![16384, 2048]⟩
abbrev S2048 : Shape := ⟨1, ![2048]⟩
abbrev S1x2048 : Shape := ⟨2, ![1, 2048]⟩
abbrev S2048x5152 : Shape := ⟨2, ![2048, 5152]⟩
abbrev S_ : Shape := ⟨0, ![]⟩
abbrev S16384 : Shape := ⟨1, ![16384]⟩
abbrev S16384x1 : Shape := ⟨2, ![16384, 1]⟩
abbrev S16384x5152 : Shape := ⟨2, ![16384, 5152]⟩
abbrev S16384x1024 : Shape := ⟨2, ![16384, 1024]⟩
abbrev S16384x512 : Shape := ⟨2, ![16384, 512]⟩
abbrev S16384x1536 : Shape := ⟨2, ![16384, 1536]⟩
abbrev S16384x4 : Shape := ⟨2, ![16384, 4]⟩
abbrev S16384x24 : Shape := ⟨2, ![16384, 24]⟩
abbrev S16384x224 : Shape := ⟨2, ![16384, 224]⟩
abbrev S16384x5376 : Shape := ⟨2, ![16384, 5376]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S2048x5152, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x5152, .f32⟩
  | .hbm, ⟨29, _⟩ => ⟨S16384x1024, .f32⟩
  | .hbm, ⟨30, _⟩ => ⟨S16384x1024, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x1536, .f32⟩
  | .hbm, ⟨35, _⟩ => ⟨S16384x4, .f32⟩
  | .hbm, ⟨36, _⟩ => ⟨S16384x4, .f32⟩
  | .hbm, ⟨37, _⟩ => ⟨S16384x24, .f32⟩
  | .hbm, ⟨38, _⟩ => ⟨S_, .f32⟩
  | .hbm, ⟨39, _⟩ => ⟨S16384x224, .f32⟩
  | .hbm, ⟨40, _⟩ => ⟨S16384x5376, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel4.lean ====
abbrev S16384x512 : Shape := ⟨2, ![16384, 512]⟩
abbrev S4x16384x128 : Shape := ⟨3, ![4, 16384, 128]⟩
abbrev S16384x5376 : Shape := ⟨2, ![16384, 5376]⟩
abbrev S512 : Shape := ⟨1, ![512]⟩
abbrev S512x512 : Shape := ⟨2, ![512, 512]⟩
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S1x2048 : Shape := ⟨2, ![1, 2048]⟩
abbrev S1x512 : Shape := ⟨2, ![1, 512]⟩
abbrev S4x512x128 : Shape := ⟨3, ![4, 512, 128]⟩
abbrev S512x1024 : Shape := ⟨2, ![512, 1024]⟩
abbrev S512x2048 : Shape := ⟨2, ![512, 2048]⟩
abbrev S1x512x128 : Shape := ⟨3, ![1, 512, 128]⟩
abbrev S512x128 : Shape := ⟨2, ![512, 128]⟩
abbrev S1024x2048 : Shape := ⟨2, ![1024, 2048]⟩
abbrev S512x1 : Shape := ⟨2, ![512, 1]⟩

abbrev nBuf : Space → Nat
  | .hbm => 17
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S4x16384x128, .f32⟩
  | .hbm, ⟨2, _⟩ => ⟨S16384x5376, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S16384x1024, .bf16⟩
  | .hbm, ⟨7, _⟩ => ⟨S2048x2048, .f32⟩
  | .hbm, ⟨8, _⟩ => ⟨S16384x2048, .f32⟩
  | .hbm, ⟨9, _⟩ => ⟨S2048, .f32⟩
  | .hbm, ⟨10, _⟩ => ⟨S1x2048, .f32⟩
  | .hbm, ⟨11, _⟩ => ⟨S1x512, .f32⟩
  | .hbm, ⟨12, _⟩ => ⟨S512x512, .bf16⟩
  | .hbm, ⟨13, _⟩ => ⟨S1x512, .f32⟩
  | .hbm, ⟨14, _⟩ => ⟨S2048x2048, .bf16⟩
  | .hbm, ⟨15, _⟩ => ⟨S1x2048, .f32⟩
  | .hbm, ⟨16, _⟩ => ⟨S16384x2048, .f32⟩
  | .local _ .vmem, ⟨0, _⟩ => ⟨S512x512, .bf16⟩
  | .local _ .vmem, ⟨1, _⟩ => ⟨S512x512, .bf16⟩
  | .local _ .vmem, ⟨2, _⟩ => ⟨S4x512x128, .f32⟩
  | .local _ .vmem, ⟨3, _⟩ => ⟨S4x512x128, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S2048x2048, .bf16⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16384x512 : Shape := ⟨2, ![16384, 512]⟩
abbrev S4x16384x128 : Shape := ⟨3, ![4, 16384, 128]⟩
abbrev S16384x5376 : Shape := ⟨2, ![16384, 5376]⟩
abbrev S512 : Shape := ⟨1, ![512]⟩
abbrev S512x512 : Shape := ⟨2, ![512, 512]⟩
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S1x2048 : Shape := ⟨2, ![1, 2048]⟩
abbrev S16384x4x128 : Shape := ⟨3, ![16384, 4, 128]⟩
abbrev S1x512 : Shape := ⟨2, ![1, 512]⟩
abbrev S_ : Shape := ⟨0, ![]⟩
abbrev S16384 : Shape := ⟨1, ![16384]⟩
abbrev S16384x1 : Shape := ⟨2, ![16384, 1]⟩

abbrev nBuf : Space → Nat
  | .hbm => 71
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S4x16384x128, .f32⟩
  | .hbm, ⟨2, _⟩ => ⟨S16384x5376, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S16384x1024, .bf16⟩
  | .hbm, ⟨7, _⟩ => ⟨S2048x2048, .f32⟩
  | .hbm, ⟨8, _⟩ => ⟨S16384x2048, .f32⟩
  | .hbm, ⟨9, _⟩ => ⟨S2048, .f32⟩
  | .hbm, ⟨10, _⟩ => ⟨S1x2048, .f32⟩
  | .hbm, ⟨11, _⟩ => ⟨S16384x4x128, .f32⟩
  | .hbm, ⟨12, _⟩ => ⟨S16384x512, .f32⟩
  | .hbm, ⟨13, _⟩ => ⟨S16384x512, .f32⟩
  | .hbm, ⟨14, _⟩ => ⟨S1x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S1x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x1024, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x2048, .f32⟩
  | .hbm, ⟨64, _⟩ => ⟨S16384x2048, .f32⟩
  | .hbm, ⟨65, _⟩ => ⟨S1x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel5.lean ====
abbrev S2x1024x2048 : Shape := ⟨3, ![2, 1024, 2048]⟩
abbrev S32x128 : Shape := ⟨2, ![32, 128]⟩
abbrev S4096x128 : Shape := ⟨2, ![4096, 128]⟩
abbrev S128x128 : Shape := ⟨2, ![128, 128]⟩
abbrev S16x128 : Shape := ⟨2, ![16, 128]⟩
abbrev S1x2048 : Shape := ⟨2, ![1, 2048]⟩
abbrev S2048x128 : Shape := ⟨2, ![2048, 128]⟩
abbrev S2x1024x128 : Shape := ⟨3, ![2, 1024, 128]⟩
abbrev S1x1024x2048 : Shape := ⟨3, ![1, 1024, 2048]⟩
abbrev S1x1024x128 : Shape := ⟨3, ![1, 1024, 128]⟩
abbrev S1024x2048 : Shape := ⟨2, ![1024, 2048]⟩
abbrev S1024x128 : Shape := ⟨2, ![1024, 128]⟩

abbrev nBuf : Space → Nat
  | .hbm => 14
  | .vmem => 9
  | .smem => 0
  | _ => 0

abbrev bufTy : (tb : Table) → Fin (tcTables nBuf tb) → BufTy
  | .hbm, ⟨0, _⟩ => ⟨S2x1024x2048, .f32⟩
  | .hbm, ⟨1, _⟩ => ⟨S32x128, .f32⟩
  | .hbm, ⟨2, _⟩ => ⟨S4096x128, .f32⟩
  | .hbm, ⟨3, _⟩ => ⟨S128x128, .f32⟩
  | .hbm, ⟨4, _⟩ => ⟨S16x128, .f32⟩
  | .hbm, ⟨5, _⟩ => ⟨S1x2048, .f32⟩
  | .hbm, ⟨6, _⟩ => ⟨S16x128, .f32⟩
  | .hbm, ⟨7, _⟩ => ⟨S1x2048, .f32⟩
  | .hbm, ⟨8, _⟩ => ⟨S2048x128, .f32⟩
  | .hbm, ⟨9, _⟩ => ⟨S2048x128, .bf16⟩
  | .hbm, ⟨10, _⟩ => ⟨S2048x128, .f32⟩
  | .hbm, ⟨11, _⟩ => ⟨S2048x128, .bf16⟩
  | .hbm, ⟨12, _⟩ => ⟨S128x128, .bf16⟩
  | .hbm, ⟨13, _⟩ => ⟨S2x1024x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x2048, .f32⟩
  | .local _ .vmem, ⟨4, _⟩ => ⟨S2048x128, .bf16⟩
  | .local _ .vmem, ⟨5, _⟩ => ⟨S2048x128, .bf16⟩
  | .local _ .vmem, ⟨6, _⟩ => ⟨S128x128, .bf16⟩
  | .local _ .vmem, ⟨7, _⟩ => ⟨S1x1024x128, .f32⟩
  | .local _ .vmem, ⟨8, _⟩ => ⟨S1x1024x128, .f32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S2x1024x2048 : Shape := ⟨3, ![2, 1024, 2048]⟩
abbrev S32x128 : Shape := ⟨2, ![32, 128]⟩
abbrev S4096x128 : Shape := ⟨2, ![4096, 128]⟩
abbrev S128x128 : Shape := ⟨2, ![128, 128]⟩
abbrev S2x1024x16x128 : Shape := ⟨4, ![2, 1024, 16, 128]⟩
abbrev S2x1023x16x128 : Shape := ⟨4, ![2, 1023, 16, 128]⟩
abbrev S2x1x16x128 : Shape := ⟨4, ![2, 1, 16, 128]⟩
abbrev S2x1024x32x128 : Shape := ⟨4, ![2, 1024, 32, 128]⟩
abbrev S1x1x32x128 : Shape := ⟨4, ![1, 1, 32, 128]⟩
abbrev S2x1024x4096 : Shape := ⟨3, ![2, 1024, 4096]⟩
abbrev S2x1024x128 : Shape := ⟨3, ![2, 1024, 128]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S32x128, .f32⟩
  | .hbm, ⟨2, _⟩ => ⟨S4096x128, .f32⟩
  | .hbm, ⟨3, _⟩ => ⟨S128x128, .f32⟩
  | .hbm, ⟨4, _⟩ => ⟨S2x1024x16x128, .f32⟩
  | .hbm, ⟨5, _⟩ => ⟨S2x1023x16x128, .f32⟩
  | .hbm, ⟨6, _⟩ => ⟨S2x1x16x128, .f32⟩
  | .hbm, ⟨7, _⟩ => ⟨S2x1024x16x128, .f32⟩
  | .hbm, ⟨8, _⟩ => ⟨S2x1024x32x128, .f32⟩
  | .hbm, ⟨9, _⟩ => ⟨S1x1x32x128, .f32⟩
  | .hbm, ⟨10, _⟩ => ⟨S2x1024x32x128, .f32⟩
  | .hbm, ⟨11, _⟩ => ⟨S2x1024x32x128, .f32⟩
  | .hbm, ⟨12, _⟩ => ⟨S2x1024x4096, .f32⟩
  | .hbm, ⟨13, _⟩ => ⟨S2x1024x128, .f32⟩
  | .hbm, ⟨14, _⟩ => ⟨S2x1024x128, .f32⟩
  | .hbm, ⟨15, _⟩ => ⟨S2x1024x128, .f32⟩
  | .hbm, ⟨16, _⟩ => ⟨S_, .f32⟩
  | .hbm, ⟨17, _⟩ => ⟨S2x1024x128, .f32⟩
  | .hbm, ⟨18, _⟩ => ⟨S2x1024x128, .f32⟩
  | .hbm, ⟨19, _⟩ => ⟨S2x1024x128, .f32⟩
  | .hbm, ⟨20, _⟩ => ⟨S_, .f32⟩
  | .hbm, ⟨21, _⟩ => ⟨S2x1024x128, .f32⟩
  | .hbm, ⟨22, _⟩ => ⟨S2x1024x128, .f32⟩
  | .hbm, ⟨23, _⟩ => ⟨S2x1024x128, .f32⟩
  | .hbm, ⟨24, _⟩ => ⟨S_, .f32⟩
  | .hbm, ⟨25, _⟩ => ⟨S2x1024x128, .f32⟩
  | .hbm, ⟨26, _⟩ => ⟨S2x1024x128, .f32⟩
  | .hbm, ⟨27, _⟩ => ⟨S_, .f32⟩
  | .hbm, ⟨28, _⟩ => ⟨S2x1024x128, .f32⟩
  | .hbm, ⟨29, _⟩ => ⟨S2x1024x128, .f32⟩
  | .hbm, ⟨30, _⟩ => ⟨S2x1024x128, .f32⟩
  | .hbm, ⟨31, _⟩ => ⟨S2x1024x128, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Spec.lean ====
module

public import Idealize.ShloMosaic.Lib.Pointwise

/-! # The chunkwise mLSTM recurrence as scalar formulas

One head and one chunk of 128 rows is described by its query, key and value rows `q k v`, its input gates `i`, the
running sums `g` of its log forget gates, and the state `(C, n, m)` that the chunks before it left. `cnew`, `nnew`,
`mnew` are the state it leaves, `out` what it returns. `state` runs the chunks of one head from the zero state, over
the rows that `Q`, `K`, `V`, `I`, `G` read off the projection. Both programs are compared with these formulas. -/

@[expose] public noncomputable section
open Idealize.ShloMosaic

namespace Cert.Mlstm

/-- Minus infinity, as the programs write it. -/
def ninf : EReal := Ideal.ofBits .f32 0xFF800000#32

section Chunk
variable (q k v C : Fin 128 → Fin 128 → EReal) (n i g : Fin 128 → EReal) (m : EReal)
variable (o : Fin 128 → Fin 128 → EReal) (ng : Fin 128 → EReal)

/-- The largest log weight with which a row of the chunk enters the state. -/
def amax : EReal := Finset.fold max ninf (fun s => g 127 - g s + i s) Finset.univ
/-- The weight of row `s` in the chunk's own contribution to the state. -/
def wt (s : Fin 128) : EReal := Ideal.exp (g 127 - g s + i s - amax i g)
/-- The stabiliser after the chunk. -/
def mnew : EReal := max (g 127 + m) (amax i g)
/-- The matrix state after the chunk. -/
def cnew (d e : Fin 128) : EReal :=
  Ideal.exp (g 127 + m - mnew i g m) * C d e
    + Ideal.exp (amax i g - mnew i g m) * ∑ s, k s d * (wt i g s * v s e)
/-- The normaliser state after the chunk. -/
def nnew (d : Fin 128) : EReal :=
  Ideal.exp (g 127 + m - mnew i g m) * n d + Ideal.exp (amax i g - mnew i g m) * ∑ s, wt i g s * k s d
/-- The log decay from row `s` to row `t`, minus infinity above the diagonal. -/
def dlog (t s : Fin 128) : EReal :=
  Scalar.select (IntOp.cmpi CmpIPredicate.sge (BitVec.ofNat 32 t.val) (BitVec.ofNat 32 s.val)) (g t - g s + i s) ninf
/-- The stabiliser of row `t`. -/
def mt (t : Fin 128) : EReal := max (g t + m) (Finset.fold max ninf (fun s => dlog i g t s) Finset.univ)
/-- The weighted score of row `s` for row `t`. -/
def sw (t s : Fin 128) : EReal := (∑ d, q t d * k s d) * Ideal.exp (dlog i g t s - mt i g m t)
/-- The weight of the state for row `t`. -/
def inter (t : Fin 128) : EReal := Ideal.exp (g t + m - mt i g m t)
/-- The denominator of row `t`. -/
def den (t : Fin 128) : EReal := ∑ s, sw q k i g m t s + inter i g m t * ∑ d, q t d * n d
/-- The normalised read-out of row `t`. -/
def hh (t e : Fin 128) : EReal :=
  Ideal.div (∑ s, sw q k i g m t s * v s e + inter i g m t * ∑ d, q t d * C d e)
    (max (FloatOps.absf (F := Ideal) (φ := .f32) (den q k n i g m t)) (Ideal.exp (0 - mt i g m t)))
/-- The gated, normalised result of row `t`. -/
def out (t e : Fin 128) : EReal :=
  Ideal.logistic (o t e) * (hh q k v C n i g m t e
    * Ideal.rsqrt (Ideal.div (∑ x, hh q k v C n i g m t x * hh q k v C n i g m t x) (Ideal.ofBits .f32 0x43000000#32)
        + Ideal.ofBits .f32 0x358637BD#32) * ng e)
end Chunk

section Rows
variable (X : Fin 16384 → Fin 5376 → EReal) (W : Fin 4 → Fin 1024 → EReal) (B : Fin 1024 → EReal)
variable (ib fb : Fin 4 → EReal) (NG : Fin 4 → Fin 128 → EReal)

/-- Row `l` of chunk `c` in the whole sequence. -/
def row (c : ℕ) (l : Fin 128) : Fin 16384 := ⟨c % 128 * 128 + l.val, by omega⟩
/-- Entry `j` of the projection `d` rows before row `r`, zero before the sequence begins. -/
def back (d : ℕ) (r : Fin 16384) (j : Fin 1024) : EReal :=
  if d ≤ r.val then X ⟨r.val - d, by omega⟩ ⟨j.val, by omega⟩ else 0
/-- The causal convolution of width four. -/
def conv (r : Fin 16384) (j : Fin 1024) : EReal :=
  W 0 j * back X 3 r j + W 1 j * back X 2 r j + W 2 j * back X 1 r j + W 3 j * back X 0 r j + B j
/-- The convolved queries and keys after the SiLU. -/
def qk (r : Fin 16384) (j : Fin 1024) : EReal := conv X W B r j * Ideal.logistic (conv X W B r j)
/-- The queries of head `h`, chunk `c`. -/
def Q (h : Fin 4) (c : ℕ) (l d : Fin 128) : EReal := qk X W B (row c l) ⟨h.val * 128 + d.val, by omega⟩
/-- The scaled keys of head `h`, chunk `c`. -/
def K (h : Fin 4) (c : ℕ) (l d : Fin 128) : EReal :=
  qk X W B (row c l) ⟨512 + (h.val * 128 + d.val), by omega⟩ * Ideal.ofBits .f32 0x3DB504F3#32
/-- The values of head `h`, chunk `c`. -/
def V (h : Fin 4) (c : ℕ) (l d : Fin 128) : EReal := X (row c l) ⟨2048 + (h.val * 128 + d.val), by omega⟩
/-- The output gates of head `h`, chunk `c`, before the logistic function. -/
def O (h : Fin 4) (c : ℕ) (l d : Fin 128) : EReal := X (row c l) ⟨2560 + (h.val * 128 + d.val), by omega⟩
/-- The input gates of head `h`, chunk `c`. -/
def I (h : Fin 4) (c : ℕ) (l : Fin 128) : EReal := X (row c l) ⟨5120 + h.val, by omega⟩ + ib h
/-- The logarithm of the logistic function. -/
def logsig (x : EReal) : EReal :=
  min x 0 - Ideal.log1p (Ideal.exp (0 - FloatOps.absf (F := Ideal) (φ := .f32) x))
/-- The log forget gates of head `h`, chunk `c`. -/
def LF (h : Fin 4) (c : ℕ) (l : Fin 128) : EReal := logsig (X (row c l) ⟨5124 + h.val, by omega⟩ + fb h)
/-- The running sums of the log forget gates inside chunk `c`. -/
def G (h : Fin 4) (c : ℕ) (l : Fin 128) : EReal := ∑ s : Fin 128, if s.val ≤ l.val then LF X fb h c s else 0

/-- The state `(C, n, m)` of head `h` before chunk `c`. -/
def state (h : Fin 4) : ℕ → (Fin 128 → Fin 128 → EReal) × (Fin 128 → EReal) × EReal
  | 0 => (fun _ _ => 0, fun _ => 0, 0)
  | c + 1 =>
    (cnew (K X W B h c) (V X h c) (state h c).1 (I X ib h c) (G X fb h c) (state h c).2.2,
     nnew (K X W B h c) (state h c).2.1 (I X ib h c) (G X fb h c) (state h c).2.2,
     mnew (I X ib h c) (G X fb h c) (state h c).2.2)

/-- The result of head `h` at row `l` of chunk `c`. -/
def res (h : Fin 4) (c : ℕ) (l e : Fin 128) : EReal :=
  out (Q X W B h c) (K X W B h c) (V X h c) (state X W B ib fb h c).1 (state X W B ib fb h c).2.1 (I X ib h c)
    (G X fb h c) (state X W B ib fb h c).2.2 (O X h c) (NG h) l e
end Rows

/-- One doubling step of a running sum: the sum over the last `w` rows plus the sum over the `w` rows before them is
    the sum over the last `2 w` rows. -/
theorem window_double (f : Fin 128 → EReal) (w : ℕ) (t : Fin 128) :
    (∑ s : Fin 128, if s.val ≤ t.val ∧ t.val < s.val + w then f s else 0)
      + (if w ≤ t.val then ∑ s : Fin 128, (if s.val ≤ t.val - w ∧ t.val - w < s.val + w then f s else 0) else 0)
    = ∑ s : Fin 128, if s.val ≤ t.val ∧ t.val < s.val + 2 * w then f s else 0 := by
  by_cases h : w ≤ t.val
  · rw [if_pos h, ← Finset.sum_add_distrib]
    refine Finset.sum_congr rfl fun s _ => ?_
    by_cases h1 : s.val ≤ t.val ∧ t.val < s.val + w
    · rw [if_pos h1, if_neg (by omega), if_pos (by omega), add_zero]
    · rw [if_neg h1, zero_add]
      exact if_congr (by omega) rfl rfl
  · rw [if_neg h, add_zero]
    exact Finset.sum_congr rfl fun s _ => if_congr (by omega) rfl rfl

end Cert.Mlstm
-- ==== Proof.Head.lean ====
module

public import proofs.«01_k».proof.Proof.Gen.KernelIdeal.Skeleton
public import Idealize.ShloMosaic.Lib.Pointwise
public import proofs.«01_k».proof.Proof.Spec
set_option maxRecDepth 16384
@[expose] public noncomputable section
open Idealize.ShloMosaic Idealize.ShloMosaic.TcCoe Idealize.SL.Sem
namespace Cert.KernelIdeal.Rd
open Cert.KernelIdeal Cert.KernelIdeal.Gen

variable (q k v c : FVec Ideal S128x128 .f32) (n : FVec Ideal S1x128 .f32) (m : FVec Ideal S1x1 .f32)
variable (ic gc : FVec Ideal S128x1 .f32) (ir gr : FVec Ideal S1x128 .f32)
variable (o : FVec Ideal S128x128 .f32) (ng : FVec Ideal S1x128 .f32)

/-- The decay of the whole chunk. -/
def hGl : FVec Ideal S1x1 .f32 := extractStridedSlice S1x1 ![0, 127] gr slices_S1x128_o0_127_S1x1
/-- The largest weight's logarithm. -/
def hAmax : FVec Ideal S1x1 .f32 := k0_pay65 ir gr (hGl gr)
/-- The decays between the rows, as logarithms. -/
def hD : FVec Ideal S128x128 .f32 := k0_pay70 k0_pay20 gc ir gr
/-- The largest decay of each row. -/
def hDmax : FVec Ideal S128x1 .f32 := k0_pay74 k0_pay20 gc ir gr
/-- The queries against the normaliser. -/
def hQn : FVec Ideal S128x1 .f32 := k0_pay79 q (k0_pay78 n)
/-- The queries against the keys. -/
def hSqk : FVec Ideal S128x128 .f32 := k0_pay83 (k0_pay53 q) (k0_pay57 k)
/-- The queries against the state. -/
def hQc : FVec Ideal S128x128 .f32 := k0_pay87 c (k0_pay53 q)
/-- The keys' weights. -/
def hW : FVec Ideal S128x1 .f32 := k0_pay91 ic gc (hGl gr) (hAmax ir gr)
/-- The chunk's own addition to the state. -/
def hCloc : FVec Ideal S128x128 .f32 := k0_pay96 k v (hW ic gc ir gr)
/-- The chunk's own addition to the normaliser. -/
def hNloc : FVec Ideal S1x128 .f32 := k0_pay100 k (hW ic gc ir gr)
/-- The next stabiliser. -/
def hMnew : FVec Ideal S1x1 .f32 := k0_pay104 (hGl gr) m (hAmax ir gr)
/-- The next state. -/
def hCnew : FVec Ideal S1x128x128 .f32 :=
  k0_pay117 c (hAmax ir gr) (hCloc k v ic gc ir gr) (hMnew m ir gr) (k0_pay108 (hGl gr) m)
/-- The next normaliser. -/
def hNnew : FVec Ideal S1x128 .f32 :=
  k0_pay118 n (hAmax ir gr) (hNloc k ic gc ir gr) (hMnew m ir gr) (k0_pay108 (hGl gr) m)
/-- The next stabiliser along a row. -/
def hMrow : FVec Ideal S1x128 .f32 := k0_pay119 (hMnew m ir gr)
/-- The stabiliser of each row. -/
def hMt : FVec Ideal S128x1 .f32 := k0_pay135 gc m (hDmax gc ir gr)
/-- The weighted scores. -/
def hSw : FVec Ideal S128x128 .f32 := k0_pay139 gc m (hD gc ir gr) (hDmax gc ir gr) (hSqk q k)
/-- The weight of the state in each row. -/
def hInter : FVec Ideal S128x1 .f32 := k0_pay143 gc m (hDmax gc ir gr)
/-- The head's rows before the norm. -/
def hH : FVec Ideal S128x128 .f32 :=
  k0_pay151 (k0_pay61 v) (hQn q n) (hQc q c) (hMt m gc ir gr) (hSw q k m gc ir gr) (hInter m gc ir gr) (truncf .bf16 (hSw q k m gc ir gr) bitsLt_bf16_f32)
/-- The head's rows after norm and gate. -/
def hOut : FVec Ideal S128x128 .bf16 :=
  k0_pay160 (hH q k v c n m gc ir gr) (k0_pay159 (hH q k v c n m gc ir gr)) ng o

/-- The entries of a matrix, by row and column. -/
abbrev mat (x : FVec Ideal S128x128 .f32) : Fin 128 → Fin 128 → EReal := fun l d => x (ix2 l d)
/-- The entries of a one-row matrix. -/
abbrev vec (x : FVec Ideal S1x128 .f32) : Fin 128 → EReal := fun l => x (ix2 0 l)

/-- The largest weight's logarithm is the specification's. -/
theorem hAmax_at : hAmax ir gr (ix2 0 0) = Mlstm.amax (vec ir) (vec gr) := by
  pointwise [hAmax, k0_pay65, hGl, Mlstm.amax, Mlstm.ninf]
/-- The decays are the specification's. -/
theorem hD_at (hg : ∀ l : Fin 128, gc (ix2 l 0) = gr (ix2 0 l)) (t s : Fin 128) :
    hD gc ir gr (ix2 t s) = Mlstm.dlog (vec ir) (vec gr) t s := by
  pointwise [hD, k0_pay70, k0_pay20, Mlstm.dlog, Mlstm.ninf]
  rw [hg]
/-- The largest decay of a row. -/
theorem hDmax_at (hg : ∀ l : Fin 128, gc (ix2 l 0) = gr (ix2 0 l)) (t : Fin 128) :
    hDmax gc ir gr (ix2 t 0) = Finset.fold max Mlstm.ninf (fun s => Mlstm.dlog (vec ir) (vec gr) t s) Finset.univ := by
  have h : hDmax gc ir gr (ix2 t 0) = Finset.fold max Mlstm.ninf (fun s => hD gc ir gr (ix2 t s)) Finset.univ := by
    pointwise [hDmax, k0_pay74, hD, Mlstm.ninf]
  rw [h]; simp only [hD_at gc ir gr hg]
/-- The stabiliser of a row is the specification's. -/
theorem hMt_at (hg : ∀ l : Fin 128, gc (ix2 l 0) = gr (ix2 0 l)) (t : Fin 128) :
    hMt m gc ir gr (ix2 t 0) = Mlstm.mt (vec ir) (vec gr) (m (ix2 0 0)) t := by
  pointwise [hMt, k0_pay135, k0_pay131, Mlstm.mt]
  rw [hDmax_at gc ir gr hg, hg]
/-- The weight of the state is the specification's. -/
theorem hInter_at (hg : ∀ l : Fin 128, gc (ix2 l 0) = gr (ix2 0 l)) (t : Fin 128) :
    hInter m gc ir gr (ix2 t 0) = Mlstm.inter (vec ir) (vec gr) (m (ix2 0 0)) t := by
  have h : hInter m gc ir gr (ix2 t 0) = Ideal.exp (gc (ix2 t 0) + m (ix2 0 0) - hMt m gc ir gr (ix2 t 0)) := by
    pointwise [hInter, k0_pay143, hMt, k0_pay131]
  rw [h, hMt_at m gc ir gr hg, hg]; rfl
/-- The weighted scores are the specification's. -/
theorem hSw_at (hg : ∀ l : Fin 128, gc (ix2 l 0) = gr (ix2 0 l)) (t s : Fin 128) :
    hSw q k m gc ir gr (ix2 t s) = Mlstm.sw (mat q) (mat k) (vec ir) (vec gr) (m (ix2 0 0)) t s := by
  have h : hSw q k m gc ir gr (ix2 t s)
      = (∑ x, q (ix2 t x) * k (ix2 s x)) * Ideal.exp (hD gc ir gr (ix2 t s) - hMt m gc ir gr (ix2 t 0)) := by
    pointwise [hSw, k0_pay139, hMt, hSqk, k0_pay83, k0_pay53, k0_pay57]
  rw [h, hMt_at m gc ir gr hg, hD_at gc ir gr hg]; rfl
/-- The rows before the norm are the specification's. -/
theorem hH_at (hg : ∀ l : Fin 128, gc (ix2 l 0) = gr (ix2 0 l)) (t e : Fin 128) :
    hH q k v c n m gc ir gr (ix2 t e)
      = Mlstm.hh (mat q) (mat k) (mat v) (mat c) (vec n) (vec ir) (vec gr) (m (ix2 0 0)) t e := by
  pointwise [hH, k0_pay151, k0_pay61,hQn, k0_pay78,k0_pay79, hQc, k0_pay87, k0_pay53, Mlstm.hh, Mlstm.den]
  simp only [hSw_at q k m gc ir gr hg, hInter_at m gc ir gr hg, hMt_at m gc ir gr hg]
/-- The rows after norm and gate are the specification's. -/
theorem hOut_at (hg : ∀ l : Fin 128, gc (ix2 l 0) = gr (ix2 0 l)) (t e : Fin 128) :
    hOut q k v c n m gc ir gr o ng (ix2 t e)
      = Mlstm.out (mat q) (mat k) (mat v) (mat c) (vec n) (vec ir) (vec gr) (m (ix2 0 0)) (mat o) (vec ng) t e := by
  pointwise [hOut, k0_pay160, k0_pay159, Mlstm.out]
  simp only [hH_at q k v c n m gc ir gr hg]
/-- The next stabiliser is the specification's. -/
theorem hMnew_at : hMnew m ir gr (ix2 0 0) = Mlstm.mnew (vec ir) (vec gr) (m (ix2 0 0)) := by
  pointwise [hMnew, k0_pay104, hGl, Mlstm.mnew]
  rw [hAmax_at]
/-- The next stabiliser, in each place of its row. -/
theorem hMrow_at (d : Fin 128) : hMrow m ir gr (ix2 0 d) = Mlstm.mnew (vec ir) (vec gr) (m (ix2 0 0)) := by
  pointwise [hMrow, k0_pay119]
  exact hMnew_at m ir gr
/-- The keys' weights are the specification's. -/
theorem hW_at (hg : ∀ l : Fin 128, gc (ix2 l 0) = gr (ix2 0 l)) (hi : ∀ l : Fin 128, ic (ix2 l 0) = ir (ix2 0 l)) (s : Fin 128) :
    hW ic gc ir gr (ix2 s 0) = Mlstm.wt (vec ir) (vec gr) s := by
  pointwise [hW, k0_pay91, hGl, Mlstm.wt]
  rw [hAmax_at, hg, hi]
/-- The next state is the specification's. -/
theorem hCnew_at (hg : ∀ l : Fin 128, gc (ix2 l 0) = gr (ix2 0 l)) (hi : ∀ l : Fin 128, ic (ix2 l 0) = ir (ix2 0 l)) (d e : Fin 128) :
    hCnew k v c m ic gc ir gr (ix3 0 d e)
      = Mlstm.cnew (mat k) (mat v) (mat c) (vec ir) (vec gr) (m (ix2 0 0)) d e := by
  pointwise [hCnew, k0_pay117, k0_pay108, k0_pay109, k0_pay113, hCloc, k0_pay96, hGl, Mlstm.cnew]
  simp only [hAmax_at, hMnew_at, hW_at ic gc ir gr hg hi]
/-- The next normaliser is the specification's. -/
theorem hNnew_at (hg : ∀ l : Fin 128, gc (ix2 l 0) = gr (ix2 0 l)) (hi : ∀ l : Fin 128, ic (ix2 l 0) = ir (ix2 0 l)) (d : Fin 128) :
    hNnew k n m ic gc ir gr (ix2 0 d)
      = Mlstm.nnew (mat k) (vec n) (vec ir) (vec gr) (m (ix2 0 0)) d := by
  pointwise [hNnew, k0_pay118, k0_pay108, k0_pay109, k0_pay113, hNloc, k0_pay100, hGl, Mlstm.nnew]
  simp only [hAmax_at, hMnew_at, hW_at ic gc ir gr hg hi]
end Cert.KernelIdeal.Rd
-- ==== Proof.Gates.lean ====
module

public import proofs.«01_k».proof.Proof.Gen.KernelIdeal.Skeleton
public import Idealize.ShloMosaic.Lib.Pointwise
public import proofs.«01_k».proof.Proof.Spec
set_option maxRecDepth 16384
@[expose] public noncomputable section
open Idealize.ShloMosaic Idealize.ShloMosaic.TcCoe Idealize.SL.Sem
namespace Cert.KernelIdeal.Rd
open Cert.KernelIdeal Cert.KernelIdeal.Gen

/-- One doubling step of the running sum down the rows. -/
def dbl (w : ℕ) (x : FVec Ideal S128x128 .f32) : FVec Ideal S128x128 .f32 :=
  addf x (select (cmpi .sge (iota Kind.tc S128x128 32 [0] iota_S128x128_d0_w32) (broadcast S128x128 (BitVec.ofNat 32 w)))
    (dynamicRotate 0 (BitVec.ofNat 32 w) none x rotates_S128x128_d0) (broadcast S128x128 (Scalar.ofBits .f32 0x00000000#32)))

/-- A chunk's gates: the raw ones, and the running sums of the forget gate's logarithms. -/
def gates (x3 : Vec Ideal S128x128 .f32) (b : Vec Ideal S1x128 .f32) : FVec Ideal S128x128 .f32 :=
  k0_pay17 (k0_pay14 x3 b) (iota Kind.tc S128x128 32 [0] iota_S128x128_d0_w32) k0_pay15 (k0_pay16 x3 b)

/-- The generated term is seven doubling steps. -/
theorem gates_eq (x3 : Vec Ideal S128x128 .f32) (b : Vec Ideal S1x128 .f32) :
    gates x3 b = dbl 64 (dbl 32 (dbl 16 (dbl 8 (dbl 4 (dbl 2 (dbl 1 (k0_pay14 x3 b))))))) := rfl

/-- The logarithm of the forget gate, entry by entry. -/
theorem pay14_at (x3 : Vec Ideal S128x128 .f32) (b : Vec Ideal S1x128 .f32) (l d : Fin 128) :
   k0_pay14 x3 b (ix2 l d) = Mlstm.logsig ((x3 : FVec Ideal S128x128 .f32) (ix2 l d) + (b : FVec Ideal S1x128 .f32) (ix2 0 d)) := by
  pointwise [k0_pay14, k0_pay13, Mlstm.logsig]

/-- Comparing row numbers as words compares them as numbers. -/
theorem cmp_sge : ∀ t w : Fin 128, IntOp.cmpi CmpIPredicate.sge (BitVec.ofNat 32 t.val) (BitVec.ofNat 32 w.val)
    = if w.val ≤ t.val then 1#1 else 0#1 := by decide +kernel
/-- Equality of row numbers as words is their equality. -/
theorem cmp_eq : ∀ t w : Fin 128, IntOp.cmpi CmpIPredicate.eq (BitVec.ofNat 32 t.val) (BitVec.ofNat 32 w.val)
    = if t.val = w.val then 1#1 else 0#1 := by decide +kernel

/-- A choice by the order of two row numbers. -/
theorem sel_sge (t : Fin 128) (w : ℕ) (hw : w < 128) (a b : EReal) :
    Scalar.select (IntOp.cmpi CmpIPredicate.sge (BitVec.ofNat 32 t.val) (BitVec.ofNat 32 w)) a b
      = if w ≤ t.val then a else b := by
  rw [cmp_sge t ⟨w, hw⟩]
  by_cases h : w ≤ t.val
  · rw [if_pos h, if_pos h]; rfl
  · rw [if_neg h, if_neg h]; rfl
/-- A choice by the equality of two row numbers. -/
theorem sel_eq (t : Fin 128) (w : ℕ) (hw : w < 128) (a b : EReal) :
    Scalar.select (IntOp.cmpi CmpIPredicate.eq (BitVec.ofNat 32 t.val) (BitVec.ofNat 32 w)) a b
      = if t.val = w then a else b := by
  rw [cmp_eq t ⟨w, hw⟩]
  by_cases h : t.val = w
  · rw [if_pos h, if_pos h]; rfl
  · rw [if_neg h, if_neg h]; rfl

/-- The rows `s` of the last `w` up to row `t`. -/
def win (f : Fin 128 → EReal) (w : ℕ) (t : ℕ) : EReal :=
  ∑ s : Fin 128, if s.val ≤ t ∧ t < s.val + w then f s else 0

/-- A doubling step doubles the length of the window summed. -/
theorem dbl_at (w : ℕ) (hw : 1 ≤ w ∧ w < 128) (x : FVec Ideal S128x128 .f32) (f : Fin 128 → EReal) (l : Fin 128)
    (hx : ∀ t : Fin 128, x (ix2 t l) = win f w t) (t : Fin 128) : dbl w x (ix2 t l) = win f (2 * w) t := by
  pointwise [dbl]
  have e : (BitVec.ofNat 32 w).toNat % 128 = w := by rw [BitVec.toNat_ofNat]; omega
  have hd := Mlstm.window_double f w t
  rw [sel_sge t w hw.2, hx, hx]
  refine Eq.trans (congrArg _ ?_) hd
  by_cases h : w ≤ t.val
  · rw [if_pos h, if_pos h]
    have e2 : (t.val + 128 - (BitVec.ofNat 32 w).toNat % 128) % 128 = t.val - w := by rw [e]; omega
    simp only [e2, win]
  · rw [if_neg h, if_neg h]

/-- The sums of the log forget gates, from one row to 128. -/
theorem gates_at (x3 : Vec Ideal S128x128 .f32) (b : Vec Ideal S1x128 .f32) (f : Fin 128 → EReal) (l : Fin 128)
    (hx : ∀ t : Fin 128, k0_pay14 x3 b (ix2 t l) = f t) (t : Fin 128) :
    gates x3 b (ix2 t l) = ∑ s : Fin 128, if s.val ≤ t.val then f s else 0 := by
  have h0 : ∀ t : Fin 128, k0_pay14 x3 b (ix2 t l) = win f 1 t := fun t => by
    rw [hx, win, Finset.sum_eq_single t]
    · rw [if_pos (by omega)]
    · intro s _ hs
      have : s.val ≠ t.val := fun h => hs (Fin.ext h)
      rw [if_neg (by omega)]
    · exact fun h => absurd (Finset.mem_univ t) h
  have h7 := dbl_at 64 (by omega) _ f l <| dbl_at 32 (by omega) _ f l <| dbl_at 16 (by omega) _ f l <|
    dbl_at 8 (by omega) _ f l <| dbl_at 4 (by omega) _ f l <| dbl_at 2 (by omega) _ f l <|
    dbl_at 1 (by omega) _ f l h0
  rw [gates_eq]
  refine (h7 t).trans ?_
  exact Finset.sum_congr rfl fun s _ => if_congr (by omega) rfl rfl

section Conv
variable (X : Fin 16384 → Fin 5376 → EReal) (c : ℕ)
/-- An earlier row of the first rows of a chunk is counted from the chunk's first row. -/
theorem back_head (d : ℕ) (l : Fin 128) (j : Fin 1024) (h : l.val < d) :
    Mlstm.back X d (Mlstm.row c l) j = Mlstm.back X (d - l.val) (Mlstm.row c 0) j := by
  unfold Mlstm.back Mlstm.row
  by_cases h1 : d ≤ c % 128 * 128 + l.val
  · rw [if_pos h1, if_pos (by simp only [Fin.val_zero]; omega)]
    congr 1; apply Fin.ext; simp only [Fin.val_zero]; omega
  · rw [if_neg h1, if_neg (by simp only [Fin.val_zero]; omega)]
/-- An earlier row within the chunk is that row of the chunk. -/
theorem back_tail (d : ℕ) (l : Fin 128) (j : Fin 1024) (h : d ≤ l.val) :
    Mlstm.back X d (Mlstm.row c l) j = X (Mlstm.row c ⟨l.val - d, by omega⟩) ⟨j.val, by omega⟩ := by
  unfold Mlstm.back Mlstm.row
  rw [if_pos (by simp only; omega)]
  congr 1; apply Fin.ext; simp only; omega
/-- An earlier row of the next chunk's first row is one of this chunk's last rows. -/
theorem back_next (hc : c + 1 < 128) (d : ℕ) (hd : 1 ≤ d ∧ d ≤ 128) (j : Fin 1024) :
    Mlstm.back X d (Mlstm.row (c + 1) 0) j = X (Mlstm.row c ⟨128 - d, by omega⟩) ⟨j.val, by omega⟩ := by
  unfold Mlstm.back Mlstm.row
  rw [if_pos (by simp only [Fin.val_zero]; omega)]
  congr 1; apply Fin.ext; simp only [Fin.val_zero]; omega
/-- Before the first row there are zeros. -/
theorem back_start (d : ℕ) (hd : 1 ≤ d) (j : Fin 1024) : Mlstm.back X d (Mlstm.row 0 0) j = 0 := by
  unfold Mlstm.back Mlstm.row
  rw [if_neg (by simp only [Fin.val_zero]; omega)]

variable (x0 : Vec Ideal S128x1024 .f32) (s0 : Vec Ideal S8x1024 .f32) (w : Vec Ideal S4x1024 .f32) (b : Vec Ideal S1x1024 .f32)
/-- The convolved queries and keys of a chunk after the SiLU. -/
def qkv : FVec Ideal S128x1024 .f32 :=
  k0_pay12 s0 (iota Kind.tc S128x1024 32 [0] iota_S128x1024_d0_w32) (k0_pay6 x0 s0 w) (k0_pay7 w) (k0_pay8 x0) k0_pay9 (k0_pay10 s0) b
/-- The convolved queries and keys are those of the specification. -/
theorem qkv_at (W : Fin 4 → Fin 1024 → EReal) (B : Fin 1024 → EReal)
    (hx : ∀ (l : Fin 128) (j : Fin 1024), (x0 : FVec Ideal S128x1024 .f32) (ix2 l j) = X (Mlstm.row c l) ⟨j.val, by omega⟩)
    (hs : ∀ (d : ℕ) (hd : 1 ≤ d ∧ d ≤ 3) (j : Fin 1024), (s0 : FVec Ideal S8x1024 .f32) (ix2 ⟨8 - d, by omega⟩ j) = Mlstm.back X d (Mlstm.row c 0) j)
    (hw : ∀ (a : Fin 4) (j : Fin 1024), (w : FVec Ideal S4x1024 .f32) (ix2 a j) = W a j)
    (hb : ∀ j : Fin 1024, (b : FVec Ideal S1x1024 .f32) (ix2 0 j) = B j) (l : Fin 128) (j : Fin 1024) :
    qkv x0 s0 w b (ix2 l j) = Mlstm.qk X W B (Mlstm.row c l) j := by
  have r0 : Mlstm.back X 0 (Mlstm.row c l) j = X (Mlstm.row c l) ⟨j.val, by omega⟩ := back_tail X c 0 l j (by omega)
  have s7 : (s0 : FVec Ideal S8x1024 .f32) (ix2 7 j) = Mlstm.back X 1 (Mlstm.row c 0) j := hs 1 (by omega) j
  have s6 : (s0 : FVec Ideal S8x1024 .f32) (ix2 6 j) = Mlstm.back X 2 (Mlstm.row c 0) j := hs 2 (by omega) j
  have s5 : (s0 : FVec Ideal S8x1024 .f32) (ix2 5 j) = Mlstm.back X 3 (Mlstm.row c 0) j := hs 3 (by omega) j
  have e : ∀ (d : ℕ) (h : 1 ≤ d ∧ d ≤ 3) (pf : (l.val + 128 - d) % 128 < 128), d ≤ l.val →
      X (Mlstm.row c ⟨(l.val + 128 - d) % 128, pf⟩) ⟨j.val, by omega⟩ = Mlstm.back X d (Mlstm.row c l) j := fun d h pf hl => by
    rw [back_tail X c d l j hl]
    congr 2; apply Fin.ext; simp only; omega
  have hr : qkv x0 s0 w b (ix2 l j) = (W 3 j * Mlstm.back X 0 (Mlstm.row c l) j + W 2 j * Mlstm.back X 1 (Mlstm.row c l) j
      + W 1 j * Mlstm.back X 2 (Mlstm.row c l) j + W 0 j * Mlstm.back X 3 (Mlstm.row c l) j + B j)
      * Ideal.logistic (W 3 j * Mlstm.back X 0 (Mlstm.row c l) j + W 2 j * Mlstm.back X 1 (Mlstm.row c l) j
      + W 1 j * Mlstm.back X 2 (Mlstm.row c l) j + W 0 j * Mlstm.back X 3 (Mlstm.row c l) j + B j) := by
    pointwise [qkv, k0_pay12, k0_pay6, k0_pay7,k0_pay8,k0_pay9,k0_pay10]
    simp only [sel_eq l 0 (by omega), sel_eq l 1 (by omega), sel_eq l 2 (by omega), s7, s6, s5, hw, hb, hx, r0]
    have k1 : ∀ pf, (if l.val = 0 then Mlstm.back X 1 (Mlstm.row c 0) j else X (Mlstm.row c ⟨(l.val + 128 - 1) % 128, pf⟩) ⟨j.val, by omega⟩)
        = Mlstm.back X 1 (Mlstm.row c l) j := fun pf => by
      by_cases h : l.val = 0
      · rw [if_pos h, back_head X c 1 l j (by omega), h]
      · rw [if_neg h, e 1 (by omega) pf (by omega)]
    have k2 : ∀ pf, (if l.val = 1 then Mlstm.back X 1 (Mlstm.row c 0) j else if l.val = 0 then Mlstm.back X 2 (Mlstm.row c 0) j else X (Mlstm.row c ⟨(l.val + 128 - 2) % 128, pf⟩) ⟨j.val, by omega⟩)
        = Mlstm.back X 2 (Mlstm.row c l) j := fun pf => by
      by_cases h1 : l.val = 1
      · rw [if_pos h1, back_head X c 2 l j (by omega), h1]
      by_cases h : l.val = 0
      · rw [if_neg h1, if_pos h, back_head X c 2 l j (by omega), h]
      · rw [if_neg h1, if_neg h, e 2 (by omega) pf (by omega)]
    have k3 : ∀ pf, (if l.val = 2 then Mlstm.back X 1 (Mlstm.row c 0) j else if l.val = 1 then Mlstm.back X 2 (Mlstm.row c 0) j else if l.val = 0 then Mlstm.back X 3 (Mlstm.row c 0) j else X (Mlstm.row c ⟨(l.val + 128 - 3) % 128, pf⟩) ⟨j.val, by omega⟩)
        = Mlstm.back X 3 (Mlstm.row c l) j := fun pf => by
      by_cases h2 : l.val = 2
      · rw [if_pos h2, back_head X c 3 l j (by omega), h2]
      by_cases h1 : l.val = 1
      · rw [if_neg h2, if_pos h1, back_head X c 3 l j (by omega), h1]
      by_cases h : l.val = 0
      · rw [if_neg h2, if_neg h1, if_pos h, back_head X c 3 l j (by omega), h]
      · rw [if_neg h2, if_neg h1, if_neg h, e 3 (by omega) pf (by omega)]
    simp only [k1, k2, k3]
  have ha : W 3 j * Mlstm.back X 0 (Mlstm.row c l) j + W 2 j * Mlstm.back X 1 (Mlstm.row c l) j
      + W 1 j * Mlstm.back X 2 (Mlstm.row c l) j + W 0 j * Mlstm.back X 3 (Mlstm.row c l) j + B j
      = Mlstm.conv X W B (Mlstm.row c l) j := by
    unfold Mlstm.conv; ac_rfl
  rw [hr, ha]; rfl
end Conv
end Cert.KernelIdeal.Rd
-- ==== Proof.HeadIn.lean ====
module

public import proofs.«01_k».proof.Proof.Head
public import proofs.«01_k».proof.Proof.Gates
set_option maxRecDepth 16384
@[expose] public noncomputable section
open Idealize.ShloMosaic Idealize.ShloMosaic.TcCoe Idealize.SL.Sem
namespace Cert.KernelIdeal.Rd
open Cert.KernelIdeal Cert.KernelIdeal.Gen

section
variable (X : Fin 16384 → Fin 5376 → EReal) (W : Fin 4 → Fin 1024 → EReal) (B : Fin 1024 → EReal)
variable (ib fb : Fin 4 → EReal) (NG : Fin 4 → Fin 128 → EReal) (h : Fin 4) (c : ℕ)
variable (q k v cc : FVec Ideal S128x128 .f32) (n : FVec Ideal S1x128 .f32) (m : FVec Ideal S1x1 .f32)
variable (ic gc : FVec Ideal S128x1 .f32) (ir gr : FVec Ideal S1x128 .f32)
variable (o : FVec Ideal S128x128 .f32) (ng : FVec Ideal S1x128 .f32)

/-- The vectors one head's code works on hold the entries of head `h` of chunk `c`. -/
structure HeadIn : Prop where
  hq : ∀ l d, q (ix2 l d) = Mlstm.Q X W B h c l d
  hk : ∀ l d, k (ix2 l d) = Mlstm.K X W B h c l d
  hv : ∀ l d, v (ix2 l d) = Mlstm.V X h c l d
  hc : ∀ d e, cc (ix2 d e) = (Mlstm.state X W B ib fb h c).1 d e
  hn : ∀ d, n (ix2 0 d) = (Mlstm.state X W B ib fb h c).2.1 d
  hm : m (ix2 0 0) = (Mlstm.state X W B ib fb h c).2.2
  hic : ∀ l, ic (ix2 l 0) = Mlstm.I X ib h c l
  hgc : ∀ l, gc (ix2 l 0) = Mlstm.G X fb h c l
  hir : ∀ l, ir (ix2 0 l) = Mlstm.I X ib h c l
  hgr : ∀ l, gr (ix2 0 l) = Mlstm.G X fb h c l
  ho : ∀ l d, o (ix2 l d) = Mlstm.O X h c l d
  hng : ∀ d, ng (ix2 0 d) = NG h d

variable {X W B ib fb NG h c q k v cc n m ic gc ir gr o ng}
variable (H : HeadIn X W B ib fb NG h c q k v cc n m ic gc ir gr o ng)
include H

/-- A head's result rows are the specification's. -/
theorem HeadIn.out (t e : Fin 128) :
    hOut q k v cc n m gc ir gr o ng (ix2 t e) = Mlstm.res X W B ib fb NG h c t e := by
  rw [hOut_at _ _ _ _ _ _ _ _ _ _ _ (fun l => (H.hgc l).trans (H.hgr l).symm)]
  rw [show mat q = Mlstm.Q X W B h c from funext₂ H.hq, show mat k = Mlstm.K X W B h c from funext₂ H.hk,
    show mat v = Mlstm.V X h c from funext₂ H.hv, show mat cc = (Mlstm.state X W B ib fb h c).1 from funext₂ H.hc,
    show vec n = (Mlstm.state X W B ib fb h c).2.1 from funext H.hn, show vec ir = Mlstm.I X ib h c from funext H.hir,
    show vec gr = Mlstm.G X fb h c from funext H.hgr, show mat o = Mlstm.O X h c from funext₂ H.ho,
    show vec ng = NG h from funext H.hng, H.hm]
  rfl
/-- A head's new matrix state is the specification's. -/
theorem HeadIn.cnew (d e : Fin 128) :
    hCnew k v cc m ic gc ir gr (ix3 0 d e) = (Mlstm.state X W B ib fb h (c + 1)).1 d e := by
  rw [hCnew_at _ _ _ _ _ _ _ _ (fun l => (H.hgc l).trans (H.hgr l).symm) (fun l => (H.hic l).trans (H.hir l).symm)]
  rw [show mat k = Mlstm.K X W B h c from funext₂ H.hk,
    show mat v = Mlstm.V X h c from funext₂ H.hv, show mat cc = (Mlstm.state X W B ib fb h c).1 from funext₂ H.hc,
    show vec ir = Mlstm.I X ib h c from funext H.hir,
    show vec gr = Mlstm.G X fb h c from funext H.hgr, H.hm]
  rfl
/-- A head's new normaliser state is the specification's. -/
theorem HeadIn.nnew (d : Fin 128) :
    hNnew k n m ic gc ir gr (ix2 0 d) = (Mlstm.state X W B ib fb h (c + 1)).2.1 d := by
  rw [hNnew_at _ _ _ _ _ _ _ (fun l => (H.hgc l).trans (H.hgr l).symm) (fun l => (H.hic l).trans (H.hir l).symm)]
  rw [show mat k = Mlstm.K X W B h c from funext₂ H.hk,
    show vec n = (Mlstm.state X W B ib fb h c).2.1 from funext H.hn, show vec ir = Mlstm.I X ib h c from funext H.hir,
    show vec gr = Mlstm.G X fb h c from funext H.hgr, H.hm]
  rfl
/-- A head's new stabiliser is the specification's. -/
theorem HeadIn.mnew (d : Fin 128) :
    hMrow m ir gr (ix2 0 d) = (Mlstm.state X W B ib fb h (c + 1)).2.2 := by
  rw [hMrow_at, show vec ir = Mlstm.I X ib h c from funext H.hir,
    show vec gr = Mlstm.G X fb h c from funext H.hgr, H.hm]
  rfl
end

section
variable (X : Fin 16384 → Fin 5376 → EReal) (W : Fin 4 → Fin 1024 → EReal) (B : Fin 1024 → EReal)
variable (ib fb : Fin 4 → EReal) (NG : Fin 4 → Fin 128 → EReal) (c : ℕ)
variable (x0 : Vec Ideal S128x1024 .f32) (x1 x2 : Vec Ideal S128x512 .f32) (x3 : Vec Ideal S128x128 .f32)
variable (x4 : Vec Ideal S4x1024 .f32) (x5 : Vec Ideal S1x1024 .f32) (x6 : Vec Ideal S1x128 .f32) (x7 : Vec Ideal S1x512 .f32)
variable (s0 : Vec Ideal S8x1024 .f32) (s1 : Vec Ideal S4x128x128 .f32) (s2 s3 : Vec Ideal S8x128 .f32)

/-- The blocks of chunk `c`: the projection's columns, the convolution's weights and the biases. -/
structure Blk : Prop where
  x0 : ∀ (l : Fin 128) (j : Fin 1024), (x0 : FVec Ideal S128x1024 .f32) (ix2 l j) = X (Mlstm.row c l) ⟨j.val, by omega⟩
  x1 : ∀ (l : Fin 128) (j : Fin 512), (x1 : FVec Ideal S128x512 .f32) (ix2 l j) = X (Mlstm.row c l) ⟨2048 + j.val, by omega⟩
  x2 : ∀ (l : Fin 128) (j : Fin 512), (x2 : FVec Ideal S128x512 .f32) (ix2 l j) = X (Mlstm.row c l) ⟨2560 + j.val, by omega⟩
  x3 : ∀ (l : Fin 128) (j : Fin 128), (x3 : FVec Ideal S128x128 .f32) (ix2 l j) = X (Mlstm.row c l) ⟨5120 + j.val, by omega⟩
  x4 : ∀ (a : Fin 4) (j : Fin 1024), (x4 : FVec Ideal S4x1024 .f32) (ix2 a j) = W a j
  x5 : ∀ (j : Fin 1024), (x5 : FVec Ideal S1x1024 .f32) (ix2 0 j) = B j
  x6i : ∀ (h : Fin 4), (x6 : FVec Ideal S1x128 .f32) (ix2 0 ⟨h.val, by omega⟩) = ib h
  x6f : ∀ (h : Fin 4), (x6 : FVec Ideal S1x128 .f32) (ix2 0 ⟨4 + h.val, by omega⟩) = fb h
  x7 : ∀ (h : Fin 4) (e : Fin 128), (x7 : FVec Ideal S1x512 .f32) (ix2 0 ⟨h.val * 128 + e.val, by omega⟩) = NG h e

/-- What the chunks before `c` leave for chunk `c`: the last three rows of the queries and keys, and the state. -/
structure St : Prop where
  tail : ∀ (d : ℕ) (hd : 1 ≤ d ∧ d ≤ 3) (j : Fin 1024), (s0 : FVec Ideal S8x1024 .f32) (ix2 ⟨8 - d, by omega⟩ j) = Mlstm.back X d (Mlstm.row c 0) j
  hc : ∀ (h : Fin 4) d e, (s1 : FVec Ideal S4x128x128 .f32) (ix3 h d e) = (Mlstm.state X W B ib fb h c).1 d e
  hn : ∀ (h : Fin 4) d, (s2 : FVec Ideal S8x128 .f32) (ix2 ⟨h.val, by omega⟩ d) = (Mlstm.state X W B ib fb h c).2.1 d
  hm : ∀ (h : Fin 4), (s3 : FVec Ideal S8x128 .f32) (ix2 ⟨h.val, by omega⟩ 0) = (Mlstm.state X W B ib fb h c).2.2

variable {X W B ib fb NG c x0 x1 x2 x3 x4 x5 x6 x7 s0 s1 s2 s3}
variable (HB : Blk X W B ib fb NG c x0 x1 x2 x3 x4 x5 x6 x7) (HS : St X W B ib fb c s0 s1 s2 s3)

include HB
/-- The input gates of a chunk. -/
theorem Blk.gate_i (h : Fin 4) (l : Fin 128) :
    k0_pay13 x3 x6 (ix2 l ⟨h.val, by omega⟩) = Mlstm.I X ib h c l := by
  pointwise [k0_pay13, Mlstm.I]
  rw [HB.x6i, HB.x3]
/-- The running sums of the log forget gates of a chunk. -/
theorem Blk.gate_f (h : Fin 4) (l : Fin 128) :
    gates x3 x6 (ix2 l ⟨4 + h.val, by omega⟩) = Mlstm.G X fb h c l := by
  refine gates_at x3 x6 (Mlstm.LF X fb h c) _ (fun t => ?_) l
  rw [pay14_at, HB.x6f, HB.x3]
  unfold Mlstm.LF
  exact congrArg (fun j => Mlstm.logsig (X (Mlstm.row c t) j + fb h)) (Fin.ext (by show 5120 + (4 + h.val) = 5124 + h.val; omega))

/-- The value entries of a chunk, by column. -/
theorem Blk.v_at (h : Fin 4) (l d : Fin 128) (j : Fin 512) (hj : j.val = h.val * 128 + d.val) :
    (x1 : FVec Ideal S128x512 .f32) (ix2 l j) = Mlstm.V X h c l d := by
  rw [HB.x1]; unfold Mlstm.V; exact congrArg (X _) (Fin.ext (congrArg (2048 + ·) hj))
/-- The output gate entries of a chunk, by column. -/
theorem Blk.o_at (h : Fin 4) (l d : Fin 128) (j : Fin 512) (hj : j.val = h.val * 128 + d.val) :
    (x2 : FVec Ideal S128x512 .f32) (ix2 l j) = Mlstm.O X h c l d := by
  rw [HB.x2]; unfold Mlstm.O; exact congrArg (X _) (Fin.ext (congrArg (2560 + ·) hj))
/-- The entries of the norm's scale, by column. -/
theorem Blk.ng_at (h : Fin 4) (d : Fin 128) (j : Fin 512) (hj : j.val = h.val * 128 + d.val) :
    (x7 : FVec Ideal S1x512 .f32) (ix2 0 j) = NG h d := by
  rw [← HB.x7 h d]; exact congrArg _ (congrArg (ix2 0) (Fin.ext hj))
/-- The input gates of a chunk, by column. -/
theorem Blk.i_at (h : Fin 4) (l : Fin 128) (j : Fin 128) (hj : j.val = h.val) :
    k0_pay13 x3 x6 (ix2 l j) = Mlstm.I X ib h c l := by
  rw [← HB.gate_i h l]; exact congrArg _ (congrArg (ix2 l) (Fin.ext hj))
/-- The running sums of the log forget gates of a chunk, by column. -/
theorem Blk.f_at (h : Fin 4) (l : Fin 128) (j : Fin 128) (hj : j.val = 4 + h.val) :
    gates x3 x6 (ix2 l j) = Mlstm.G X fb h c l := by
  rw [← HB.gate_f h l]; exact congrArg _ (congrArg (ix2 l) (Fin.ext hj))

include HS
/-- The convolved queries and keys of a chunk. -/
theorem Blk.conv (l : Fin 128) (j : Fin 1024) :
    qkv x0 s0 x4 x5 (ix2 l j) = Mlstm.qk X W B (Mlstm.row c l) j :=
  qkv_at X c x0 s0 x4 x5 W B HB.x0 HS.tail HB.x4 HB.x5 l j

/-- The queries of a chunk, by column. -/
theorem Blk.q_at (h : Fin 4) (l d : Fin 128) (j : Fin 1024) (hj : j.val = h.val * 128 + d.val) :
    qkv x0 s0 x4 x5 (ix2 l j) = Mlstm.Q X W B h c l d := by
  rw [HB.conv HS]; unfold Mlstm.Q; exact congrArg (Mlstm.qk X W B _) (Fin.ext hj)
/-- The scaled keys of a chunk, by column. -/
theorem Blk.k_at (h : Fin 4) (l d : Fin 128) (j : Fin 1024) (hj : j.val = 512 + (h.val * 128 + d.val)) :
    qkv x0 s0 x4 x5 (ix2 l j) * Ideal.ofBits .f32 0x3DB504F3#32 = Mlstm.K X W B h c l d := by
  rw [HB.conv HS]; unfold Mlstm.K; exact congrArg (fun j => Mlstm.qk X W B (Mlstm.row c l) j * _) (Fin.ext hj)

/-- Head 0's vectors. -/
theorem headIn0 : HeadIn X W B ib fb NG 0 c (k0_pay21 (qkv x0 s0 x4 x5)) (k0_pay25 (qkv x0 s0 x4 x5))
    (View.ld x1 (Rect.unit ![0, 0] ![128, 128] inb_S128x512_S128x128_0_0))
    (k0_pay49 (View.ld s1 (Rect.unit ![0, 0, 0] ![1, 128, 128] inb_S4x128x128_S1x128x128_0_0_0)))
    (View.ld s2 (Rect.unit ![0, 0] ![1, 128] inb_S8x128_S1x128_0_0))
    (View.ld s3 (Rect.unit ![0, 0] ![1, 1] inb_S8x128_S1x1_0_0))
    (k0_pay29 (k0_pay13 x3 x6)) (k0_pay33 (gates x3 x6)) (k0_pay37 (k0_pay18 (k0_pay13 x3 x6)))
    (k0_pay41 (transpose S128x128 [1, 0] (gates x3 x6) transposes_S128x128_p1_0_S128x128))
    (View.ld x2 (Rect.unit ![0, 0] ![128, 128] inb_S128x512_S128x128_0_0))
    (View.ld x7 (Rect.unit ![0, 0] ![1, 128] inb_S1x512_S1x128_0_0)) where
  hq l d := by pointwise [k0_pay21]; refine HB.q_at HS 0 l d _ ?_; (try simp) <;> omega
  hk l d := by pointwise [k0_pay25]; refine HB.k_at HS 0 l d _ ?_; (try simp) <;> omega
  hv l d := by pointwise; refine HB.v_at 0 l d _ ?_; (try simp) <;> omega
  hc d e := by pointwise [k0_pay49]; exact HS.hc 0 d e
  hn d := by pointwise; exact HS.hn 0 d
  hm := by pointwise; exact HS.hm 0
  hic l := by pointwise [k0_pay29]; refine HB.i_at 0 l _ ?_; (try simp) <;> omega
  hgc l := by pointwise [k0_pay33]; refine HB.f_at 0 l _ ?_; (try simp) <;> omega
  hir l := by pointwise [k0_pay37, k0_pay18]; refine HB.i_at 0 l _ ?_; (try simp) <;> omega
  hgr l := by pointwise [k0_pay41]; refine HB.f_at 0 l _ ?_; (try simp) <;> omega
  ho l d := by pointwise; refine HB.o_at 0 l d _ ?_; (try simp) <;> omega
  hng d := by pointwise; refine HB.ng_at 0 d _ ?_; (try simp) <;> omega
/-- Head 1's vectors. -/
theorem headIn1 : HeadIn X W B ib fb NG 1 c (k0_pay22 (qkv x0 s0 x4 x5)) (k0_pay26 (qkv x0 s0 x4 x5))
    (View.ld x1 (Rect.unit ![0, 128] ![128, 128] inb_S128x512_S128x128_0_128))
    (k0_pay50 (View.ld s1 (Rect.unit ![1, 0, 0] ![1, 128, 128] inb_S4x128x128_S1x128x128_1_0_0)))
    (View.ld s2 (Rect.unit ![1, 0] ![1, 128] inb_S8x128_S1x128_1_0))
    (View.ld s3 (Rect.unit ![1, 0] ![1, 1] inb_S8x128_S1x1_1_0))
    (k0_pay30 (k0_pay13 x3 x6)) (k0_pay34 (gates x3 x6)) (k0_pay38 (k0_pay18 (k0_pay13 x3 x6)))
    (k0_pay42 (transpose S128x128 [1, 0] (gates x3 x6) transposes_S128x128_p1_0_S128x128))
    (View.ld x2 (Rect.unit ![0, 128] ![128, 128] inb_S128x512_S128x128_0_128))
    (View.ld x7 (Rect.unit ![0, 128] ![1, 128] inb_S1x512_S1x128_0_128)) where
  hq l d := by pointwise [k0_pay22]; refine HB.q_at HS 1 l d _ ?_; (try simp) <;> omega
  hk l d := by pointwise [k0_pay26]; refine HB.k_at HS 1 l d _ ?_; (try simp) <;> omega
  hv l d := by pointwise; refine HB.v_at 1 l d _ ?_; (try simp) <;> omega
  hc d e := by pointwise [k0_pay50]; exact HS.hc 1 d e
  hn d := by pointwise; exact HS.hn 1 d
  hm := by pointwise; exact HS.hm 1
  hic l := by pointwise [k0_pay30]; refine HB.i_at 1 l _ ?_; (try simp) <;> omega
  hgc l := by pointwise [k0_pay34]; refine HB.f_at 1 l _ ?_; (try simp) <;> omega
  hir l := by pointwise [k0_pay38, k0_pay18]; refine HB.i_at 1 l _ ?_; (try simp) <;> omega
  hgr l := by pointwise [k0_pay42]; refine HB.f_at 1 l _ ?_; (try simp) <;> omega
  ho l d := by pointwise; refine HB.o_at 1 l d _ ?_; (try simp) <;> omega
  hng d := by pointwise; refine HB.ng_at 1 d _ ?_; (try simp) <;> omega
/-- Head 2's vectors. -/
theorem headIn2 : HeadIn X W B ib fb NG 2 c (k0_pay23 (qkv x0 s0 x4 x5)) (k0_pay27 (qkv x0 s0 x4 x5))
    (View.ld x1 (Rect.unit ![0, 256] ![128, 128] inb_S128x512_S128x128_0_256))
    (k0_pay51 (View.ld s1 (Rect.unit ![2, 0, 0] ![1, 128, 128] inb_S4x128x128_S1x128x128_2_0_0)))
    (View.ld s2 (Rect.unit ![2, 0] ![1, 128] inb_S8x128_S1x128_2_0))
    (View.ld s3 (Rect.unit ![2, 0] ![1, 1] inb_S8x128_S1x1_2_0))
    (k0_pay31 (k0_pay13 x3 x6)) (k0_pay35 (gates x3 x6)) (k0_pay39 (k0_pay18 (k0_pay13 x3 x6)))
    (k0_pay43 (transpose S128x128 [1, 0] (gates x3 x6) transposes_S128x128_p1_0_S128x128))
    (View.ld x2 (Rect.unit ![0, 256] ![128, 128] inb_S128x512_S128x128_0_256))
    (View.ld x7 (Rect.unit ![0, 256] ![1, 128] inb_S1x512_S1x128_0_256)) where
  hq l d := by pointwise [k0_pay23]; refine HB.q_at HS 2 l d _ ?_; (try simp) <;> omega
  hk l d := by pointwise [k0_pay27]; refine HB.k_at HS 2 l d _ ?_; (try simp) <;> omega
  hv l d := by pointwise; refine HB.v_at 2 l d _ ?_; (try simp) <;> omega
  hc d e := by pointwise [k0_pay51]; exact HS.hc 2 d e
  hn d := by pointwise; exact HS.hn 2 d
  hm := by pointwise; exact HS.hm 2
  hic l := by pointwise [k0_pay31]; refine HB.i_at 2 l _ ?_; (try simp) <;> omega
  hgc l := by pointwise [k0_pay35]; refine HB.f_at 2 l _ ?_; (try simp) <;> omega
  hir l := by pointwise [k0_pay39, k0_pay18]; refine HB.i_at 2 l _ ?_; (try simp) <;> omega
  hgr l := by pointwise [k0_pay43]; refine HB.f_at 2 l _ ?_; (try simp) <;> omega
  ho l d := by pointwise; refine HB.o_at 2 l d _ ?_; (try simp) <;> omega
  hng d := by pointwise; refine HB.ng_at 2 d _ ?_; (try simp) <;> omega
/-- Head 3's vectors. -/
theorem headIn3 : HeadIn X W B ib fb NG 3 c (k0_pay24 (qkv x0 s0 x4 x5)) (k0_pay28 (qkv x0 s0 x4 x5))
    (View.ld x1 (Rect.unit ![0, 384] ![128, 128] inb_S128x512_S128x128_0_384))
    (k0_pay52 (View.ld s1 (Rect.unit ![3, 0, 0] ![1, 128, 128] inb_S4x128x128_S1x128x128_3_0_0)))
    (View.ld s2 (Rect.unit ![3, 0] ![1, 128] inb_S8x128_S1x128_3_0))
    (View.ld s3 (Rect.unit ![3, 0] ![1, 1] inb_S8x128_S1x1_3_0))
    (k0_pay32 (k0_pay13 x3 x6)) (k0_pay36 (gates x3 x6)) (k0_pay40 (k0_pay18 (k0_pay13 x3 x6)))
    (k0_pay44 (transpose S128x128 [1, 0] (gates x3 x6) transposes_S128x128_p1_0_S128x128))
    (View.ld x2 (Rect.unit ![0, 384] ![128, 128] inb_S128x512_S128x128_0_384))
    (View.ld x7 (Rect.unit ![0, 384] ![1, 128] inb_S1x512_S1x128_0_384)) where
  hq l d := by pointwise [k0_pay24]; refine HB.q_at HS 3 l d _ ?_; (try simp) <;> omega
  hk l d := by pointwise [k0_pay28]; refine HB.k_at HS 3 l d _ ?_; (try simp) <;> omega
  hv l d := by pointwise; refine HB.v_at 3 l d _ ?_; (try simp) <;> omega
  hc d e := by pointwise [k0_pay52]; exact HS.hc 3 d e
  hn d := by pointwise; exact HS.hn 3 d
  hm := by pointwise; exact HS.hm 3
  hic l := by pointwise [k0_pay32]; refine HB.i_at 3 l _ ?_; (try simp) <;> omega
  hgc l := by pointwise [k0_pay36]; refine HB.f_at 3 l _ ?_; (try simp) <;> omega
  hir l := by pointwise [k0_pay40, k0_pay18]; refine HB.i_at 3 l _ ?_; (try simp) <;> omega
  hgr l := by pointwise [k0_pay44]; refine HB.f_at 3 l _ ?_; (try simp) <;> omega
  ho l d := by pointwise; refine HB.o_at 3 l d _ ?_; (try simp) <;> omega
  hng d := by pointwise; refine HB.ng_at 3 d _ ?_; (try simp) <;> omega
end
end Cert.KernelIdeal.Rd
-- ==== Proof.StepB.lean ====
module

public import proofs.«01_k».proof.Proof.Gen.KernelIdeal.Value
public import proofs.«01_k».proof.Proof.HeadIn
public import Idealize.ShloMosaic.Lib.Pipeline.ValueKit
public import Idealize.ShloMosaic.Lib.WritesUnit
public import Idealize.ShloMosaic.Lib.Pipeline.ReadBack
set_option maxRecDepth 16384
@[expose] public noncomputable section
open Idealize.ShloMosaic Idealize.ShloMosaic.TcCoe Idealize.SL.Sem
open Idealize.ShloMosaic.Pipeline (Dat)
namespace Cert.KernelIdeal.Rd
open Cert.KernelIdeal Cert.KernelIdeal.Gen
variable (m : (ℓ : Loc nD τ sig) → Buf (Elt Ideal) ℓ)
variable {X : Fin 16384 → Fin 5376 → EReal} {W : Fin 4 → Fin 1024 → EReal} {B : Fin 1024 → EReal}
variable {ib fb : Fin 4 → EReal} {NG : Fin 4 → Fin 128 → EReal}

/-- Entry `(l, j)` of chunk `c`'s result, the column read as head and column of the head. -/
def resN (X : Fin 16384 → Fin 5376 → EReal) (W : Fin 4 → Fin 1024 → EReal) (B : Fin 1024 → EReal)
    (ib fb : Fin 4 → EReal) (NG : Fin 4 → Fin 128 → EReal) (c l j : ℕ) : EReal :=
  Mlstm.res X W B ib fb NG ⟨j / 128 % 4, by omega⟩ c ⟨l % 128, by omega⟩ ⟨j % 128, by omega⟩
/-- A row of the result, by its chunk and place. -/
theorem resN_eq (c l j : ℕ) (l' : Fin 128) (h : Fin 4) (e : Fin 128) (hl : l = l'.val)
    (hj : j = h.val * 128 + e.val) :
    resN X W B ib fb NG c l j = Mlstm.res X W B ib fb NG h c l' e := by
  unfold resN
  congr 1
  · apply Fin.ext; show j / 128 % 4 = h.val; omega
  · apply Fin.ext; show l % 128 = l'.val; omega
  · apply Fin.ext; show j % 128 = e.val; omega

/-- A later chunk's rows. -/
theorem outB (c : Dev nD) (t : Fin cfg0.N) (h : ¬ t.val % 128 = 0)
    (HB : Blk X W B ib fb NG t.val (X0_0 m c t) (X0_1 m c t) (X0_2 m c t) (iblk m c 3 t) (iblk m c 4 t) (iblk m c 5 t) (iblk m c 6 t) (iblk m c 7 t))
    (HS : St X W B ib fb t.val (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2) (y : S128x512.Idx) :
    (outsAt0 m c t.val t.isLt).1 y = resN X W B ib fb NG t.val (y 0).val (y 1).val := by
  rw [outsAt0_B m c t h]
  dsimp only
  generalize X0_0 m c t = x0 at *
  generalize X0_1 m c t = x1 at *
  generalize X0_2 m c t = x2 at *
  generalize iblk m c 3 t = x3 at *
  generalize iblk m c 4 t = x4 at *
  generalize iblk m c 5 t = x5 at *
  generalize iblk m c 6 t = x6 at *
  generalize iblk m c 7 t = x7 at *
  generalize (outsAt0 m c (t.val - 1) (Nat.lt_of_le_of_lt (Nat.sub_le _ _) t.isLt)) = s at *
  obtain ⟨_, s0, s1, s2, s3⟩ := s
  dsimp only at HS ⊢
  frame_out
  simp only [read_unread_whole]
  canon_tiles w k
  · idx_vars w
    rw [resN_eq t.val (y 0).val (y 1).val w0 3 w1 (by simpa using k0) (by simpa using k1)]
    exact ((headIn3 HB HS).out w0 w1)
  · idx_vars w
    rw [resN_eq t.val (y 0).val (y 1).val w0 2 w1 (by simpa using k0) (by simpa using k1)]
    exact ((headIn2 HB HS).out w0 w1)
  · idx_vars w
    rw [resN_eq t.val (y 0).val (y 1).val w0 1 w1 (by simpa using k0) (by simpa using k1)]
    exact ((headIn1 HB HS).out w0 w1)
  · idx_vars w
    rw [resN_eq t.val (y 0).val (y 1).val w0 0 w1 (by simpa using k0) (by simpa using k1)]
    exact ((headIn0 HB HS).out w0 w1)

/-- The last rows kept by a later chunk. -/
theorem tailB (c : Dev nD) (t : Fin cfg0.N) (h : ¬ t.val % 128 = 0)
    (HB : Blk X W B ib fb NG t.val (X0_0 m c t) (X0_1 m c t) (X0_2 m c t) (iblk m c 3 t) (iblk m c 4 t) (iblk m c 5 t) (iblk m c 6 t) (iblk m c 7 t))
    (HS : St X W B ib fb t.val (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2) (r : Fin 8) (j : Fin 1024) :
    ((outsAt0 m c t.val t.isLt).2.1 : FVec Ideal S8x1024 .f32) (ix2 r j) = X (Mlstm.row t.val ⟨120 + r.val, by omega⟩) ⟨j.val, by omega⟩ := by
  rw [outsAt0_B m c t h]
  dsimp only
  generalize X0_0 m c t = x0 at *
  generalize X0_1 m c t = x1 at *
  generalize X0_2 m c t = x2 at *
  generalize iblk m c 3 t = x3 at *
  generalize iblk m c 4 t = x4 at *
  generalize iblk m c 5 t = x5 at *
  generalize iblk m c 6 t = x6 at *
  generalize iblk m c 7 t = x7 at *
  generalize (outsAt0 m c (t.val - 1) (Nat.lt_of_le_of_lt (Nat.sub_le _ _) t.isLt)) = s at *
  obtain ⟨_, s0, s1, s2, s3⟩ := s
  dsimp only at HS ⊢
  frame_out
  pointwise [k0_pay11]
  exact HB.x0 _ _

/-- The state after a later chunk. -/
theorem cB (c : Dev nD) (t : Fin cfg0.N) (h : ¬ t.val % 128 = 0)
    (HB : Blk X W B ib fb NG t.val (X0_0 m c t) (X0_1 m c t) (X0_2 m c t) (iblk m c 3 t) (iblk m c 4 t) (iblk m c 5 t) (iblk m c 6 t) (iblk m c 7 t))
    (HS : St X W B ib fb t.val (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2) (hd : Fin 4) (d e : Fin 128) :
    ((outsAt0 m c t.val t.isLt).2.2.1 : FVec Ideal S4x128x128 .f32) (ix3 hd d e) = (Mlstm.state X W B ib fb hd (t.val + 1)).1 d e := by
  rw [outsAt0_B m c t h]
  dsimp only
  generalize X0_0 m c t = x0 at *
  generalize X0_1 m c t = x1 at *
  generalize X0_2 m c t = x2 at *
  generalize iblk m c 3 t = x3 at *
  generalize iblk m c 4 t = x4 at *
  generalize iblk m c 5 t = x5 at *
  generalize iblk m c 6 t = x6 at *
  generalize iblk m c 7 t = x7 at *
  generalize (outsAt0 m c (t.val - 1) (Nat.lt_of_le_of_lt (Nat.sub_le _ _) t.isLt)) = s at *
  obtain ⟨_, s0, s1, s2, s3⟩ := s
  dsimp only at HS ⊢
  frame_out
  simp only [read_unread_whole]
  canon_tiles w k
  · idx_vars w
    obtain rfl : hd = 3 := Fin.ext (by simp at k0; simp; omega)
    obtain rfl : d = w1 := Fin.ext (by simpa using k1)
    obtain rfl : e = w2 := Fin.ext (by simpa using k2)
    obtain rfl : w0 = 0 := Subsingleton.elim _ _
    exact (headIn3 HB HS).cnew d e
  · idx_vars w
    obtain rfl : hd = 2 := Fin.ext (by simp at k0; simp; omega)
    obtain rfl : d = w1 := Fin.ext (by simpa using k1)
    obtain rfl : e = w2 := Fin.ext (by simpa using k2)
    obtain rfl : w0 = 0 := Subsingleton.elim _ _
    exact (headIn2 HB HS).cnew d e
  · idx_vars w
    obtain rfl : hd = 1 := Fin.ext (by simp at k0; simp; omega)
    obtain rfl : d = w1 := Fin.ext (by simpa using k1)
    obtain rfl : e = w2 := Fin.ext (by simpa using k2)
    obtain rfl : w0 = 0 := Subsingleton.elim _ _
    exact (headIn1 HB HS).cnew d e
  · idx_vars w
    obtain rfl : hd = 0 := Fin.ext (by simp at k0; simp; omega)
    obtain rfl : d = w1 := Fin.ext (by simpa using k1)
    obtain rfl : e = w2 := Fin.ext (by simpa using k2)
    obtain rfl : w0 = 0 := Subsingleton.elim _ _
    exact (headIn0 HB HS).cnew d e

/-- The normaliser after a later chunk. -/
theorem nB (c : Dev nD) (t : Fin cfg0.N) (h : ¬ t.val % 128 = 0)
    (HB : Blk X W B ib fb NG t.val (X0_0 m c t) (X0_1 m c t) (X0_2 m c t) (iblk m c 3 t) (iblk m c 4 t) (iblk m c 5 t) (iblk m c 6 t) (iblk m c 7 t))
    (HS : St X W B ib fb t.val (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2) (hd : Fin 4) (d : Fin 128) :
    ((outsAt0 m c t.val t.isLt).2.2.2.1 : FVec Ideal S8x128 .f32) (ix2 ⟨hd.val, by omega⟩ d) = (Mlstm.state X W B ib fb hd (t.val + 1)).2.1 d := by
  rw [outsAt0_B m c t h]
  dsimp only
  generalize X0_0 m c t = x0 at *
  generalize X0_1 m c t = x1 at *
  generalize X0_2 m c t = x2 at *
  generalize iblk m c 3 t = x3 at *
  generalize iblk m c 4 t = x4 at *
  generalize iblk m c 5 t = x5 at *
  generalize iblk m c 6 t = x6 at *
  generalize iblk m c 7 t = x7 at *
  generalize (outsAt0 m c (t.val - 1) (Nat.lt_of_le_of_lt (Nat.sub_le _ _) t.isLt)) = s at *
  obtain ⟨_, s0, s1, s2, s3⟩ := s
  dsimp only at HS ⊢
  frame_out
  simp only [read_unread_whole]
  match hd with
  | 3 =>
    refine (View.read_writes_cons_rows_of_mem _ _ _ _ _ _ (ix2 0 d) (o := 3) rfl (by rfl) (by rfl)).trans ?_
    exact (headIn3 HB HS).nnew d
  | 2 =>
    rw [View.read_writes_cons_rows_of_not_mem _ _ _ _ _ _ rfl (o := 3) (W := 1) rfl (Or.inl (show (2 : ℕ) < 3 by decide))]
    refine (View.read_writes_cons_rows_of_mem _ _ _ _ _ _ (ix2 0 d) (o := 2) rfl (by rfl) (by rfl)).trans ?_
    exact (headIn2 HB HS).nnew d
  | 1 =>
    rw [View.read_writes_cons_rows_of_not_mem _ _ _ _ _ _ rfl (o := 3) (W := 1) rfl (Or.inl (show (1 : ℕ) < 3 by decide))]
    rw [View.read_writes_cons_rows_of_not_mem _ _ _ _ _ _ rfl (o := 2) (W := 1) rfl (Or.inl (show (1 : ℕ) < 2 by decide))]
    refine (View.read_writes_cons_rows_of_mem _ _ _ _ _ _ (ix2 0 d) (o := 1) rfl (by rfl) (by rfl)).trans ?_
    exact (headIn1 HB HS).nnew d
  | 0 =>
    rw [View.read_writes_cons_rows_of_not_mem _ _ _ _ _ _ rfl (o := 3) (W := 1) rfl (Or.inl (show (0 : ℕ) < 3 by decide))]
    rw [View.read_writes_cons_rows_of_not_mem _ _ _ _ _ _ rfl (o := 2) (W := 1) rfl (Or.inl (show (0 : ℕ) < 2 by decide))]
    rw [View.read_writes_cons_rows_of_not_mem _ _ _ _ _ _ rfl (o := 1) (W := 1) rfl (Or.inl (show (0 : ℕ) < 1 by decide))]
    refine (View.read_writes_cons_rows_of_mem _ _ _ _ _ _ (ix2 0 d) (o := 0) rfl (by rfl) (by rfl)).trans ?_
    exact (headIn0 HB HS).nnew d

/-- The stabiliser after a later chunk. -/
theorem mB (c : Dev nD) (t : Fin cfg0.N) (h : ¬ t.val % 128 = 0)
    (HB : Blk X W B ib fb NG t.val (X0_0 m c t) (X0_1 m c t) (X0_2 m c t) (iblk m c 3 t) (iblk m c 4 t) (iblk m c 5 t) (iblk m c 6 t) (iblk m c 7 t))
    (HS : St X W B ib fb t.val (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2) (hd : Fin 4) (d : Fin 128) :
    ((outsAt0 m c t.val t.isLt).2.2.2.2 : FVec Ideal S8x128 .f32) (ix2 ⟨hd.val, by omega⟩ d) = (Mlstm.state X W B ib fb hd (t.val + 1)).2.2 := by
  rw [outsAt0_B m c t h]
  dsimp only
  generalize X0_0 m c t = x0 at *
  generalize X0_1 m c t = x1 at *
  generalize X0_2 m c t = x2 at *
  generalize iblk m c 3 t = x3 at *
  generalize iblk m c 4 t = x4 at *
  generalize iblk m c 5 t = x5 at *
  generalize iblk m c 6 t = x6 at *
  generalize iblk m c 7 t = x7 at *
  generalize (outsAt0 m c (t.val - 1) (Nat.lt_of_le_of_lt (Nat.sub_le _ _) t.isLt)) = s at *
  obtain ⟨_, s0, s1, s2, s3⟩ := s
  dsimp only at HS ⊢
  frame_out
  simp only [read_unread_whole]
  match hd with
  | 3 =>
    refine (View.read_writes_cons_rows_of_mem _ _ _ _ _ _ (ix2 0 d) (o := 3) rfl (by rfl) (by rfl)).trans ?_
    exact (headIn3 HB HS).mnew d
  | 2 =>
    rw [View.read_writes_cons_rows_of_not_mem _ _ _ _ _ _ rfl (o := 3) (W := 1) rfl (Or.inl (show (2 : ℕ) < 3 by decide))]
    refine (View.read_writes_cons_rows_of_mem _ _ _ _ _ _ (ix2 0 d) (o := 2) rfl (by rfl) (by rfl)).trans ?_
    exact (headIn2 HB HS).mnew d
  | 1 =>
    rw [View.read_writes_cons_rows_of_not_mem _ _ _ _ _ _ rfl (o := 3) (W := 1) rfl (Or.inl (show (1 : ℕ) < 3 by decide))]
    rw [View.read_writes_cons_rows_of_not_mem _ _ _ _ _ _ rfl (o := 2) (W := 1) rfl (Or.inl (show (1 : ℕ) < 2 by decide))]
    refine (View.read_writes_cons_rows_of_mem _ _ _ _ _ _ (ix2 0 d) (o := 1) rfl (by rfl) (by rfl)).trans ?_
    exact (headIn1 HB HS).mnew d
  | 0 =>
    rw [View.read_writes_cons_rows_of_not_mem _ _ _ _ _ _ rfl (o := 3) (W := 1) rfl (Or.inl (show (0 : ℕ) < 3 by decide))]
    rw [View.read_writes_cons_rows_of_not_mem _ _ _ _ _ _ rfl (o := 2) (W := 1) rfl (Or.inl (show (0 : ℕ) < 2 by decide))]
    rw [View.read_writes_cons_rows_of_not_mem _ _ _ _ _ _ rfl (o := 1) (W := 1) rfl (Or.inl (show (0 : ℕ) < 1 by decide))]
    refine (View.read_writes_cons_rows_of_mem _ _ _ _ _ _ (ix2 0 d) (o := 0) rfl (by rfl) (by rfl)).trans ?_
    exact (headIn0 HB HS).mnew d
end Cert.KernelIdeal.Rd
-- ==== Proof.StepA.lean ====
module

public import proofs.«01_k».proof.Proof.Gen.KernelIdeal.Value
public import proofs.«01_k».proof.Proof.StepB
public import Idealize.ShloMosaic.Lib.Pipeline.ValueKit
public import Idealize.ShloMosaic.Lib.WritesUnit
public import Idealize.ShloMosaic.Lib.Pipeline.ReadBack
set_option maxRecDepth 16384
@[expose] public noncomputable section
open Idealize.ShloMosaic Idealize.ShloMosaic.TcCoe Idealize.SL.Sem
open Idealize.ShloMosaic.Pipeline (Dat)
namespace Cert.KernelIdeal.Rd
open Cert.KernelIdeal Cert.KernelIdeal.Gen
variable (m : (ℓ : Loc nD τ sig) → Buf (Elt Ideal) ℓ)
variable {X : Fin 16384 → Fin 5376 → EReal} {W : Fin 4 → Fin 1024 → EReal} {B : Fin 1024 → EReal}
variable {ib fb : Fin 4 → EReal} {NG : Fin 4 → Fin 128 → EReal}

/-- The state before the first chunk: every scratch buffer filled with zeros. -/
theorem St.start (X : Fin 16384 → Fin 5376 → EReal) (W : Fin 4 → Fin 1024 → EReal) (B : Fin 1024 → EReal) (ib fb : Fin 4 → EReal) :
    St X W B ib fb 0 (k0_pay2 (F := Ideal)) (k0_pay3 (F := Ideal)) (k0_pay4 (F := Ideal)) (k0_pay5 (F := Ideal)) where
  tail d hd j := by rw [back_start X d hd.1]; pointwise [k0_pay2]
  hc hd d e := by pointwise [k0_pay3, Mlstm.state]
  hn hd d := by pointwise [k0_pay4, Mlstm.state]
  hm hd := by pointwise [k0_pay5, Mlstm.state]

/-- The zero offset of a matrix. -/
theorem zero2 : ∀ a : Fin 2, (![0, 0] : Fin 2 → ℕ) a = 0 := by decide
/-- The zero offset of a stack of matrices. -/
theorem zero3 : ∀ a : Fin 3, (![0, 0, 0] : Fin 3 → ℕ) a = 0 := by decide

/-- A load after a fill of the normaliser's or the stabiliser's buffer reads the fill. -/
theorem fill2 {κ : Kind} {sp : Space} (v : View sig κ sp S8x128 .f32) (Z : Vec Ideal S8x128 .f32) (r : Rect S8x128) :
    v.readCov [⟨Rect.unit ![0, 0] ![8, 128] inb_S8x128_S8x128_0_0, Z⟩] r.toLoadRect = View.ld Z r :=
  View.readCov_fill v inb_S8x128_S8x128_0_0 Z [] r zero2
/-- A load after a fill of the matrix state's buffer reads the fill. -/
theorem fill3 {κ : Kind} {sp : Space} (v : View sig κ sp S4x128x128 .f32) (Z : Vec Ideal S4x128x128 .f32) (r : Rect S4x128x128) :
    v.readCov [⟨Rect.unit ![0, 0, 0] ![4, 128, 128] inb_S4x128x128_S4x128x128_0_0_0, Z⟩] r.toLoadRect = View.ld Z r :=
  View.readCov_fill v inb_S4x128x128_S4x128x128_0_0_0 Z [] r zero3

/-- The first chunk's rows. -/
theorem outA (c : Dev nD) (t : Fin cfg0.N) (h : t.val % 128 = 0)
    (HB : Blk X W B ib fb NG 0 (X0_0 m c t) (X0_1 m c t) (X0_2 m c t) (iblk m c 3 t) (iblk m c 4 t) (iblk m c 5 t) (iblk m c 6 t) (iblk m c 7 t)) (y : S128x512.Idx) :
    (outsAt0 m c t.val t.isLt).1 y = resN X W B ib fb NG 0 (y 0).val (y 1).val := by
  rw [outsAt0_A m c t h]
  dsimp only
  generalize X0_0 m c t = x0 at *
  generalize X0_1 m c t = x1 at *
  generalize X0_2 m c t = x2 at *
  generalize iblk m c 3 t = x3 at *
  generalize iblk m c 4 t = x4 at *
  generalize iblk m c 5 t = x5 at *
  generalize iblk m c 6 t = x6 at *
  generalize iblk m c 7 t = x7 at *
  have HS := St.start X W B ib fb
  frame_out
  simp only [fill2, fill3]
  canon_tiles w k
  · idx_vars w
    rw [resN_eq 0 (y 0).val (y 1).val w0 3 w1 (by simpa using k0) (by simpa using k1)]
    exact ((headIn3 HB HS).out w0 w1)
  · idx_vars w
    rw [resN_eq 0 (y 0).val (y 1).val w0 2 w1 (by simpa using k0) (by simpa using k1)]
    exact ((headIn2 HB HS).out w0 w1)
  · idx_vars w
    rw [resN_eq 0 (y 0).val (y 1).val w0 1 w1 (by simpa using k0) (by simpa using k1)]
    exact ((headIn1 HB HS).out w0 w1)
  · idx_vars w
    rw [resN_eq 0 (y 0).val (y 1).val w0 0 w1 (by simpa using k0) (by simpa using k1)]
    exact ((headIn0 HB HS).out w0 w1)

/-- The last rows kept by the first chunk. -/
theorem tailA (c : Dev nD) (t : Fin cfg0.N) (h : t.val % 128 = 0)
    (HB : Blk X W B ib fb NG 0 (X0_0 m c t) (X0_1 m c t) (X0_2 m c t) (iblk m c 3 t) (iblk m c 4 t) (iblk m c 5 t) (iblk m c 6 t) (iblk m c 7 t)) (r : Fin 8) (j : Fin 1024) :
    ((outsAt0 m c t.val t.isLt).2.1 : FVec Ideal S8x1024 .f32) (ix2 r j) = X (Mlstm.row 0 ⟨120 + r.val, by omega⟩) ⟨j.val, by omega⟩ := by
  rw [outsAt0_A m c t h]
  dsimp only
  generalize X0_0 m c t = x0 at *
  generalize X0_1 m c t = x1 at *
  generalize X0_2 m c t = x2 at *
  generalize iblk m c 3 t = x3 at *
  generalize iblk m c 4 t = x4 at *
  generalize iblk m c 5 t = x5 at *
  generalize iblk m c 6 t = x6 at *
  generalize iblk m c 7 t = x7 at *
  have HS := St.start X W B ib fb
  frame_out
  pointwise [k0_pay11]
  exact HB.x0 _ _

/-- The state after the first chunk. -/
theorem cA (c : Dev nD) (t : Fin cfg0.N) (h : t.val % 128 = 0)
    (HB : Blk X W B ib fb NG 0 (X0_0 m c t) (X0_1 m c t) (X0_2 m c t) (iblk m c 3 t) (iblk m c 4 t) (iblk m c 5 t) (iblk m c 6 t) (iblk m c 7 t)) (hd : Fin 4) (d e : Fin 128) :
    ((outsAt0 m c t.val t.isLt).2.2.1 : FVec Ideal S4x128x128 .f32) (ix3 hd d e) = (Mlstm.state X W B ib fb hd 1).1 d e := by
  rw [outsAt0_A m c t h]
  dsimp only
  generalize X0_0 m c t = x0 at *
  generalize X0_1 m c t = x1 at *
  generalize X0_2 m c t = x2 at *
  generalize iblk m c 3 t = x3 at *
  generalize iblk m c 4 t = x4 at *
  generalize iblk m c 5 t = x5 at *
  generalize iblk m c 6 t = x6 at *
  generalize iblk m c 7 t = x7 at *
  have HS := St.start X W B ib fb
  frame_out
  simp only [fill2, fill3]
  rw [← View.read_writes_junk_eq_canon (View.whole cc0_scratch1)]
  match hd with
  | 3 =>
    refine (View.read_writes_cons_unit_of_mem _ _ _ _ _ _ (ix3 0 d e) rfl (by intro a; fin_cases a <;> simp)).trans ?_
    exact (headIn3 HB HS).cnew d e
  | 2 =>
    rw [View.read_writes_cons_unit_of_not_mem _ _ _ _ _ _ rfl (0 : Fin 3) (Or.inl (show (2 : ℕ) < 3 by decide))]
    refine (View.read_writes_cons_unit_of_mem _ _ _ _ _ _ (ix3 0 d e) rfl (by intro a; fin_cases a <;> simp)).trans ?_
    exact (headIn2 HB HS).cnew d e
  | 1 =>
    rw [View.read_writes_cons_unit_of_not_mem _ _ _ _ _ _ rfl (0 : Fin 3) (Or.inl (show (1 : ℕ) < 3 by decide))]
    rw [View.read_writes_cons_unit_of_not_mem _ _ _ _ _ _ rfl (0 : Fin 3) (Or.inl (show (1 : ℕ) < 2 by decide))]
    refine (View.read_writes_cons_unit_of_mem _ _ _ _ _ _ (ix3 0 d e) rfl (by intro a; fin_cases a <;> simp)).trans ?_
    exact (headIn1 HB HS).cnew d e
  | 0 =>
    rw [View.read_writes_cons_unit_of_not_mem _ _ _ _ _ _ rfl (0 : Fin 3) (Or.inl (show (0 : ℕ) < 3 by decide))]
    rw [View.read_writes_cons_unit_of_not_mem _ _ _ _ _ _ rfl (0 : Fin 3) (Or.inl (show (0 : ℕ) < 2 by decide))]
    rw [View.read_writes_cons_unit_of_not_mem _ _ _ _ _ _ rfl (0 : Fin 3) (Or.inl (show (0 : ℕ) < 1 by decide))]
    refine (View.read_writes_cons_unit_of_mem _ _ _ _ _ _ (ix3 0 d e) rfl (by intro a; fin_cases a <;> simp)).trans ?_
    exact (headIn0 HB HS).cnew d e

/-- The normaliser after the first chunk. -/
theorem nA (c : Dev nD) (t : Fin cfg0.N) (h : t.val % 128 = 0)
    (HB : Blk X W B ib fb NG 0 (X0_0 m c t) (X0_1 m c t) (X0_2 m c t) (iblk m c 3 t) (iblk m c 4 t) (iblk m c 5 t) (iblk m c 6 t) (iblk m c 7 t)) (hd : Fin 4) (d : Fin 128) :
    ((outsAt0 m c t.val t.isLt).2.2.2.1 : FVec Ideal S8x128 .f32) (ix2 ⟨hd.val, by omega⟩ d) = (Mlstm.state X W B ib fb hd 1).2.1 d := by
  rw [outsAt0_A m c t h]
  dsimp only
  generalize X0_0 m c t = x0 at *
  generalize X0_1 m c t = x1 at *
  generalize X0_2 m c t = x2 at *
  generalize iblk m c 3 t = x3 at *
  generalize iblk m c 4 t = x4 at *
  generalize iblk m c 5 t = x5 at *
  generalize iblk m c 6 t = x6 at *
  generalize iblk m c 7 t = x7 at *
  have HS := St.start X W B ib fb
  frame_out
  simp only [fill2, fill3]
  rw [← View.read_writes_junk_eq_canon (View.whole cc0_scratch2)]
  match hd with
  | 3 =>
    refine (View.read_writes_cons_rows_of_mem _ _ _ _ _ _ (ix2 0 d) (o := 3) rfl (by rfl) (by rfl)).trans ?_
    exact (headIn3 HB HS).nnew d
  | 2 =>
    rw [View.read_writes_cons_rows_of_not_mem _ _ _ _ _ _ rfl (o := 3) (W := 1) rfl (Or.inl (show (2 : ℕ) < 3 by decide))]
    refine (View.read_writes_cons_rows_of_mem _ _ _ _ _ _ (ix2 0 d) (o := 2) rfl (by rfl) (by rfl)).trans ?_
    exact (headIn2 HB HS).nnew d
  | 1 =>
    rw [View.read_writes_cons_rows_of_not_mem _ _ _ _ _ _ rfl (o := 3) (W := 1) rfl (Or.inl (show (1 : ℕ) < 3 by decide))]
    rw [View.read_writes_cons_rows_of_not_mem _ _ _ _ _ _ rfl (o := 2) (W := 1) rfl (Or.inl (show (1 : ℕ) < 2 by decide))]
    refine (View.read_writes_cons_rows_of_mem _ _ _ _ _ _ (ix2 0 d) (o := 1) rfl (by rfl) (by rfl)).trans ?_
    exact (headIn1 HB HS).nnew d
  | 0 =>
    rw [View.read_writes_cons_rows_of_not_mem _ _ _ _ _ _ rfl (o := 3) (W := 1) rfl (Or.inl (show (0 : ℕ) < 3 by decide))]
    rw [View.read_writes_cons_rows_of_not_mem _ _ _ _ _ _ rfl (o := 2) (W := 1) rfl (Or.inl (show (0 : ℕ) < 2 by decide))]
    rw [View.read_writes_cons_rows_of_not_mem _ _ _ _ _ _ rfl (o := 1) (W := 1) rfl (Or.inl (show (0 : ℕ) < 1 by decide))]
    refine (View.read_writes_cons_rows_of_mem _ _ _ _ _ _ (ix2 0 d) (o := 0) rfl (by rfl) (by rfl)).trans ?_
    exact (headIn0 HB HS).nnew d

/-- The stabiliser after the first chunk. -/
theorem mA (c : Dev nD) (t : Fin cfg0.N) (h : t.val % 128 = 0)
    (HB : Blk X W B ib fb NG 0 (X0_0 m c t) (X0_1 m c t) (X0_2 m c t) (iblk m c 3 t) (iblk m c 4 t) (iblk m c 5 t) (iblk m c 6 t) (iblk m c 7 t)) (hd : Fin 4) (d : Fin 128) :
    ((outsAt0 m c t.val t.isLt).2.2.2.2 : FVec Ideal S8x128 .f32) (ix2 ⟨hd.val, by omega⟩ d) = (Mlstm.state X W B ib fb hd 1).2.2 := by
  rw [outsAt0_A m c t h]
  dsimp only
  generalize X0_0 m c t = x0 at *
  generalize X0_1 m c t = x1 at *
  generalize X0_2 m c t = x2 at *
  generalize iblk m c 3 t = x3 at *
  generalize iblk m c 4 t = x4 at *
  generalize iblk m c 5 t = x5 at *
  generalize iblk m c 6 t = x6 at *
  generalize iblk m c 7 t = x7 at *
  have HS := St.start X W B ib fb
  frame_out
  simp only [fill2, fill3]
  rw [← View.read_writes_junk_eq_canon (View.whole cc0_scratch3)]
  match hd with
  | 3 =>
    refine (View.read_writes_cons_rows_of_mem _ _ _ _ _ _ (ix2 0 d) (o := 3) rfl (by rfl) (by rfl)).trans ?_
    exact (headIn3 HB HS).mnew d
  | 2 =>
    rw [View.read_writes_cons_rows_of_not_mem _ _ _ _ _ _ rfl (o := 3) (W := 1) rfl (Or.inl (show (2 : ℕ) < 3 by decide))]
    refine (View.read_writes_cons_rows_of_mem _ _ _ _ _ _ (ix2 0 d) (o := 2) rfl (by rfl) (by rfl)).trans ?_
    exact (headIn2 HB HS).mnew d
  | 1 =>
    rw [View.read_writes_cons_rows_of_not_mem _ _ _ _ _ _ rfl (o := 3) (W := 1) rfl (Or.inl (show (1 : ℕ) < 3 by decide))]
    rw [View.read_writes_cons_rows_of_not_mem _ _ _ _ _ _ rfl (o := 2) (W := 1) rfl (Or.inl (show (1 : ℕ) < 2 by decide))]
    refine (View.read_writes_cons_rows_of_mem _ _ _ _ _ _ (ix2 0 d) (o := 1) rfl (by rfl) (by rfl)).trans ?_
    exact (headIn1 HB HS).mnew d
  | 0 =>
    rw [View.read_writes_cons_rows_of_not_mem _ _ _ _ _ _ rfl (o := 3) (W := 1) rfl (Or.inl (show (0 : ℕ) < 3 by decide))]
    rw [View.read_writes_cons_rows_of_not_mem _ _ _ _ _ _ rfl (o := 2) (W := 1) rfl (Or.inl (show (0 : ℕ) < 2 by decide))]
    rw [View.read_writes_cons_rows_of_not_mem _ _ _ _ _ _ rfl (o := 1) (W := 1) rfl (Or.inl (show (0 : ℕ) < 1 by decide))]
    refine (View.read_writes_cons_rows_of_mem _ _ _ _ _ _ (ix2 0 d) (o := 0) rfl (by rfl) (by rfl)).trans ?_
    exact (headIn0 HB HS).mnew d
end Cert.KernelIdeal.Rd
-- ==== Proof.Blocks.lean ====
module

public import proofs.«01_k».proof.Proof.StepA
public import proofs.«01_k».proof.Proof.StepB
public import Idealize.ShloMosaic.Lib.Pipeline.ValueKit
set_option maxRecDepth 16384
@[expose] public noncomputable section
open Idealize.ShloMosaic Idealize.ShloMosaic.TcCoe Idealize.SL.Sem
open Idealize.ShloMosaic.Pipeline (Dat)
namespace Cert.KernelIdeal.Rd
open Cert.KernelIdeal Cert.KernelIdeal.Gen
variable (m : (ℓ : Loc nD τ sig) → Buf (Elt Ideal) ℓ)

/-- The projection's entries as launched. -/
def aX (c : Dev nD) : Fin 16384 → Fin 5376 → EReal :=
  fun r j => (m ((c : Thread nD τ).loc main_arg0) : FVec Ideal S16384x5376 .f32) (ix2 r j)
/-- The convolution's weights as launched. -/
def aW (c : Dev nD) : Fin 4 → Fin 1024 → EReal :=
  fun a j => (m ((c : Thread nD τ).loc main_arg1) : FVec Ideal S4x1024 .f32) (ix2 a j)
/-- The convolution's bias as launched. -/
def aB (c : Dev nD) : Fin 1024 → EReal :=
  fun j => (m ((c : Thread nD τ).loc main_arg2) : FVec Ideal S1024 .f32) (ix1 j)
/-- The input gates' bias as launched. -/
def aI (c : Dev nD) : Fin 4 → EReal :=
  fun h => (m ((c : Thread nD τ).loc main_arg3) : FVec Ideal S4 .f32) (ix1 h)
/-- The forget gates' bias as launched. -/
def aF (c : Dev nD) : Fin 4 → EReal :=
  fun h => (m ((c : Thread nD τ).loc main_arg4) : FVec Ideal S4 .f32) (ix1 h)
/-- The norm's gains as launched. -/
def aN (c : Dev nD) : Fin 4 → Fin 128 → EReal :=
  fun h e => (m ((c : Thread nD τ).loc main_arg5) : FVec Ideal S4x128 .f32) (ix2 h e)

/-- Where each window's block of each point lies, decided over the grid. -/
theorem idx : ∀ t : Fin cfg0.N, win0_0.index t = ![t.val, 0] ∧ win0_1.index t = ![t.val, 4] ∧ win0_2.index t = ![t.val, 5]
    ∧ win0_3.index t = ![t.val, 40] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- The convolution's bias as the blocks find it. -/
theorem v4_at (c : Dev nD) (j : Fin 1024) : (V m c main_v4 : FVec Ideal S1x1024 .f32) (ix2 0 j) = aB m c j := by
  unfold aB
  entry_read
  pointwise
/-- The input gates' bias in the row of the gates' biases. -/
theorem v3_i (c : Dev nD) (h : Fin 4) : (V m c main_v3 : FVec Ideal S1x128 .f32) (ix2 0 ⟨h.val, by omega⟩) = aI m c h := by
  unfold aI
  entry_read
  pointwise
  rw [dif_pos (by omega)]
/-- The forget gates' bias in the row of the gates' biases. -/
theorem v3_f (c : Dev nD) (h : Fin 4) : (V m c main_v3 : FVec Ideal S1x128 .f32) (ix2 0 ⟨4 + h.val, by omega⟩) = aF m c h := by
  unfold aF
  entry_read
  pointwise
  rw [dif_pos (by omega)]
/-- The norm's gains in one row, head after head. -/
theorem v5_at (c : Dev nD) (h : Fin 4) (e : Fin 128) :
    (V m c main_v5 : FVec Ideal S1x512 .f32) (ix2 0 ⟨h.val * 128 + e.val, by omega⟩) = aN m c h e := by
  unfold aN
  entry_read
  pointwise
/-- The queries' and keys' columns of a chunk. -/
theorem blk0 (c : Dev nD) (t : Fin cfg0.N) (l : Fin 128) (j : Fin 1024) :
    X0_0 m c t (ix2 l j) = aX m c (Mlstm.row t.val l) ⟨j.val, by omega⟩ := by
  unfold aX Mlstm.row
  have ht : t.val < 128 := lt_of_lt_of_eq t.isLt N_0
  unfold X0_0 Pipeline.Window.fill
  rw [dif_pos (moved0_0 t _)]
  blk_ext [iblk, V, idx t]
/-- The values' columns of a chunk. -/
theorem blk1 (c : Dev nD) (t : Fin cfg0.N) (l : Fin 128) (j : Fin 512) :
    X0_1 m c t (ix2 l j) = aX m c (Mlstm.row t.val l) ⟨2048 + j.val, by omega⟩ := by
  unfold aX Mlstm.row
  have ht : t.val < 128 := lt_of_lt_of_eq t.isLt N_0
  unfold X0_1 Pipeline.Window.fill
  rw [dif_pos (moved0_1 t _)]
  blk_ext [iblk, V, idx t]
/-- The output gates' columns of a chunk. -/
theorem blk2 (c : Dev nD) (t : Fin cfg0.N) (l : Fin 128) (j : Fin 512) :
    X0_2 m c t (ix2 l j) = aX m c (Mlstm.row t.val l) ⟨2560 + j.val, by omega⟩ := by
  unfold aX Mlstm.row
  have ht : t.val < 128 := lt_of_lt_of_eq t.isLt N_0
  unfold X0_2 Pipeline.Window.fill
  rw [dif_pos (moved0_2 t _)]
  blk_ext [iblk, V, idx t]
/-- The input and forget gates' columns of a chunk. -/
theorem blk3 (c : Dev nD) (t : Fin cfg0.N) (l : Fin 128) (j : Fin 128) :
    (iblk m c 3 t : Vec Ideal S128x128 .f32) (ix2 l j) = aX m c (Mlstm.row t.val l) ⟨5120 + j.val, by omega⟩ := by
  unfold aX Mlstm.row
  have ht : t.val < 128 := lt_of_lt_of_eq t.isLt N_0
  blk_ext [iblk, V, idx t]
/-- The convolution's weights, the same at every chunk. -/
theorem blk4 (c : Dev nD) (t : Fin cfg0.N) (a : Fin 4) (j : Fin 1024) :
    (iblk m c 4 t : Vec Ideal S4x1024 .f32) (ix2 a j) = aW m c a j := by
  unfold aW
  blk_ext [iblk, V, idx t]
/-- The convolution's bias, the same at every chunk. -/
theorem blk5 (c : Dev nD) (t : Fin cfg0.N) (j : Fin 1024) :
    (iblk m c 5 t : Vec Ideal S1x1024 .f32) (ix2 0 j) = V m c main_v4 (ix2 0 j) := by
  blk_ext [iblk, idx t]
/-- The gates' biases, the same at every chunk. -/
theorem blk6 (c : Dev nD) (t : Fin cfg0.N) (j : Fin 128) :
    (iblk m c 6 t : Vec Ideal S1x128 .f32) (ix2 0 j) = V m c main_v3 (ix2 0 j) := by
  blk_ext [iblk, idx t]
/-- The norm's gains, the same at every chunk. -/
theorem blk7 (c : Dev nD) (t : Fin cfg0.N) (j : Fin 512) :
    (iblk m c 7 t : Vec Ideal S1x512 .f32) (ix2 0 j) = V m c main_v5 (ix2 0 j) := by
  blk_ext [iblk, idx t]

/-- The blocks of point `t` are chunk `t` of the arguments. -/
theorem blks (c : Dev nD) (t : Fin cfg0.N) :
    Blk (aX m c) (aW m c) (aB m c) (aI m c) (aF m c) (aN m c) t.val (X0_0 m c t) (X0_1 m c t) (X0_2 m c t)
      (iblk m c 3 t) (iblk m c 4 t) (iblk m c 5 t) (iblk m c 6 t) (iblk m c 7 t) where
  x0 := blk0 m c t
  x1 := blk1 m c t
  x2 := blk2 m c t
  x3 := blk3 m c t
  x4 := blk4 m c t
  x5 j := (blk5 m c t j).trans (v4_at m c j)
  x6i h := (blk6 m c t _).trans (v3_i m c h)
  x6f h := (blk6 m c t _).trans (v3_f m c h)
  x7 h e := (blk7 m c t _).trans (v5_at m c h e)

/-- The scratch buffers after point `t` hold what chunk `t + 1` needs. -/
def After (c : Dev nD) (t : ℕ) (ht : t < cfg0.N) : Prop :=
  St (aX m c) (aW m c) (aB m c) (aI m c) (aF m c) (t + 1) (outsAt0 m c t ht).2.1 (outsAt0 m c t ht).2.2.1
    (outsAt0 m c t ht).2.2.2.1 (outsAt0 m c t ht).2.2.2.2

/-- The last rows of a chunk are the rows before the next one. -/
theorem tail_next {X : Fin 16384 → Fin 5376 → EReal} {t : ℕ} (ht : t + 1 < 128) {s : Vec Ideal S8x1024 .f32}
    (hs : ∀ (r : Fin 8) (j : Fin 1024), s (ix2 r j) = X (Mlstm.row t ⟨120 + r.val, by omega⟩) ⟨j.val, by omega⟩)
    (d : ℕ) (hd : 1 ≤ d ∧ d ≤ 3) (j : Fin 1024) : s (ix2 ⟨8 - d, by omega⟩ j) = Mlstm.back X d (Mlstm.row (t + 1) 0) j := by
  rw [hs, back_next X t ht d ⟨hd.1, by omega⟩ j]
  congr 2
  apply Fin.ext
  simp only
  omega

/-- After every point but the last, the scratch buffers hold what the next chunk needs. -/
theorem after_all (c : Dev nD) (t : ℕ) : ∀ (ht : t < cfg0.N), t + 1 < 128 → After m c t ht := by
  induction t with
  | zero =>
    intro ht h1
    have HB := blks m c ⟨0, ht⟩
    have h0 : (⟨0, ht⟩ : Fin cfg0.N).val % 128 = 0 := rfl
    exact { tail := tail_next h1 (tailA m c ⟨0, ht⟩ h0 HB)
            hc := cA m c ⟨0, ht⟩ h0 HB
            hn := nA m c ⟨0, ht⟩ h0 HB
            hm := fun h => mA m c ⟨0, ht⟩ h0 HB h 0 }
  | succ t ih =>
    intro ht h1
    have HS := ih (Nat.lt_of_succ_lt ht) (by omega)
    have HB := blks m c ⟨t + 1, ht⟩
    have h0 : ¬ (⟨t + 1, ht⟩ : Fin cfg0.N).val % 128 = 0 := by
      show ¬ (t + 1) % 128 = 0
      omega
    exact { tail := tail_next h1 (tailB m c ⟨t + 1, ht⟩ h0 HB HS)
            hc := cB m c ⟨t + 1, ht⟩ h0 HB HS
            hn := nB m c ⟨t + 1, ht⟩ h0 HB HS
            hm := fun h => mB m c ⟨t + 1, ht⟩ h0 HB HS h 0 }

/-- Point `t` leaves rows `t * 128 …` of the specification. -/
theorem out_all (c : Dev nD) (t : Fin cfg0.N) (y : S128x512.Idx) :
    (outsAt0 m c t.val t.isLt).1 y
      = resN (aX m c) (aW m c) (aB m c) (aI m c) (aF m c) (aN m c) t.val (y 0).val (y 1).val := by
  have ht : t.val < 128 := lt_of_lt_of_eq t.isLt N_0
  have HB := blks m c t
  by_cases h : t.val = 0
  · have h0 : t.val % 128 = 0 := by omega
    have := outA m c t h0 (by rw [← h]; exact HB) y
    rw [this, h]
  · have h0 : ¬ t.val % 128 = 0 := by omega
    have HS := after_all m c (t.val - 1) (Nat.lt_of_le_of_lt (Nat.sub_le _ _) t.isLt) (by omega)
    unfold After at HS
    rw [show t.val - 1 + 1 = t.val by omega] at HS
    exact outB m c t h0 HB HS y

/-- The result array after the run. -/
def resArr (c : Dev nD) : FVec Ideal S16384x512 .bf16 :=
  fun i => resN (aX m c) (aW m c) (aB m c) (aI m c) (aF m c) (aN m c) ((i 0).val / 128) ((i 0).val % 128) (i 1).val
/-- Every chunk's rows are written once, so the result array is the specification's. -/
theorem final (c : Dev nD) : (dats m 0 c).arrAt 8 cfg0.N = resArr m c := by
  refine (dats m 0 c).arrAt_eq_of_covers 8 _ (by decide +kernel) fun t _ y => ?_
  blk_simp
  rw [after0_8, out_all]
  unfold resArr
  have hy : (y 0).val < 128 := (y 0).isLt
  have h0 : ((win0_8.blk t).view.emb y 0).val = t.val * 128 + (y 0).val := by blk_simp [idx t]
  have h1 : ((win0_8.blk t).view.emb y 1).val = (y 1).val := by blk_simp [idx t]
  rw [h0, h1, show (t.val * 128 + (y 0).val) / 128 = t.val by omega, show (t.val * 128 + (y 0).val) % 128 = (y 0).val by omega]
-- ==== Proof.RefSum.lean ====
module

public import proofs.«01_k».proof.Proof.Gen.ReferenceIdeal.Run
public import proofs.«01_k».proof.Proof.Spec
public import Idealize.ShloMosaic.Lib.Pointwise
set_option maxRecDepth 16384
@[expose] public noncomputable section
open Idealize.ShloMosaic Idealize.ShloMosaic.TcCoe Idealize.SL.Sem Idealize.ShloMosaic.StableHlo
namespace Cert.ReferenceIdeal.Rd
open Cert.ReferenceIdeal Cert.ReferenceIdeal.Gen Cert.ReferenceIdeal.Value

/-- The logarithm of one plus an exponential is not minus infinity. -/
theorem log1p_exp_ne_bot (y : EReal) : Ideal.log1p (Ideal.exp y) ≠ ⊥ := by
  unfold Ideal.log1p
  induction y using EReal.rec with
  | bot =>
    rw [Ideal.exp_bot, add_zero, ← EReal.coe_one, Ideal.log_coe, if_neg (by norm_num)]
    exact EReal.coe_ne_bot _
  | coe r =>
    have hr := Real.exp_pos r
    rw [Ideal.exp_coe, ← EReal.coe_one, ← EReal.coe_add, Ideal.log_coe, if_neg (by linarith)]
    exact EReal.coe_ne_bot _
  | top =>
    rw [Ideal.exp_top, EReal.add_top_of_ne_bot (show (1 : EReal) ≠ ⊥ from EReal.coe_ne_bot 1), Ideal.log_top]
    exact top_ne_bot

/-- The log-sigmoid as a negated softplus of the negated argument is the log-sigmoid of the formulas. -/
theorem logsig_eq (x : EReal) :
    (-if -x ≠ -x then -x else max (-x) 0 + Ideal.log1p (Ideal.exp (-FloatOps.absf (F := Ideal) (φ := .f32) (-x)))) = Mlstm.logsig x := by
  rw [if_neg (fun h => h rfl)]
  unfold Mlstm.logsig
  have ha : FloatOps.absf (F := Ideal) (φ := .f32) (-x) = FloatOps.absf (F := Ideal) (φ := .f32) x := by
    show max (-x) (- -x) = max x (-x)
    rw [neg_neg, max_comm]
  rw [ha, zero_sub, EReal.neg_add, sub_eq_add_neg, sub_eq_add_neg]
  · congr 1
    rcases le_total x 0 with h | h
    · rw [min_eq_left h, max_eq_left (EReal.neg_nonneg.mpr h), neg_neg]
    · rw [min_eq_right h, max_eq_right ((EReal.neg_le_neg_iff.mpr h).trans_eq neg_zero), neg_zero]
  · exact Or.inl (ne_of_gt (lt_of_lt_of_le EReal.bot_lt_zero (le_max_right _ _)))
  · exact Or.inr (log1p_exp_ne_bot _)

/-- Adding a list of terms to a start, one after the other, adds their sum. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A window of 128 positions that ends at position `l`, what lies before the beginning counted as zero, holds the
    entries up to `l`. -/
theorem sum_window (f : Fin 128 → EReal) (l : Fin 128) :
    (∑ n : Fin 128, if h : 127 ≤ l.val + n.val ∧ l.val + n.val - 127 < 128 then f ⟨l.val + n.val - 127, h.2⟩ else 0)
      = ∑ s : Fin 128, if s.val ≤ l.val then f s else 0 := by
  have h1 : ∀ n : Fin 128, (if h : 127 ≤ l.val + n.val ∧ l.val + n.val - 127 < 128 then f ⟨l.val + n.val - 127, h.2⟩ else 0)
      = if 127 ≤ l.val + n.val then f ⟨(l.val + n.val - 127) % 128, Nat.mod_lt _ (by decide)⟩ else 0 := by
    intro n
    by_cases h : 127 ≤ l.val + n.val
    · rw [dif_pos ⟨h, by omega⟩, if_pos h]
      congr 1
      apply Fin.ext
      show l.val + n.val - 127 = (l.val + n.val - 127) % 128
      omega
    · rw [dif_neg (fun h' => h h'.1), if_neg h]
  rw [Finset.sum_congr rfl fun n _ => h1 n, ← Finset.sum_filter, ← Finset.sum_filter]
  refine Finset.sum_bij' (fun n _ => ⟨(l.val + n.val - 127) % 128, Nat.mod_lt _ (by decide)⟩)
    (fun s _ => ⟨(s.val + 127 - l.val) % 128, Nat.mod_lt _ (by decide)⟩) ?_ ?_ ?_ ?_ ?_
  · intro n hn
    simp only [Finset.mem_filter, Finset.mem_univ, true_and] at hn ⊢
    omega
  · intro s hs
    simp only [Finset.mem_filter, Finset.mem_univ, true_and] at hs ⊢
    omega
  · intro n hn
    simp only [Finset.mem_filter, Finset.mem_univ, true_and] at hn
    apply Fin.ext
    simp only
    omega
  · intro s hs
    simp only [Finset.mem_filter, Finset.mem_univ, true_and] at hs
    apply Fin.ext
    simp only
    omega
  · intro n hn
    rfl

/-- The running sum along the last axis. -/
theorem cumsum_at (x : FVec Ideal S4x128x128 .f32) (v : FVec Ideal S_ .f32) (hv : ∀ i, v i = 0) (hw) (hu) (h : Fin 4) (c l : Fin 128) :
    Host.reduceWindowAdd ![1, 1, 128] ![1, 1, 1] ![0, 0, 127] ![0, 0, 0] x v hw hu (ix3 h c l)
      = ∑ s : Fin 128, if s.val ≤ l.val then x (ix3 h c s) else 0 := by
  rw [← sum_window]
  unfold Host.reduceWindowAdd
  rw [Ideal.hostReduceWindowAdd_def]
  unfold Ideal.hostReduceWindowAdd Host.reduceWindow
  simp only
  rw [foldl_add, hv, zero_add, ← Fin.sum_univ_def]
  refine (Equiv.sum_comp (Shape.rowMajor (⟨3, ![1, 1, 128]⟩ : Shape)).symm (fun i : (⟨3, ![1, 1, 128]⟩ : Shape).Idx =>
    if hin : ∀ a : Fin 3, (![0, 0, 127] : Fin 3 → ℕ) a ≤ ((ix3 h c l : S4x128x128.Idx) a).val * (![1, 1, 1] : Fin 3 → ℕ) a + (i a).val
        ∧ ((ix3 h c l : S4x128x128.Idx) a).val * (![1, 1, 1] : Fin 3 → ℕ) a + (i a).val - (![0, 0, 127] : Fin 3 → ℕ) a < S4x128x128.size a
      then x (fun a => ⟨((ix3 h c l : S4x128x128.Idx) a).val * (![1, 1, 1] : Fin 3 → ℕ) a + (i a).val - (![0, 0, 127] : Fin 3 → ℕ) a, (hin a).2⟩)
      else (0 : EReal))).trans ?_
  rw [sum_idx3]
  simp only [Finset.univ_unique, Finset.sum_singleton]
  refine Finset.sum_congr rfl fun n _ => ?_
  by_cases hn : 127 ≤ l.val + n.val ∧ l.val + n.val - 127 < 128
  · rw [dif_pos hn, dif_pos (fun a => by
      match a with
      | ⟨0, _⟩ => show 0 ≤ h.val * 1 + 0 ∧ h.val * 1 + 0 - 0 < 4; omega
      | ⟨1, _⟩ => show 0 ≤ c.val * 1 + 0 ∧ c.val * 1 + 0 - 0 < 128; omega
      | ⟨2, _⟩ => show 127 ≤ l.val * 1 + n.val ∧ l.val * 1 + n.val - 127 < 128; omega)]
    refine congrArg x (funext fun a => Fin.ext ?_)
    match a with
    | ⟨0, _⟩ => show h.val * 1 + 0 - 0 = h.val; omega
    | ⟨1, _⟩ => show c.val * 1 + 0 - 0 = c.val; omega
    | ⟨2, _⟩ => show l.val * 1 + n.val - 127 = l.val + n.val - 127; omega
  · rw [dif_neg hn, dif_neg]
    intro hin
    have h2 : 127 ≤ l.val * 1 + n.val ∧ l.val * 1 + n.val - 127 < 128 := hin (2 : Fin 3)
    omega
-- ==== Proof.RefStep.lean ====
module

public import proofs.«01_k».proof.Proof.Gen.ReferenceIdeal.Run
public import proofs.«01_k».proof.Proof.Spec
public import Idealize.ShloMosaic.Lib.DynamicIndex
public import Idealize.ShloMosaic.Lib.Pointwise

/-! # One trip of the reference's loop

The carried buffers after a trip, entry by entry, when the loop's counter holds `k`: the state is multiplied by its
decay and the chunk's own contribution is added, and the state before the chunk is written to row `k` of the stack. -/

set_option maxRecDepth 16384
@[expose] public noncomputable section
open Idealize.ShloMosaic Idealize.ShloMosaic.TcCoe Idealize.SL.Sem Idealize.ShloMosaic.StableHlo

namespace Cert.ReferenceIdeal.Rd
open Cert.ReferenceIdeal Cert.ReferenceIdeal.Gen Cert.ReferenceIdeal.Value
variable (σ : Valuation τ sig (Elt Ideal)) (k : Fin 128)

/-- A counter below 128 read as an integer is itself. -/
theorem ofNat_toInt (k : Fin 128) : (BitVec.ofNat 32 k.val).toInt = (k.val : ℤ) := by
  revert k; decide

/-- A slice of one row of a matrix, at row `k`. -/
theorem slice2 (x : FVec Ideal S128x4 .f32) (st : Fin 2 → ℤ) (hf) (hc) (h0 : st 0 = k.val) (h1 : st 1 = 0) (h : Fin 4) :
    shapeCast S4 (Host.dynamicSlice S1x4 x st hf) hc (ix1 h) = x (ix2 k h) := by
  rw [Host.dynamicSlice_eq_extractStridedSlice (s := S128x4) S1x4 _ _ ![k.val, 0] _
    ⟨rfl, fun a => by
      match a with
      | ⟨0, _⟩ => show k.val + 1 ≤ 128; omega
      | ⟨1, _⟩ => show 0 + 4 ≤ 4; omega⟩
    (fun a => by
      match a with
      | ⟨0, _⟩ => exact h0
      | ⟨1, _⟩ => exact h1)]
  pointwise

/-- A slice of one row of a stack of vectors, at row `k`. -/
theorem slice3 (x : FVec Ideal S128x4x128 .f32) (st : Fin 3 → ℤ) (hf) (hc) (h0 : st 0 = k.val) (h1 : st 1 = 0)
    (h2 : st 2 = 0) (h : Fin 4) (d : Fin 128) :
    shapeCast S4x128 (Host.dynamicSlice S1x4x128 x st hf) hc (ix2 h d) = x (ix3 k h d) := by
  rw [Host.dynamicSlice_eq_extractStridedSlice (s := S128x4x128) S1x4x128 _ _ ![k.val, 0, 0] _
    ⟨rfl, fun a => by
      match a with
      | ⟨0, _⟩ => show k.val + 1 ≤ 128; omega
      | ⟨1, _⟩ => show 0 + 4 ≤ 4; omega
      | ⟨2, _⟩ => show 0 + 128 ≤ 128; omega⟩
    (fun a => by
      match a with
      | ⟨0, _⟩ => exact h0
      | ⟨1, _⟩ => exact h1
      | ⟨2, _⟩ => exact h2)]
  pointwise

/-- A slice of one row of a stack of matrices, at row `k`. -/
theorem slice4 (x : FVec Ideal S128x4x128x128 .f32) (st : Fin 4 → ℤ) (hf) (hc) (h0 : st 0 = k.val) (h1 : st 1 = 0)
    (h2 : st 2 = 0) (h3 : st 3 = 0) (h : Fin 4) (d e : Fin 128) :
    shapeCast S4x128x128 (Host.dynamicSlice S1x4x128x128 x st hf) hc (ix3 h d e) = x (ix4 k h d e) := by
  rw [Host.dynamicSlice_eq_extractStridedSlice (s := S128x4x128x128) S1x4x128x128 _ _ ![k.val, 0, 0, 0] _
    ⟨rfl, fun a => by
      match a with
      | ⟨0, _⟩ => show k.val + 1 ≤ 128; omega
      | ⟨1, _⟩ => show 0 + 4 ≤ 4; omega
      | ⟨2, _⟩ => show 0 + 128 ≤ 128; omega
      | ⟨3, _⟩ => show 0 + 128 ≤ 128; omega⟩
    (fun a => by
      match a with
      | ⟨0, _⟩ => exact h0
      | ⟨1, _⟩ => exact h1
      | ⟨2, _⟩ => exact h2
      | ⟨3, _⟩ => exact h3)]
  pointwise

/-- An update of row `k` of a matrix. -/
theorem upd2 (x : FVec Ideal S128x4 .f32) (y : FVec Ideal S4 .f32) (st : Fin 2 → ℤ) (hf) (hb) (h0 : st 0 = k.val)
    (h1 : st 1 = 0) (c : Fin 128) (h : Fin 4) :
    Host.dynamicUpdateSlice x (broadcastInDim S1x4 ![1] hb y) st hf (ix2 c h)
      = if c = k then y (ix1 h) else x (ix2 c h) := by
  rw [Host.dynamicUpdateSlice_eq_updateSlice (s := S128x4) (u := S1x4) x _ st _ ![k.val, 0] (fun a => by
      match a with
      | ⟨0, _⟩ => show (min (max (st 0) 0) ((128 - 1 : ℕ) : ℤ)).toNat = k.val; rw [h0]; omega
      | ⟨1, _⟩ => show (min (max (st 1) 0) ((4 - 4 : ℕ) : ℤ)).toNat = 0; rw [h1]; rfl)
    ⟨rfl, fun a => by
      match a with
      | ⟨0, _⟩ => show k.val + 1 ≤ 128; omega
      | ⟨1, _⟩ => show 0 + 4 ≤ 4; omega⟩]
  unfold updateSlice
  by_cases hck : c = k
  · rw [if_pos hck, dif_pos (fun a => by
      match a with
      | ⟨0, _⟩ => show k.val ≤ c.val ∧ c.val < k.val + 1; rw [hck]; omega
      | ⟨1, _⟩ => show 0 ≤ h.val ∧ h.val < 0 + 4; omega)]
    refine congrArg y (funext fun a => ?_)
    match a with
    | ⟨0, _⟩ => exact Fin.ext (show h.val - 0 = h.val by omega)
  · rw [if_neg hck, dif_neg]
    intro hin
    have := hin 0
    have h' : k.val ≤ c.val ∧ c.val < k.val + 1 := this
    exact hck (Fin.ext (by omega))

/-- An update of row `k` of a stack of vectors. -/
theorem upd3 (x : FVec Ideal S128x4x128 .f32) (y : FVec Ideal S4x128 .f32) (st : Fin 3 → ℤ) (hf) (hb) (h0 : st 0 = k.val)
    (h1 : st 1 = 0) (h2 : st 2 = 0) (c : Fin 128) (h : Fin 4) (d : Fin 128) :
    Host.dynamicUpdateSlice x (broadcastInDim S1x4x128 ![1, 2] hb y) st hf (ix3 c h d)
      = if c = k then y (ix2 h d) else x (ix3 c h d) := by
  rw [Host.dynamicUpdateSlice_eq_updateSlice (s := S128x4x128) (u := S1x4x128) x _ st _ ![k.val, 0, 0] (fun a => by
      match a with
      | ⟨0, _⟩ => show (min (max (st 0) 0) ((128 - 1 : ℕ) : ℤ)).toNat = k.val; rw [h0]; omega
      | ⟨1, _⟩ => show (min (max (st 1) 0) ((4 - 4 : ℕ) : ℤ)).toNat = 0; rw [h1]; rfl
      | ⟨2, _⟩ => show (min (max (st 2) 0) ((128 - 128 : ℕ) : ℤ)).toNat = 0; rw [h2]; rfl)
    ⟨rfl, fun a => by
      match a with
      | ⟨0, _⟩ => show k.val + 1 ≤ 128; omega
      | ⟨1, _⟩ => show 0 + 4 ≤ 4; omega
      | ⟨2, _⟩ => show 0 + 128 ≤ 128; omega⟩]
  unfold updateSlice
  by_cases hck : c = k
  · rw [if_pos hck, dif_pos (fun a => by
      match a with
      | ⟨0, _⟩ => show k.val ≤ c.val ∧ c.val < k.val + 1; rw [hck]; omega
      | ⟨1, _⟩ => show 0 ≤ h.val ∧ h.val < 0 + 4; omega
      | ⟨2, _⟩ => show 0 ≤ d.val ∧ d.val < 0 + 128; omega)]
    refine congrArg y (funext fun a => ?_)
    match a with
    | ⟨0, _⟩ => exact Fin.ext (show h.val - 0 = h.val by omega)
    | ⟨1, _⟩ => exact Fin.ext (show d.val - 0 = d.val by omega)
  · rw [if_neg hck, dif_neg]
    intro hin
    have h' : k.val ≤ c.val ∧ c.val < k.val + 1 := hin 0
    exact hck (Fin.ext (by omega))

/-- An update of row `k` of a stack of matrices. -/
theorem upd4 (x : FVec Ideal S128x4x128x128 .f32) (y : FVec Ideal S4x128x128 .f32) (st : Fin 4 → ℤ) (hf) (hb)
    (h0 : st 0 = k.val) (h1 : st 1 = 0) (h2 : st 2 = 0) (h3 : st 3 = 0) (c : Fin 128) (h : Fin 4) (d e : Fin 128) :
    Host.dynamicUpdateSlice x (broadcastInDim S1x4x128x128 ![1, 2, 3] hb y) st hf (ix4 c h d e)
      = if c = k then y (ix3 h d e) else x (ix4 c h d e) := by
  rw [Host.dynamicUpdateSlice_eq_updateSlice (s := S128x4x128x128) (u := S1x4x128x128) x _ st _ ![k.val, 0, 0, 0] (fun a => by
      match a with
      | ⟨0, _⟩ => show (min (max (st 0) 0) ((128 - 1 : ℕ) : ℤ)).toNat = k.val; rw [h0]; omega
      | ⟨1, _⟩ => show (min (max (st 1) 0) ((4 - 4 : ℕ) : ℤ)).toNat = 0; rw [h1]; rfl
      | ⟨2, _⟩ => show (min (max (st 2) 0) ((128 - 128 : ℕ) : ℤ)).toNat = 0; rw [h2]; rfl
      | ⟨3, _⟩ => show (min (max (st 3) 0) ((128 - 128 : ℕ) : ℤ)).toNat = 0; rw [h3]; rfl)
    ⟨rfl, fun a => by
      match a with
      | ⟨0, _⟩ => show k.val + 1 ≤ 128; omega
      | ⟨1, _⟩ => show 0 + 4 ≤ 4; omega
      | ⟨2, _⟩ => show 0 + 128 ≤ 128; omega
      | ⟨3, _⟩ => show 0 + 128 ≤ 128; omega⟩]
  unfold updateSlice
  by_cases hck : c = k
  · rw [if_pos hck, dif_pos (fun a => by
      match a with
      | ⟨0, _⟩ => show k.val ≤ c.val ∧ c.val < k.val + 1; rw [hck]; omega
      | ⟨1, _⟩ => show 0 ≤ h.val ∧ h.val < 0 + 4; omega
      | ⟨2, _⟩ => show 0 ≤ d.val ∧ d.val < 0 + 128; omega
      | ⟨3, _⟩ => show 0 ≤ e.val ∧ e.val < 0 + 128; omega)]
    refine congrArg y (funext fun a => ?_)
    match a with
    | ⟨0, _⟩ => exact Fin.ext (show h.val - 0 = h.val by omega)
    | ⟨1, _⟩ => exact Fin.ext (show d.val - 0 = d.val by omega)
    | ⟨2, _⟩ => exact Fin.ext (show e.val - 0 = e.val by omega)
  · rw [if_neg hck, dif_neg]
    intro hin
    have h' : k.val ≤ c.val ∧ c.val < k.val + 1 := hin 0
    exact hck (Fin.ext (by omega))

/-- The chunks' own matrix contributions. -/
def b0 (c : Fin 128) (h : Fin 4) (d e : Fin 128) : EReal := (σ (Proc.devRef .tc main_v93_0) : FVec Ideal S128x4x128x128 .f32) (ix4 c h d e)
/-- The chunks' own normaliser contributions. -/
def b1 (c : Fin 128) (h : Fin 4) (d : Fin 128) : EReal := (σ (Proc.devRef .tc main_v93_1) : FVec Ideal S128x4x128 .f32) (ix3 c h d)
/-- The chunks' log decays. -/
def b2 (c : Fin 128) (h : Fin 4) : EReal := (σ (Proc.devRef .tc main_v93_2) : FVec Ideal S128x4 .f32) (ix2 c h)
/-- The chunks' largest log weights. -/
def b3 (c : Fin 128) (h : Fin 4) : EReal := (σ (Proc.devRef .tc main_v93_3) : FVec Ideal S128x4 .f32) (ix2 c h)
/-- The carried matrix state. -/
def b5 (h : Fin 4) (d e : Fin 128) : EReal := (σ (Proc.devRef .tc main_v93_5) : FVec Ideal S4x128x128 .f32) (ix3 h d e)
/-- The carried normaliser state. -/
def b6 (h : Fin 4) (d : Fin 128) : EReal := (σ (Proc.devRef .tc main_v93_6) : FVec Ideal S4x128 .f32) (ix2 h d)
/-- The carried stabiliser. -/
def b7 (h : Fin 4) : EReal := (σ (Proc.devRef .tc main_v93_7) : FVec Ideal S4 .f32) (ix1 h)
/-- The stack of matrix states. -/
def b8 (c : Fin 128) (h : Fin 4) (d e : Fin 128) : EReal := (σ (Proc.devRef .tc main_v93_8) : FVec Ideal S128x4x128x128 .f32) (ix4 c h d e)
/-- The stack of normaliser states. -/
def b9 (c : Fin 128) (h : Fin 4) (d : Fin 128) : EReal := (σ (Proc.devRef .tc main_v93_9) : FVec Ideal S128x4x128 .f32) (ix3 c h d)
/-- The stack of stabilisers. -/
def b10 (c : Fin 128) (h : Fin 4) : EReal := (σ (Proc.devRef .tc main_v93_10) : FVec Ideal S128x4 .f32) (ix2 c h)

/-- The counter holds `k`. -/
def Ctr (k : ℕ) : Prop := ∀ i, (σ (Proc.devRef .tc main_v93_4) : IVec S_ 32) i = BitVec.ofNat 32 k

/-- The start of a matrix's slice in the stack: the counter, then zeros. -/
def st4 : Fin 4 → ℤ := fun a => ((![σ (Proc.devRef .tc main_v93_4), constantI S_ 32 0#32, constantI S_ 32 0#32, constantI S_ 32 0#32] :
  Fin 4 → (⟨S_, .i32⟩ : BufTy).Contents (Elt Ideal)) a (Shape.Idx.first h_S_)).toInt
/-- The start of a vector's slice in the stack: the counter, then zeros. -/
def st3 : Fin 3 → ℤ := fun a => ((![σ (Proc.devRef .tc main_v93_4), constantI S_ 32 0#32, constantI S_ 32 0#32] :
  Fin 3 → (⟨S_, .i32⟩ : BufTy).Contents (Elt Ideal)) a (Shape.Idx.first h_S_)).toInt
/-- The start of a row's slice: the counter, then zero. -/
def st2 : Fin 2 → ℤ := fun a => ((![σ (Proc.devRef .tc main_v93_4), constantI S_ 32 0#32] :
  Fin 2 → (⟨S_, .i32⟩ : BufTy).Contents (Elt Ideal)) a (Shape.Idx.first h_S_)).toInt

/-- A stack of matrices scaled head by head and added to another. -/
theorem comb3 (a b : FVec Ideal S4 .f32) (p q : FVec Ideal S4x128x128 .f32) (h : Fin 4) (d e : Fin 128) :
    addf (mulf (broadcastInDim S4x128x128 ![0, 1, 2] bcast_S4x1x1_S4x128x128_0_1_2 (broadcastInDim S4x1x1 ![0] bcast_S4_S4x1x1_0 a)) p)
      (mulf (broadcastInDim S4x128x128 ![0, 1, 2] bcast_S4x1x1_S4x128x128_0_1_2 (broadcastInDim S4x1x1 ![0] bcast_S4_S4x1x1_0 b)) q) (ix3 h d e)
      = a (ix1 h) * p (ix3 h d e) + b (ix1 h) * q (ix3 h d e) := by
  pointwise
/-- A stack of vectors scaled head by head and added to another. -/
theorem comb2 (a b : FVec Ideal S4 .f32) (p q : FVec Ideal S4x128 .f32) (h : Fin 4) (d : Fin 128) :
    addf (mulf (broadcastInDim S4x128 ![0, 1] bcast_S4x1_S4x128_0_1 (broadcastInDim S4x1 ![0] bcast_S4_S4x1_0 a)) p)
      (mulf (broadcastInDim S4x128 ![0, 1] bcast_S4x1_S4x128_0_1 (broadcastInDim S4x1 ![0] bcast_S4_S4x1_0 b)) q) (ix2 h d)
      = a (ix1 h) * p (ix2 h d) + b (ix1 h) * q (ix2 h d) := by
  pointwise

section Trip
variable (hk : Ctr σ k.val)
include hk

/-- The counter read as an integer. -/
theorem ctr_int (i : S_.Idx) : ((σ (Proc.devRef .tc main_v93_4) : IVec S_ 32) i).toInt = (k.val : ℤ) :=
  (congrArg BitVec.toInt (hk i)).trans (ofNat_toInt k)

/-- The log decay of the chunk the counter names. -/
theorem v165_at (h : Fin 4) : (res_main_while0b_v165 σ : FVec Ideal S4 .f32) (ix1 h) = b2 σ k h :=
  slice2 k _ _ _ _ (ctr_int σ k hk _) rfl h

/-- The largest log weight of the chunk the counter names. -/
theorem v166_at (h : Fin 4) : (res_main_while0b_v166 σ : FVec Ideal S4 .f32) (ix1 h) = b3 σ k h :=
  slice2 k _ _ _ _ (ctr_int σ k hk _) rfl h

/-- The stabiliser after the trip. -/
theorem step7_at (h : Fin 4) : b7 (STEP σ) h = max (b2 σ k h + b7 σ h) (b3 σ k h) := by
  unfold b7
  rw [STEP_main_v93_7, ← v165_at σ k hk h, ← v166_at σ k hk h]
  rfl

/-- The matrix state after the trip. -/
theorem step5_at (h : Fin 4) (d e : Fin 128) :
    b5 (STEP σ) h d e
      = Ideal.exp (b2 σ k h + b7 σ h - max (b2 σ k h + b7 σ h) (b3 σ k h)) * b5 σ h d e
        + Ideal.exp (b3 σ k h - max (b2 σ k h + b7 σ h) (b3 σ k h)) * b0 σ k h d e := by
  have e0 : b0 σ k h d e = _ := (slice4 k (σ (Proc.devRef .tc main_v93_0)) (st4 σ) sliceFits_S128x4x128x128_S1x4x128x128
    shapeCasts_S1x4x128x128_S4x128x128 (ctr_int σ k hk (Shape.Idx.first h_S_)) rfl rfl rfl h d e).symm
  unfold b5
  rw [STEP_main_v93_5, e0, ← v165_at σ k hk h, ← v166_at σ k hk h]
  exact comb3 (res_main_while0b_v171 σ) (res_main_while0b_v173 σ) _ _ h d e

/-- The normaliser state after the trip. -/
theorem step6_at (h : Fin 4) (d : Fin 128) :
    b6 (STEP σ) h d
      = Ideal.exp (b2 σ k h + b7 σ h - max (b2 σ k h + b7 σ h) (b3 σ k h)) * b6 σ h d
        + Ideal.exp (b3 σ k h - max (b2 σ k h + b7 σ h) (b3 σ k h)) * b1 σ k h d := by
  have e0 : b1 σ k h d = _ := (slice3 k (σ (Proc.devRef .tc main_v93_1)) (st3 σ) sliceFits_S128x4x128_S1x4x128
    shapeCasts_S1x4x128_S4x128 (ctr_int σ k hk (Shape.Idx.first h_S_)) rfl rfl h d).symm
  unfold b6
  rw [STEP_main_v93_6, e0, ← v165_at σ k hk h, ← v166_at σ k hk h]
  exact comb2 (res_main_while0b_v171 σ) (res_main_while0b_v173 σ) _ _ h d

/-- The stack of matrix states after the trip. -/
theorem step8_at (c : Fin 128) (h : Fin 4) (d e : Fin 128) :
    b8 (STEP σ) c h d e = if c = k then b5 σ h d e else b8 σ c h d e := by
  unfold b8
  rw [STEP_main_v93_8]
  exact upd4 k _ _ (st4 σ) updateFits_S128x4x128x128_S1x4x128x128 bcast_S4x128x128_S1x4x128x128_1_2_3 (ctr_int σ k hk _) rfl rfl rfl c h d e

/-- The stack of normaliser states after the trip. -/
theorem step9_at (c : Fin 128) (h : Fin 4) (d : Fin 128) :
    b9 (STEP σ) c h d = if c = k then b6 σ h d else b9 σ c h d := by
  unfold b9
  rw [STEP_main_v93_9]
  exact upd3 k _ _ (st3 σ) updateFits_S128x4x128_S1x4x128 bcast_S4x128_S1x4x128_1_2 (ctr_int σ k hk _) rfl rfl c h d

/-- The stack of stabilisers after the trip. -/
theorem step10_at (c : Fin 128) (h : Fin 4) : b10 (STEP σ) c h = if c = k then b7 σ h else b10 σ c h := by
  unfold b10
  rw [STEP_main_v93_10]
  exact upd2 k _ _ (st2 σ) updateFits_S128x4_S1x4 bcast_S4_S1x4_1 (ctr_int σ k hk _) rfl c h

/-- The trip counts one. -/
theorem step4_at : Ctr (STEP σ) (k.val + 1) := by
  intro i
  rw [STEP_main_v93_4]
  refine (congrArg (· + 1#32) (hk i)).trans ?_
  show BitVec.ofNat 32 k.val + BitVec.ofNat 32 1 = BitVec.ofNat 32 (k.val + 1)
  rw [BitVec.ofNat_add]
end Trip

/-- What the loop holds before its `n`-th trip: the per-chunk contributions as at the entry, the state that the first
    `n` chunks leave, and the states before each of them. -/
structure Inv (C : ℕ → Fin 4 → Fin 128 → Fin 128 → EReal) (N : ℕ → Fin 4 → Fin 128 → EReal) (M : ℕ → Fin 4 → EReal)
    (σ₀ σ : Valuation τ sig (Elt Ideal)) (n : ℕ) : Prop where
  ctr : Ctr σ n
  c0 : ∀ c h d e, b0 σ c h d e = b0 σ₀ c h d e
  c1 : ∀ c h d, b1 σ c h d = b1 σ₀ c h d
  c2 : ∀ c h, b2 σ c h = b2 σ₀ c h
  c3 : ∀ c h, b3 σ c h = b3 σ₀ c h
  c5 : ∀ h d e, b5 σ h d e = C n h d e
  c6 : ∀ h d, b6 σ h d = N n h d
  c7 : ∀ h, b7 σ h = M n h
  c8 : ∀ c : Fin 128, c.val < n → ∀ h d e, b8 σ c h d e = C c.val h d e
  c9 : ∀ c : Fin 128, c.val < n → ∀ h d, b9 σ c h d = N c.val h d
  c10 : ∀ c : Fin 128, c.val < n → ∀ h, b10 σ c h = M c.val h

/-- The trips one after another: with a sequence of states that follows the recurrence, the invariant holds before
    every trip and after the last. -/
theorem inv_iterate (C : ℕ → Fin 4 → Fin 128 → Fin 128 → EReal) (N : ℕ → Fin 4 → Fin 128 → EReal) (M : ℕ → Fin 4 → EReal)
    (σ₀ : Valuation τ sig (Elt Ideal)) (h0 : Inv C N M σ₀ σ₀ 0)
    (hM : ∀ (k : Fin 128) h, M (k.val + 1) h = max (b2 σ₀ k h + M k.val h) (b3 σ₀ k h))
    (hC : ∀ (k : Fin 128) h d e, C (k.val + 1) h d e
      = Ideal.exp (b2 σ₀ k h + M k.val h - max (b2 σ₀ k h + M k.val h) (b3 σ₀ k h)) * C k.val h d e
        + Ideal.exp (b3 σ₀ k h - max (b2 σ₀ k h + M k.val h) (b3 σ₀ k h)) * b0 σ₀ k h d e)
    (hN : ∀ (k : Fin 128) h d, N (k.val + 1) h d
      = Ideal.exp (b2 σ₀ k h + M k.val h - max (b2 σ₀ k h + M k.val h) (b3 σ₀ k h)) * N k.val h d
        + Ideal.exp (b3 σ₀ k h - max (b2 σ₀ k h + M k.val h) (b3 σ₀ k h)) * b1 σ₀ k h d) :
    ∀ n, n ≤ 128 → Inv C N M σ₀ (STEP^[n] σ₀) n
  | 0, _ => h0
  | n + 1, hn => by
    have I := inv_iterate C N M σ₀ h0 hM hC hN n (by omega)
    rw [Function.iterate_succ_apply']
    generalize STEP^[n] σ₀ = σ at *
    obtain ⟨k, rfl⟩ : ∃ k : Fin 128, k.val = n := ⟨⟨n, by omega⟩, rfl⟩
    have hk := I.ctr
    refine ⟨step4_at σ k hk, ?_, ?_, ?_, ?_, ?_, ?_, ?_, ?_, ?_, ?_⟩
    · intro c h d e
      rw [← I.c0]; unfold b0; rw [STEP_main_v93_0]
    · intro c h d
      rw [← I.c1]; unfold b1; rw [STEP_main_v93_1]
    · intro c h
      rw [← I.c2]; unfold b2; rw [STEP_main_v93_2]
    · intro c h
      rw [← I.c3]; unfold b3; rw [STEP_main_v93_3]
    · intro h d e
      rw [step5_at σ k hk, I.c2, I.c3, I.c0, I.c5, I.c7, hC]
    · intro h d
      rw [step6_at σ k hk, I.c2, I.c3, I.c1, I.c6, I.c7, hN]
    · intro h
      rw [step7_at σ k hk, I.c2, I.c3, I.c7, hM]
    · intro c hc h d e
      rw [step8_at σ k hk]
      by_cases hck : c = k
      · rw [if_pos hck, I.c5, hck]
      · rw [if_neg hck]
        exact I.c8 c (by have := Fin.val_ne_of_ne hck; omega) h d e
    · intro c hc h d
      rw [step9_at σ k hk]
      by_cases hck : c = k
      · rw [if_pos hck, I.c6, hck]
      · rw [if_neg hck]
        exact I.c9 c (by have := Fin.val_ne_of_ne hck; omega) h d
    · intro c hc h
      rw [step10_at σ k hk]
      by_cases hck : c = k
      · rw [if_pos hck, I.c7, hck]
      · rw [if_neg hck]
        exact I.c10 c (by have := Fin.val_ne_of_ne hck; omega) h

end Cert.ReferenceIdeal.Rd
-- ==== Proof.RefRows.lean ====
module

public import proofs.«01_k».proof.Proof.Gen.ReferenceIdeal.Run
public import proofs.«01_k».proof.Proof.Spec
public import proofs.«01_k».proof.Proof.RefSum
public import proofs.«01_k».proof.Proof.RefStep
public import Idealize.ShloMosaic.Lib.Pointwise

/-! # What the reference computes before its loop

Each buffer the recurrence reads, entry by entry, from the arguments as launched: the convolved queries and keys, the
values, the gates and the running sums of the log forget gates, and from them the contributions of every chunk. -/

set_option maxRecDepth 16384
@[expose] public noncomputable section
open Idealize.ShloMosaic Idealize.ShloMosaic.TcCoe Idealize.SL.Sem Idealize.ShloMosaic.StableHlo

namespace Cert.ReferenceIdeal.Rd
open Cert.ReferenceIdeal Cert.ReferenceIdeal.Gen Cert.ReferenceIdeal.Value

section Stages
variable (σ : Valuation τ sig (Elt Ideal))

/-- An entry of the projection. -/
def a0 (r : Fin 16384) (j : Fin 5376) : EReal := (σ (Proc.devRef .tc main_arg0) : FVec Ideal S16384x5376 .f32) (ix2 r j)
/-- An entry of the convolution's weights. -/
def a1 (r : Fin 4) (j : Fin 1024) : EReal := (σ (Proc.devRef .tc main_arg1) : FVec Ideal S4x1024 .f32) (ix2 r j)
/-- An entry of the convolution's bias. -/
def a2 (j : Fin 1024) : EReal := (σ (Proc.devRef .tc main_arg2) : FVec Ideal S1024 .f32) (ix1 j)
/-- The input gate's bias of a head. -/
def a3 (h : Fin 4) : EReal := (σ (Proc.devRef .tc main_arg3) : FVec Ideal S4 .f32) (ix1 h)
/-- The forget gate's bias of a head. -/
def a4 (h : Fin 4) : EReal := (σ (Proc.devRef .tc main_arg4) : FVec Ideal S4 .f32) (ix1 h)
/-- An entry of the norm's gains. -/
def a5 (h : Fin 4) (j : Fin 128) : EReal := (σ (Proc.devRef .tc main_arg5) : FVec Ideal S4x128 .f32) (ix2 h j)
/-- The query and key columns, padded. -/
def p5 (r : Fin 16387) (j : Fin 1024) : EReal := (σ (Proc.devRef .tc main_v5) : FVec Ideal S16387x1024 .f32) (ix2 r j)
/-- The value columns. -/
def p1 (r : Fin 16384) (j : Fin 512) : EReal := (σ (Proc.devRef .tc main_v1) : FVec Ideal S16384x512 .f32) (ix2 r j)
/-- The output gate columns. -/
def p2 (r : Fin 16384) (j : Fin 512) : EReal := (σ (Proc.devRef .tc main_v2) : FVec Ideal S16384x512 .f32) (ix2 r j)
/-- The input gate columns. -/
def p3 (r : Fin 16384) (j : Fin 4) : EReal := (σ (Proc.devRef .tc main_v3) : FVec Ideal S16384x4 .f32) (ix2 r j)
/-- The forget gate columns. -/
def p4 (r : Fin 16384) (j : Fin 4) : EReal := (σ (Proc.devRef .tc main_v4) : FVec Ideal S16384x4 .f32) (ix2 r j)
/-- The convolved columns. -/
def p37 (r : Fin 16384) (j : Fin 1024) : EReal := (σ (Proc.devRef .tc main_v37) : FVec Ideal S16384x1024 .f32) (ix2 r j)
/-- The convolved columns after the SiLU. -/
def p38 (r : Fin 16384) (j : Fin 1024) : EReal := (σ (Proc.devRef .tc main_v38) : FVec Ideal S16384x1024 .f32) (ix2 r j)
/-- The queries by head and chunk. -/
def p43 (h : Fin 4) (c l d : Fin 128) : EReal := (σ (Proc.devRef .tc main_v43) : FVec Ideal S4x128x128x128 .f32) (ix4 h c l d)
/-- The keys by head and chunk. -/
def p48 (h : Fin 4) (c l d : Fin 128) : EReal := (σ (Proc.devRef .tc main_v48) : FVec Ideal S4x128x128x128 .f32) (ix4 h c l d)
/-- The values by head and chunk. -/
def p51 (h : Fin 4) (c l d : Fin 128) : EReal := (σ (Proc.devRef .tc main_v51) : FVec Ideal S4x128x128x128 .f32) (ix4 h c l d)
/-- The input gates by head and chunk. -/
def p56 (h : Fin 4) (c l : Fin 128) : EReal := (σ (Proc.devRef .tc main_v56) : FVec Ideal S4x128x128 .f32) (ix3 h c l)
/-- The forget gates by head and chunk. -/
def p61 (h : Fin 4) (c l : Fin 128) : EReal := (σ (Proc.devRef .tc main_v61) : FVec Ideal S4x128x128 .f32) (ix3 h c l)
/-- The log forget gates by head and chunk. -/
def p62 (h : Fin 4) (c l : Fin 128) : EReal := (σ (Proc.devRef .tc main_v62) : FVec Ideal S4x128x128 .f32) (ix3 h c l)
/-- The running sums by head and chunk. -/
def p63 (h : Fin 4) (c l : Fin 128) : EReal := (σ (Proc.devRef .tc main_v63) : FVec Ideal S4x128x128 .f32) (ix3 h c l)

/-- The query and key columns after three rows of zeros. -/
theorem p5_at (r : Fin 16387) (j : Fin 1024) :
    p5 (after hostOps0_1 (after hostOps0 σ)) r j
      = if h : 3 ≤ r.val then a0 σ ⟨r.val - 3, by omega⟩ ⟨j.val, by omega⟩ else 0 := by
  unfold p5
  after_results_simp
  try simp only [TRef.ofBuf, TRef.toBuf, cast_eq, id_eq]
  pointwise
  by_cases h : 3 ≤ r.val
  · rw [dif_pos h, dif_pos ⟨h, by omega⟩]
    rfl
  · rw [dif_neg h, dif_neg (fun h' => h h'.1)]
    show ((((0#32 : BitVec 32).toInt : ℤ) : ℝ) : EReal) = 0
    simp
/-- Columns from 2048 on. -/
theorem p1_at (r : Fin 16384) (j : Fin 512) :
    p1 (after hostOps0 σ) r j
      = a0 σ r ⟨2048 + j.val, by omega⟩ := by
  unfold p1 a0
  after_results_simp
  try simp only [TRef.ofBuf, TRef.toBuf, cast_eq, id_eq]
  pointwise
/-- Columns from 2560 on. -/
theorem p2_at (r : Fin 16384) (j : Fin 512) :
    p2 (after hostOps0 σ) r j
      = a0 σ r ⟨2560 + j.val, by omega⟩ := by
  unfold p2 a0
  after_results_simp
  try simp only [TRef.ofBuf, TRef.toBuf, cast_eq, id_eq]
  pointwise
/-- Columns from 5120 on. -/
theorem p3_at (r : Fin 16384) (j : Fin 4) :
    p3 (after hostOps0 σ) r j
      = a0 σ r ⟨5120 + j.val, by omega⟩ := by
  unfold p3 a0
  after_results_simp
  try simp only [TRef.ofBuf, TRef.toBuf, cast_eq, id_eq]
  pointwise
/-- Columns from 5124 on. -/
theorem p4_at (r : Fin 16384) (j : Fin 4) :
    p4 (after hostOps0 σ) r j
      = a0 σ r ⟨5124 + j.val, by omega⟩ := by
  unfold p4 a0
  after_results_simp
  try simp only [TRef.ofBuf, TRef.toBuf, cast_eq, id_eq]
  pointwise
/-- The convolution of width four: rows `r` to `r + 3` of the padded columns. -/
theorem p37_at (r : Fin 16384) (j : Fin 1024) :
    p37 (after hostOps0_2 σ) r j
      = a1 σ 0 j * p5 σ ⟨r.val, by omega⟩ j + a1 σ 1 j * p5 σ ⟨1 + r.val, by omega⟩ j + a1 σ 2 j * p5 σ ⟨2 + r.val, by omega⟩ j
        + a1 σ 3 j * p5 σ ⟨3 + r.val, by omega⟩ j + a2 σ j := by
  unfold p37 a1 a2 p5
  after_results_simp
  try simp only [TRef.ofBuf, TRef.toBuf, cast_eq, id_eq]
  pointwise
/-- The SiLU. -/
theorem p38_at (r : Fin 16384) (j : Fin 1024) :
    p38 (after hostOps0_3 σ) r j
      = p37 σ r j * Ideal.logistic (p37 σ r j) := by
  unfold p38 p37
  after_results_simp
  try simp only [TRef.ofBuf, TRef.toBuf, cast_eq, id_eq]
  pointwise
  rfl
/-- The queries by head and chunk. -/
theorem p43_at (h : Fin 4) (c l d : Fin 128) :
    p43 (after hostOps0_4 σ) h c l d
      = p38 σ ⟨c.val * 128 + l.val, by omega⟩ ⟨h.val * 128 + d.val, by omega⟩ := by
  unfold p43 p38
  after_results_simp
  try simp only [TRef.ofBuf, TRef.toBuf, cast_eq, id_eq]
  pointwise
/-- The scaled keys by head and chunk. -/
theorem p48_at (h : Fin 4) (c l d : Fin 128) :
    p48 (after hostOps0_4 σ) h c l d
      = p38 σ ⟨c.val * 128 + l.val, by omega⟩ ⟨512 + (h.val * 128 + d.val), by omega⟩ * Ideal.ofBits .f32 0x3DB504F3#32 := by
  unfold p48 p38
  after_results_simp
  try simp only [TRef.ofBuf, TRef.toBuf, cast_eq, id_eq]
  pointwise
/-- The values by head and chunk. -/
theorem p51_at (h : Fin 4) (c l d : Fin 128) :
    p51 (after hostOps0_4 σ) h c l d
      = p1 σ ⟨c.val * 128 + l.val, by omega⟩ ⟨h.val * 128 + d.val, by omega⟩ := by
  unfold p51 p1
  after_results_simp
  try simp only [TRef.ofBuf, TRef.toBuf, cast_eq, id_eq]
  pointwise
/-- The input gates by head and chunk. -/
theorem p56_at (h : Fin 4) (c l : Fin 128) :
    p56 (after hostOps0_4 σ) h c l
      = p3 σ ⟨c.val * 128 + l.val, by omega⟩ h + a3 σ h := by
  unfold p56 p3 a3
  after_results_simp
  try simp only [TRef.ofBuf, TRef.toBuf, cast_eq, id_eq]
  pointwise
/-- The forget gates by head and chunk. -/
theorem p61_at (h : Fin 4) (c l : Fin 128) :
    p61 (after hostOps0_4 σ) h c l
      = p4 σ ⟨c.val * 128 + l.val, by omega⟩ h + a4 σ h := by
  unfold p61 p4 a4
  after_results_simp
  try simp only [TRef.ofBuf, TRef.toBuf, cast_eq, id_eq]
  pointwise
/-- The log forget gates. -/
theorem p62_at (h : Fin 4) (c l : Fin 128) :
    p62 (after hostOps0_5 σ) h c l
      = Mlstm.logsig (p61 σ h c l) := by
  unfold p62 p61
  rw [← logsig_eq]
  after_results_simp
  try simp only [TRef.ofBuf, TRef.toBuf, cast_eq, id_eq]
  pointwise
/-- The running sums of the log forget gates. -/
theorem p63_at (h : Fin 4) (c l : Fin 128) :
    p63 (after hostOps0_6 σ) h c l = ∑ s : Fin 128, if s.val ≤ l.val then p62 σ h c s else 0 := by
  unfold p63 p62
  after_results_simp
  try simp only [TRef.ofBuf, TRef.toBuf, cast_eq, id_eq]
  exact cumsum_at (σ (Proc.devRef .tc main_v62)) _ (fun i => by pointwise) _ _ h c l
/-- The chunks' log decays. -/
theorem b2_at (c : Fin 128) (h : Fin 4) :
    b2 (after hostOps0_7 σ) c h
      = p63 σ h c 127 := by
  unfold b2 p63
  after_results_simp
  try simp only [TRef.ofBuf, TRef.toBuf, cast_eq, id_eq]
  pointwise
/-- The chunks' largest log weights. -/
theorem b3_at (c : Fin 128) (h : Fin 4) :
    b3 (after hostOps0_7 σ) c h
      = Mlstm.amax (p56 σ h c) (p63 σ h c) := by
  unfold b3 Mlstm.amax p56 p63 Mlstm.ninf
  after_results_simp
  try simp only [TRef.ofBuf, TRef.toBuf, cast_eq, id_eq]
  pointwise
/-- The chunks' normaliser contributions. -/
theorem b1_at (c : Fin 128) (h : Fin 4) (d : Fin 128) :
    b1 (after hostOps0_7 σ) c h d
      = ∑ s, Mlstm.wt (p56 σ h c) (p63 σ h c) s * p48 σ h c s d := by
  unfold b1 Mlstm.wt Mlstm.amax p56 p63 p48 Mlstm.ninf
  after_results_simp
  try simp only [TRef.ofBuf, TRef.toBuf, cast_eq, id_eq]
  pointwise
/-- The chunks' matrix contributions. -/
theorem b0_at (c : Fin 128) (h : Fin 4) (d e : Fin 128) :
    b0 (after hostOps0_7 σ) c h d e
      = ∑ s, Mlstm.wt (p56 σ h c) (p63 σ h c) s * p48 σ h c s d * p51 σ h c s e := by
  unfold b0 Mlstm.wt Mlstm.amax p56 p63 p48 p51 Mlstm.ninf
  after_results_simp
  try simp only [TRef.ofBuf, TRef.toBuf, cast_eq, id_eq]
  pointwise
/-- The carried matrix state before the loop. -/
theorem b5_at (h : Fin 4) (d e : Fin 128) :
    b5 (after hostOps0_7 σ) h d e
      = 0 := by
  unfold b5
  after_results_simp
  try simp only [TRef.ofBuf, TRef.toBuf, cast_eq, id_eq]
  pointwise
/-- The carried normaliser state before the loop. -/
theorem b6_at (h : Fin 4) (d : Fin 128) :
    b6 (after hostOps0_7 σ) h d
      = 0 := by
  unfold b6
  after_results_simp
  try simp only [TRef.ofBuf, TRef.toBuf, cast_eq, id_eq]
  pointwise
/-- The carried stabiliser before the loop. -/
theorem b7_at (h : Fin 4) :
    b7 (after hostOps0_7 σ) h
      = 0 := by
  unfold b7
  after_results_simp
  try simp only [TRef.ofBuf, TRef.toBuf, cast_eq, id_eq]
  pointwise
/-- The counter before the loop. -/
theorem b4_at : Ctr (after hostOps0_7 σ) 0 := by
  intro i
  after_results_simp
  try simp only [TRef.ofBuf, TRef.toBuf, cast_eq, id_eq]
  rfl
end Stages

end Cert.ReferenceIdeal.Rd
-- ==== Proof.RefOut.lean ====
module

public import proofs.«01_k».proof.Proof.RefRows

/-! # What the reference computes after its loop

The read-out of every chunk from the stacked states, and the gated, normalised result. -/

set_option maxRecDepth 16384
@[expose] public noncomputable section
open Idealize.ShloMosaic Idealize.ShloMosaic.TcCoe Idealize.SL.Sem Idealize.ShloMosaic.StableHlo

namespace Cert.ReferenceIdeal.Rd
open Cert.ReferenceIdeal Cert.ReferenceIdeal.Gen Cert.ReferenceIdeal.Value

section Stages
variable (σ : Valuation τ sig (Elt Ideal))

/-- The matrix states by head. -/
def p94 (h : Fin 4) (c d e : Fin 128) : EReal := (σ (Proc.devRef .tc main_v94) : FVec Ideal S4x128x128x128 .f32) (ix4 h c d e)
/-- The normaliser states by head. -/
def p95 (h : Fin 4) (c d : Fin 128) : EReal := (σ (Proc.devRef .tc main_v95) : FVec Ideal S4x128x128 .f32) (ix3 h c d)
/-- The stabilisers by head. -/
def p96 (h : Fin 4) (c : Fin 128) : EReal := (σ (Proc.devRef .tc main_v96) : FVec Ideal S4x128 .f32) (ix2 h c)
/-- The log decays between rows. -/
def p107 (h : Fin 4) (c t s : Fin 128) : EReal := (σ (Proc.devRef .tc main_v107) : FVec Ideal S4x128x128x128 .f32) (ix4 h c t s)
/-- The normalised read-out. -/
def p137 (h : Fin 4) (c t e : Fin 128) : EReal := (σ (Proc.devRef .tc main_v137) : FVec Ideal S4x128x128x128 .f32) (ix4 h c t e)
/-- The result. -/
def p162 (r : Fin 16384) (j : Fin 512) : EReal := (σ (Proc.devRef .tc main_v162) : FVec Ideal S16384x512 .bf16) (ix2 r j)

/-- The matrix states by head, from the stack. -/
theorem p94_at (h : Fin 4) (c d e : Fin 128) :
    p94 (after hostOps0_8 σ) h c d e
      = b8 σ c h d e := by
  unfold p94 b8
  after_results_simp
  try simp only [TRef.ofBuf, TRef.toBuf, cast_eq, id_eq]
  pointwise
/-- The normaliser states by head, from the stack. -/
theorem p95_at (h : Fin 4) (c d : Fin 128) :
    p95 (after hostOps0_8 σ) h c d
      = b9 σ c h d := by
  unfold p95 b9
  after_results_simp
  try simp only [TRef.ofBuf, TRef.toBuf, cast_eq, id_eq]
  pointwise
/-- The stabilisers by head, from the stack. -/
theorem p96_at (h : Fin 4) (c : Fin 128) :
    p96 (after hostOps0_8 σ) h c
      = b10 σ c h := by
  unfold p96 b10
  after_results_simp
  try simp only [TRef.ofBuf, TRef.toBuf, cast_eq, id_eq]
  pointwise
/-- A comparison read through a choice of its own truth values. -/
theorem select_self (b : BitVec 1) : Scalar.select b 1#1 0#1 = b := by
  revert b; decide
/-- The log decays between rows, minus infinity above the diagonal. -/
theorem p107_at (h : Fin 4) (c t s : Fin 128) :
    p107 (after hostOps0_11 (after hostOps0_10 (after hostOps0_9 (after hostOps0_8 σ)))) h c t s
      = Mlstm.dlog (p56 σ h c) (p63 σ h c) t s := by
  unfold p107 Mlstm.dlog p56 p63 Mlstm.ninf
  after_results_simp
  try simp only [TRef.ofBuf, TRef.toBuf, cast_eq, id_eq]
  pointwise
  rw [select_self]
  congr 2
  exact BitVec.add_zero _
/-- The normalised read-out of a chunk's rows. -/
theorem p137_at (h : Fin 4) (c t e : Fin 128) (hd : ∀ s, p107 σ h c t s = Mlstm.dlog (p56 σ h c) (p63 σ h c) t s) :
    p137 (after (hostOps0_12.take 32) σ) h c t e
      = Mlstm.hh (p43 σ h c) (p48 σ h c) (p51 σ h c) (p94 σ h c) (p95 σ h c) (p56 σ h c) (p63 σ h c) (p96 σ h c) t e := by
  unfold p137 Mlstm.hh Mlstm.den Mlstm.sw Mlstm.inter Mlstm.mt
  simp only [← hd, zero_sub]
  unfold p107 p43 p48 p51 p94 p95 p63 p96 Mlstm.ninf
  simp only [List.take]
  after_results_simp
  try simp only [TRef.ofBuf, TRef.toBuf, cast_eq, id_eq]
  pointwise
/-- The gated, normalised result. -/
theorem p162_at (r : Fin 16384) (j : Fin 512) :
    p162 (after (hostOps0_12.drop 32) σ) r j
      = Ideal.logistic (p2 σ r ⟨j.val / 128 * 128 + j.val % 128, by omega⟩)
        * (p137 σ ⟨j.val / 128, by omega⟩ ⟨r.val / 128, by omega⟩ ⟨r.val % 128, by omega⟩ ⟨j.val % 128, by omega⟩
          * Ideal.rsqrt (Ideal.div (∑ x, p137 σ ⟨j.val / 128, by omega⟩ ⟨r.val / 128, by omega⟩ ⟨r.val % 128, by omega⟩ x
              * p137 σ ⟨j.val / 128, by omega⟩ ⟨r.val / 128, by omega⟩ ⟨r.val % 128, by omega⟩ x) (Ideal.ofBits .f32 0x43000000#32)
            + Ideal.ofBits .f32 0x358637BD#32)
          * a5 σ ⟨j.val / 128, by omega⟩ ⟨j.val % 128, by omega⟩) := by
  unfold p162 p2 p137 a5
  simp only [List.drop]
  after_results_simp
  try simp only [TRef.ofBuf, TRef.toBuf, cast_eq, id_eq]
  pointwise
  rfl
end Stages

end Cert.ReferenceIdeal.Rd
-- ==== Proof.RefFinal.lean ====
module

public import proofs.«01_k».proof.Proof.RefOut

/-! # The reference's result is the recurrence of the formulas

The contents before the loop, through it and after it, put together: the result array is `Mlstm.res` of the arguments
as launched. -/

set_option maxRecDepth 16384
@[expose] public noncomputable section
open Idealize.ShloMosaic Idealize.ShloMosaic.TcCoe Idealize.SL.Sem Idealize.ShloMosaic.StableHlo

namespace Cert.ReferenceIdeal.Rd
open Cert.ReferenceIdeal Cert.ReferenceIdeal.Gen Cert.ReferenceIdeal.Value

/-- The buffers stretch 8 writes. -/
abbrev hostOps0_8_W : List (Ref sig .tc) := [main_v94, main_v95, main_v96, main_c_10, main_v97]
/-- Stretch 8 writes those buffers only. -/
theorem hostOps0_8_writes : (hostOps0_8 : List (HloOp τ sig (Elt Ideal))).Forall fun op => op.writes ⊆ (hostOps0_8_W.map (Proc.devRef (τ := τ) .tc)).toFinset :=
  StableHlo.forall_writes_sub_of_map rfl
/-- The buffers stretch 9 writes. -/
abbrev hostOps0_9_W : List (Ref sig .tc) := [main_call11_v0, main_call11_c, main_call11_v1, main_call11_v2, main_call11_v3, main_call11_v4, main_call11_c_0, main_call11_v5, main_v98]
/-- Stretch 9 writes those buffers only. -/
theorem hostOps0_9_writes : (hostOps0_9 : List (HloOp τ sig (Elt Ideal))).Forall fun op => op.writes ⊆ (hostOps0_9_W.map (Proc.devRef (τ := τ) .tc)).toFinset :=
  StableHlo.forall_writes_sub_of_map rfl
/-- The buffers stretch 10 writes. -/
abbrev hostOps0_10_W : List (Ref sig .tc) := [main_v99, main_v100, main_v101, main_v102, main_v103, main_v104, main_v105, main_v106, main_cst_11]
/-- Stretch 10 writes those buffers only. -/
theorem hostOps0_10_writes : (hostOps0_10 : List (HloOp τ sig (Elt Ideal))).Forall fun op => op.writes ⊆ (hostOps0_10_W.map (Proc.devRef (τ := τ) .tc)).toFinset :=
  StableHlo.forall_writes_sub_of_map rfl
/-- The buffers stretch 11 writes. -/
abbrev hostOps0_11_W : List (Ref sig .tc) := [main_call12_v0, main_call12_v1, main_call12_v2, main_v107]
/-- Stretch 11 writes those buffers only. -/
theorem hostOps0_11_writes : (hostOps0_11 : List (HloOp τ sig (Elt Ideal))).Forall fun op => op.writes ⊆ (hostOps0_11_W.map (Proc.devRef (τ := τ) .tc)).toFinset :=
  StableHlo.forall_writes_sub_of_map rfl
/-- The buffers stretch 12 writes. -/
abbrev hostOps0_12_W : List (Ref sig .tc) := [main_v108, main_v109, main_v110, main_cst_12, main_v111, main_v112, main_v113, main_v114, main_v115, main_v116, main_v117, main_v118, main_v119, main_v120, main_v121, main_v122, main_v123, main_v124, main_v125, main_v126, main_cst_13, main_v127, main_v128, main_v129, main_v130, main_v131, main_v132, main_v133, main_v134, main_v135, main_v136, main_v137, main_v138, main_v139, main_v140, main_cst_14, main_v141, main_v142, main_cst_15, main_v143, main_v144, main_cst_16, main_v145, main_v146, main_v147, main_v148, main_v149, main_v150, main_v151, main_v152, main_v153, main_v154, main_cst_17, main_v155, main_v156, main_cst_18, main_v157, main_v158, main_v159, main_v160, main_v161, main_v162]
/-- Stretch 12 writes those buffers only. -/
theorem hostOps0_12_writes : (hostOps0_12 : List (HloOp τ sig (Elt Ideal))).Forall fun op => op.writes ⊆ (hostOps0_12_W.map (Proc.devRef (τ := τ) .tc)).toFinset :=
  StableHlo.forall_writes_sub_of_map rfl

variable (m : (ℓ : Loc nD τ sig) → Buf (Elt Ideal) ℓ) (c : Dev nD)

/-- The contents at launch. -/
abbrev E0 : Valuation τ sig (Elt Ideal) := launchContents m c
/-- The contents after the columns are cut and padded. -/
abbrev E2 : Valuation τ sig (Elt Ideal) := after hostOps0_1 (after hostOps0 (E0 m c))
/-- The contents after the convolution and the SiLU. -/
abbrev E4 : Valuation τ sig (Elt Ideal) := after hostOps0_3 (after hostOps0_2 (E2 m c))
/-- The contents after the rows are cut into heads and chunks. -/
abbrev E5 : Valuation τ sig (Elt Ideal) := after hostOps0_4 (E4 m c)
/-- The contents after the running sums. -/
abbrev E7 : Valuation τ sig (Elt Ideal) := after hostOps0_6 (after hostOps0_5 (E5 m c))
/-- The contents at the loop's entry. -/
abbrev E8 : Valuation τ sig (Elt Ideal) := after hostOps0_7 (E7 m c)
/-- The contents when the loop is left. -/
abbrev L0 : Valuation τ sig (Elt Ideal) := after condOps (atK m 128 c)
/-- The contents before the read-out. -/
abbrev L4 : Valuation τ sig (Elt Ideal) := after hostOps0_11 (after hostOps0_10 (after hostOps0_9 (after hostOps0_8 (L0 m c))))
/-- The contents before the gating. -/
abbrev L5 : Valuation τ sig (Elt Ideal) := after (hostOps0_12.take 32) (L4 m c)

/-- The contents at the loop's entry are those after the stretches before it. -/
theorem entry_eq : entryContents preI m c = E8 m c := rfl
/-- The contents at the end are those after the stretches after the loop. -/
theorem final_eq : finalContents condOps preI bodyI postI 128 m c = after (hostOps0_12.drop 32) (L5 m c) := by
  show after hostOps0_12 (L4 m c) = _
  refine (congrArg (fun l => after l (L4 m c) ) (List.take_append_drop 32 hostOps0_12).symm).trans ?_
  exact after_append _ _ _

/-- A buffer the stretches up to the SiLU do not write is as launched. -/
theorem keep4 {r : Ref sig .tc} (h0 : r ∉ hostOps0_W := by decide) (h1 : r ∉ hostOps0_1_W := by decide)
    (h2 : r ∉ hostOps0_2_W := by decide) (h3 : r ∉ hostOps0_3_W := by decide) :
    E4 m c (Proc.devRef .tc r) = E0 m c (Proc.devRef .tc r) :=
  (after_of_writes_sub _ _ hostOps0_3_writes h3).trans
    ((after_of_writes_sub _ _ hostOps0_2_writes h2).trans
    ((after_of_writes_sub _ _ hostOps0_1_writes h1).trans
    (after_of_writes_sub _ _ hostOps0_writes h0)))
/-- A buffer cut before the padding is kept up to the SiLU. -/
theorem keep41 {r : Ref sig .tc} (h1 : r ∉ hostOps0_1_W := by decide)
    (h2 : r ∉ hostOps0_2_W := by decide) (h3 : r ∉ hostOps0_3_W := by decide) :
    E4 m c (Proc.devRef .tc r) = after hostOps0 (E0 m c) (Proc.devRef .tc r) :=
  (after_of_writes_sub _ _ hostOps0_3_writes h3).trans
    ((after_of_writes_sub _ _ hostOps0_2_writes h2).trans
    (after_of_writes_sub _ _ hostOps0_1_writes h1))
/-- A buffer the padding does not write is as launched before the convolution. -/
theorem keep2 {r : Ref sig .tc} (h0 : r ∉ hostOps0_W := by decide) (h1 : r ∉ hostOps0_1_W := by decide) :
    E2 m c (Proc.devRef .tc r) = E0 m c (Proc.devRef .tc r) :=
  (after_of_writes_sub _ _ hostOps0_1_writes h1).trans
    (after_of_writes_sub _ _ hostOps0_writes h0)
/-- A buffer the gates do not write is kept from the cut into chunks to the running sums. -/
theorem keep7 {r : Ref sig .tc} (h5 : r ∉ hostOps0_5_W := by decide) (h6 : r ∉ hostOps0_6_W := by decide) :
    E7 m c (Proc.devRef .tc r) = E5 m c (Proc.devRef .tc r) :=
  (after_of_writes_sub _ _ hostOps0_6_writes h6).trans
    (after_of_writes_sub _ _ hostOps0_5_writes h5)
/-- A buffer the loop does not write is kept through it. -/
theorem keepK {r : Ref sig .tc} (hc : r ∉ condOps_W) (h0 : r ∉ while0Ops0_W) (h1 : r ∉ while0Ops0_1_W)
    (h2 : r ∉ while0Ops0_2_W) (h3 : r ∉ while0Ops0_3_W) (h4 : r ∉ while0Ops0_4_W) (h5 : r ∉ while0Ops0_5_W)
    (h6 : r ∉ while0Ops0_6_W) (h7 : r ∉ while0Ops0_7_W) (h8 : r ∉ while0Ops0_8_W) :
    ∀ k, atK m k c (Proc.devRef .tc r) = E8 m c (Proc.devRef .tc r)
  | 0 => rfl
  | k + 1 => by
    show after while0Ops0_8 (after while0Ops0_7 (after while0Ops0_6 (after while0Ops0_5 (after while0Ops0_4
      (after while0Ops0_3 (after while0Ops0_2 (after while0Ops0_1 (after while0Ops0 (after condOps (atK m k c))))))))))
      (Proc.devRef .tc r) = _
    rw [after_of_writes_sub _ _ while0Ops0_8_writes h8, after_of_writes_sub _ _ while0Ops0_7_writes h7,
      after_of_writes_sub _ _ while0Ops0_6_writes h6, after_of_writes_sub _ _ while0Ops0_5_writes h5,
      after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc]
    exact keepK hc h0 h1 h2 h3 h4 h5 h6 h7 h8 k
/-- A buffer neither the loop nor the stretches on either side of it write is kept from the running sums to the
    read-out. -/
theorem keepL {r : Ref sig .tc} (hc : r ∉ condOps_W := by decide) (h0 : r ∉ while0Ops0_W := by decide)
    (h1 : r ∉ while0Ops0_1_W := by decide) (h2 : r ∉ while0Ops0_2_W := by decide) (h3 : r ∉ while0Ops0_3_W := by decide)
    (h4 : r ∉ while0Ops0_4_W := by decide) (h5 : r ∉ while0Ops0_5_W := by decide) (h6 : r ∉ while0Ops0_6_W := by decide)
    (h7 : r ∉ while0Ops0_7_W := by decide) (h8 : r ∉ while0Ops0_8_W := by decide) (p7 : r ∉ hostOps0_7_W := by decide) :
    L0 m c (Proc.devRef .tc r) = E7 m c (Proc.devRef .tc r) :=
  (after_of_writes_sub _ _ condOps_writes hc).trans
    ((keepK m c hc h0 h1 h2 h3 h4 h5 h6 h7 h8 128).trans
    (after_of_writes_sub _ _ hostOps0_7_writes p7))
/-- A buffer the mask does not write is kept from the loop's end to the read-out. -/
theorem keepM {r : Ref sig .tc} (h8 : r ∉ hostOps0_8_W := by decide) (h9 : r ∉ hostOps0_9_W := by decide)
    (h10 : r ∉ hostOps0_10_W := by decide) (h11 : r ∉ hostOps0_11_W := by decide) :
    L4 m c (Proc.devRef .tc r) = L0 m c (Proc.devRef .tc r) :=
  (after_of_writes_sub _ _ hostOps0_11_writes h11).trans
    ((after_of_writes_sub _ _ hostOps0_10_writes h10).trans
    ((after_of_writes_sub _ _ hostOps0_9_writes h9).trans
    (after_of_writes_sub _ _ hostOps0_8_writes h8)))
/-- A buffer written from the stacked states is kept to the read-out. -/
theorem keepM1 {r : Ref sig .tc} (h9 : r ∉ hostOps0_9_W := by decide)
    (h10 : r ∉ hostOps0_10_W := by decide) (h11 : r ∉ hostOps0_11_W := by decide) :
    L4 m c (Proc.devRef .tc r) = after hostOps0_8 (L0 m c) (Proc.devRef .tc r) :=
  (after_of_writes_sub _ _ hostOps0_11_writes h11).trans
    ((after_of_writes_sub _ _ hostOps0_10_writes h10).trans
    (after_of_writes_sub _ _ hostOps0_9_writes h9))
/-- A buffer the read-out does not write is kept through it. -/
theorem keepR {r : Ref sig .tc} (h : r ∉ hostOps0_12_W := by decide) :
    L5 m c (Proc.devRef .tc r) = L4 m c (Proc.devRef .tc r) :=
  after_of_writes_sub (W := hostOps0_12_W) _ _ (List.forall_iff_forall_mem.mpr fun op hop =>
    List.forall_iff_forall_mem.mp hostOps0_12_writes op (List.mem_of_mem_take hop)) h
/-- A carried buffer when the loop is left. -/
theorem carried {r : Ref sig .tc} (h : r ∈ carriedRefs := by decide) :
    L0 m c (Proc.devRef .tc r) = STEP^[128] (E8 m c) (Proc.devRef .tc r) :=
  (cond_keeps _ r h).trans (atK_agree m c 128 r h)

/-- The projection as launched. -/
def X : Fin 16384 → Fin 5376 → EReal := a0 (E0 m c)
/-- The convolution's weights as launched. -/
def W : Fin 4 → Fin 1024 → EReal := a1 (E0 m c)
/-- The convolution's bias as launched. -/
def B : Fin 1024 → EReal := a2 (E0 m c)
/-- The input gates' biases as launched. -/
def IB : Fin 4 → EReal := a3 (E0 m c)
/-- The forget gates' biases as launched. -/
def FB : Fin 4 → EReal := a4 (E0 m c)
/-- The norm's gains as launched. -/
def NG : Fin 4 → Fin 128 → EReal := a5 (E0 m c)

/-- A row of the padded columns is a row of the projection so many rows before. -/
theorem p5_back (d : ℕ) (hd : d ≤ 3) (r : Fin 16384) (j : Fin 1024) (h : 3 - d + r.val < 16387) :
    p5 (E2 m c) ⟨3 - d + r.val, h⟩ j = Mlstm.back (X m c) d r j := by
  rw [p5_at]
  unfold Mlstm.back X
  by_cases hr : d ≤ r.val
  · rw [if_pos hr, dif_pos (show 3 ≤ 3 - d + r.val by omega)]
    congr 1
    exact Fin.ext (show 3 - d + r.val - 3 = r.val - d by omega)
  · rw [if_neg hr, dif_neg (show ¬ 3 ≤ 3 - d + r.val by omega)]

/-- The convolved queries and keys. -/
theorem qk_eq (r : Fin 16384) (j : Fin 1024) : p38 (E4 m c) r j = Mlstm.qk (X m c) (W m c) (B m c) r j := by
  have h0 := p5_back m c 3 (by omega) r j (by omega)
  have h1 := p5_back m c 2 (by omega) r j (by omega)
  have h2 := p5_back m c 1 (by omega) r j (by omega)
  have h3 := p5_back m c 0 (by omega) r j (by omega)
  simp only [Nat.sub_self, Nat.zero_add, Nat.sub_zero, show 3 - 2 = 1 from rfl, show 3 - 1 = 2 from rfl] at h0 h1 h2 h3
  have e1 : ∀ i, a1 (E2 m c) i j = W m c i j := fun i => congrFun (keep2 m c (r := main_arg1)) (ix2 i j)
  have e2 : a2 (E2 m c) j = B m c j := congrFun (keep2 m c (r := main_arg2)) (ix1 j)
  rw [p38_at, p37_at, h0, h1, h2, h3, e1, e1, e1, e1, e2]
  rfl

/-- The row of a chunk. -/
theorem row_eq (k l : Fin 128) (h : k.val * 128 + l.val < 16384) : (⟨k.val * 128 + l.val, h⟩ : Fin 16384) = Mlstm.row k.val l :=
  Fin.ext (show k.val * 128 + l.val = k.val % 128 * 128 + l.val by omega)

/-- The queries by head and chunk. -/
theorem Q_eq (h : Fin 4) (k l d : Fin 128) : p43 (E5 m c) h k l d = Mlstm.Q (X m c) (W m c) (B m c) h k.val l d := by
  rw [p43_at, qk_eq, row_eq]
  rfl
/-- The keys by head and chunk. -/
theorem K_eq (h : Fin 4) (k l d : Fin 128) : p48 (E5 m c) h k l d = Mlstm.K (X m c) (W m c) (B m c) h k.val l d := by
  rw [p48_at, qk_eq, row_eq]
  rfl
/-- The values by head and chunk. -/
theorem V_eq (h : Fin 4) (k l d : Fin 128) : p51 (E5 m c) h k l d = Mlstm.V (X m c) h k.val l d := by
  rw [p51_at, row_eq]
  exact (congrFun (keep41 m c (r := main_v1)) (ix2 _ _)).trans (p1_at _ _ _)
/-- The input gates by head and chunk. -/
theorem I_eq (h : Fin 4) (k l : Fin 128) : p56 (E5 m c) h k l = Mlstm.I (X m c) (IB m c) h k.val l := by
  rw [p56_at, row_eq]
  exact congrArg₂ (· + ·) ((congrFun (keep41 m c (r := main_v3)) (ix2 _ _)).trans (p3_at _ _ _))
    (congrFun (keep4 m c (r := main_arg3)) (ix1 h))
/-- The log forget gates by head and chunk. -/
theorem LF_eq (h : Fin 4) (k l : Fin 128) : p62 (after hostOps0_5 (E5 m c)) h k l = Mlstm.LF (X m c) (FB m c) h k.val l := by
  rw [p62_at, p61_at, row_eq]
  exact congrArg Mlstm.logsig (congrArg₂ (· + ·) ((congrFun (keep41 m c (r := main_v4)) (ix2 _ _)).trans (p4_at _ _ _))
    (congrFun (keep4 m c (r := main_arg4)) (ix1 h)))
/-- The running sums by head and chunk. -/
theorem G_eq (h : Fin 4) (k : Fin 128) : p63 (E7 m c) h k = Mlstm.G (X m c) (FB m c) h k.val := by
  funext l
  rw [p63_at]
  unfold Mlstm.G
  exact Finset.sum_congr rfl fun s _ => by rw [LF_eq]
/-- The queries at the running sums. -/
theorem Q7 (h : Fin 4) (k : Fin 128) : p43 (E7 m c) h k = Mlstm.Q (X m c) (W m c) (B m c) h k.val := by
  funext l d
  exact (congrFun (keep7 m c (r := main_v43)) (ix4 h k l d)).trans (Q_eq m c h k l d)
/-- The keys at the running sums. -/
theorem K7 (h : Fin 4) (k : Fin 128) : p48 (E7 m c) h k = Mlstm.K (X m c) (W m c) (B m c) h k.val := by
  funext l d
  exact (congrFun (keep7 m c (r := main_v48)) (ix4 h k l d)).trans (K_eq m c h k l d)
/-- The values at the running sums. -/
theorem V7 (h : Fin 4) (k : Fin 128) : p51 (E7 m c) h k = Mlstm.V (X m c) h k.val := by
  funext l d
  exact (congrFun (keep7 m c (r := main_v51)) (ix4 h k l d)).trans (V_eq m c h k l d)
/-- The input gates at the running sums. -/
theorem I7 (h : Fin 4) (k : Fin 128) : p56 (E7 m c) h k = Mlstm.I (X m c) (IB m c) h k.val := by
  funext l
  exact (congrFun (keep7 m c (r := main_v56)) (ix3 h k l)).trans (I_eq m c h k l)

/-- The states before every chunk. -/
abbrev ST (h : Fin 4) (n : ℕ) := Mlstm.state (X m c) (W m c) (B m c) (IB m c) (FB m c) h n

/-- The loop runs the recurrence. -/
theorem loop_inv : Inv (fun n h => (ST m c h n).1) (fun n h => (ST m c h n).2.1) (fun n h => (ST m c h n).2.2)
    (E8 m c) (STEP^[128] (E8 m c)) 128 := by
  have g2 : ∀ (k : Fin 128) h, b2 (E8 m c) k h = Mlstm.G (X m c) (FB m c) h k.val 127 := fun k h => by rw [b2_at, G_eq]
  have g3 : ∀ (k : Fin 128) h, b3 (E8 m c) k h
      = Mlstm.amax (Mlstm.I (X m c) (IB m c) h k.val) (Mlstm.G (X m c) (FB m c) h k.val) := fun k h => by rw [b3_at, I7, G_eq]
  refine inv_iterate _ _ _ (E8 m c) ?_ ?_ ?_ ?_ 128 (le_refl _)
  · exact { ctr := b4_at _, c0 := fun _ _ _ _ => rfl, c1 := fun _ _ _ => rfl, c2 := fun _ _ => rfl, c3 := fun _ _ => rfl
            c5 := fun h d e => b5_at _ h d e, c6 := fun h d => b6_at _ h d, c7 := fun h => b7_at _ h
            c8 := fun c hc => absurd hc (Nat.not_lt_zero _), c9 := fun c hc => absurd hc (Nat.not_lt_zero _)
            c10 := fun c hc => absurd hc (Nat.not_lt_zero _) }
  · intro k h
    rw [g2, g3]
    rfl
  · intro k h d e
    rw [g2, g3, b0_at, I7, G_eq, K7, V7]
    refine congrArg₂ (· + ·) rfl (congrArg₂ (· * ·) rfl (Finset.sum_congr rfl fun s _ => ?_))
    ac_rfl
  · intro k h d
    rw [g2, g3, b1_at, I7, G_eq, K7]
    rfl

/-- The matrix states before the read-out. -/
theorem C4 (h : Fin 4) (k : Fin 128) : p94 (L4 m c) h k = (ST m c h k.val).1 := by
  funext d e
  refine (congrFun (keepM1 m c (r := main_v94)) (ix4 h k d e)).trans ((p94_at _ h k d e).trans ?_)
  exact (congrFun (carried m c (r := main_v93_8)) (ix4 k h d e)).trans ((loop_inv m c).c8 k k.isLt h d e)
/-- The normaliser states before the read-out. -/
theorem N4 (h : Fin 4) (k : Fin 128) : p95 (L4 m c) h k = (ST m c h k.val).2.1 := by
  funext d
  refine (congrFun (keepM1 m c (r := main_v95)) (ix3 h k d)).trans ((p95_at _ h k d).trans ?_)
  exact (congrFun (carried m c (r := main_v93_9)) (ix3 k h d)).trans ((loop_inv m c).c9 k k.isLt h d)
/-- The stabilisers before the read-out. -/
theorem M4 (h : Fin 4) (k : Fin 128) : p96 (L4 m c) h k = (ST m c h k.val).2.2 := by
  refine (congrFun (keepM1 m c (r := main_v96)) (ix2 h k)).trans ((p96_at _ h k).trans ?_)
  exact (congrFun (carried m c (r := main_v93_10)) (ix2 k h)).trans ((loop_inv m c).c10 k k.isLt h)
/-- The queries before the read-out. -/
theorem Q4 (h : Fin 4) (k : Fin 128) : p43 (L4 m c) h k = Mlstm.Q (X m c) (W m c) (B m c) h k.val := by
  rw [← Q7]
  funext l d
  exact (congrFun (keepM m c (r := main_v43)) (ix4 h k l d)).trans (congrFun (keepL m c (r := main_v43)) (ix4 h k l d))
/-- The keys before the read-out. -/
theorem K4 (h : Fin 4) (k : Fin 128) : p48 (L4 m c) h k = Mlstm.K (X m c) (W m c) (B m c) h k.val := by
  rw [← K7]
  funext l d
  exact (congrFun (keepM m c (r := main_v48)) (ix4 h k l d)).trans (congrFun (keepL m c (r := main_v48)) (ix4 h k l d))
/-- The values before the read-out. -/
theorem V4 (h : Fin 4) (k : Fin 128) : p51 (L4 m c) h k = Mlstm.V (X m c) h k.val := by
  rw [← V7]
  funext l d
  exact (congrFun (keepM m c (r := main_v51)) (ix4 h k l d)).trans (congrFun (keepL m c (r := main_v51)) (ix4 h k l d))
/-- The input gates when the loop is left. -/
theorem I0 (h : Fin 4) (k : Fin 128) : p56 (L0 m c) h k = Mlstm.I (X m c) (IB m c) h k.val := by
  rw [← I7]
  funext l
  exact congrFun (keepL m c (r := main_v56)) (ix3 h k l)
/-- The running sums when the loop is left. -/
theorem G0 (h : Fin 4) (k : Fin 128) : p63 (L0 m c) h k = Mlstm.G (X m c) (FB m c) h k.val := by
  rw [← G_eq]
  funext l
  exact congrFun (keepL m c (r := main_v63)) (ix3 h k l)
/-- The input gates before the read-out. -/
theorem I4 (h : Fin 4) (k : Fin 128) : p56 (L4 m c) h k = Mlstm.I (X m c) (IB m c) h k.val := by
  rw [← I0]
  funext l
  exact congrFun (keepM m c (r := main_v56)) (ix3 h k l)
/-- The running sums before the read-out. -/
theorem G4 (h : Fin 4) (k : Fin 128) : p63 (L4 m c) h k = Mlstm.G (X m c) (FB m c) h k.val := by
  rw [← G0]
  funext l
  exact congrFun (keepM m c (r := main_v63)) (ix3 h k l)

/-- The normalised read-out of every chunk. -/
theorem hh_eq (h : Fin 4) (k t e : Fin 128) :
    p137 (L5 m c) h k t e
      = Mlstm.hh (Mlstm.Q (X m c) (W m c) (B m c) h k.val) (Mlstm.K (X m c) (W m c) (B m c) h k.val) (Mlstm.V (X m c) h k.val)
          (ST m c h k.val).1 (ST m c h k.val).2.1 (Mlstm.I (X m c) (IB m c) h k.val) (Mlstm.G (X m c) (FB m c) h k.val)
          (ST m c h k.val).2.2 t e := by
  rw [p137_at (L4 m c) h k t e (fun s => by rw [p107_at, I0, G0, I4, G4]), Q4, K4, V4, C4, N4, I4, G4, M4]

/-- The result, entry by entry. -/
theorem res_eq (r : Fin 16384) (j : Fin 512) :
    p162 (finalContents condOps preI bodyI postI 128 m c) r j
      = Mlstm.res (X m c) (W m c) (B m c) (IB m c) (FB m c) (NG m c) ⟨j.val / 128, by omega⟩ (r.val / 128)
          ⟨r.val % 128, by omega⟩ ⟨j.val % 128, by omega⟩ := by
  have e2 : ∀ q : Fin 512, p2 (L5 m c) r q = X m c r ⟨2560 + q.val, by omega⟩ := fun q =>
    (congrFun ((keepR m c (r := main_v2)).trans ((keepM m c).trans ((keepL m c).trans ((keep7 m c).trans
      ((after_of_writes_sub _ _ hostOps0_4_writes (by decide)).trans (keep41 m c)))))) (ix2 r q)).trans (p2_at _ _ _)
  have e5 : ∀ h d, a5 (L5 m c) h d = NG m c h d := fun h d =>
    congrFun ((keepR m c (r := main_arg5)).trans ((keepM m c).trans ((keepL m c).trans ((keep7 m c).trans
      ((after_of_writes_sub _ _ hostOps0_4_writes (by decide)).trans (keep4 m c)))))) (ix2 h d)
  rw [final_eq, p162_at, e2, e5]
  simp only [hh_eq]
  unfold Mlstm.res Mlstm.out Mlstm.O
  have hr : Mlstm.row (r.val / 128) ⟨r.val % 128, by omega⟩ = r :=
    Fin.ext (show r.val / 128 % 128 * 128 + r.val % 128 = r.val by omega)
  rw [hr]

end Cert.ReferenceIdeal.Rd
-- ==== Proof.Claims.lean ====
module

public import proofs.«01_k».proof.Defs
public import proofs.«01_k».proof.Proof.Gen.Kernel.Frame
public import proofs.«01_k».proof.Proof.Gen.KernelIdeal.Frame
public import proofs.«01_k».proof.Proof.Blocks
public import proofs.«01_k».proof.Proof.RefFinal
public import Idealize.ShloMosaic.Lib.Quiescent

/-! # The claims about the recurrence

The reference's run with its result named, the two results compared, and the claims of the certificate. -/

set_option maxRecDepth 16384

@[expose] public noncomputable section

open Idealize.ShloMosaic Idealize.ShloMosaic.TcCoe Idealize.SL.Sem Idealize.ShloMosaic.StableHlo

namespace Cert.ReferenceIdeal.Rd
open Cert.ReferenceIdeal Cert.ReferenceIdeal.Gen Cert.ReferenceIdeal.Value
variable (m : (ℓ : Loc nD τ sig) → Buf (Elt Ideal) ℓ) (ρ : Dev nD → PrngReg)

/-- A buffer nothing writes ends as launched. -/
theorem keepAll (c : Dev nD) {r : Ref sig .tc} (w12 : r ∉ hostOps0_12_W := by decide)
    (w8 : r ∉ hostOps0_8_W := by decide) (w9 : r ∉ hostOps0_9_W := by decide)
    (w10 : r ∉ hostOps0_10_W := by decide) (w11 : r ∉ hostOps0_11_W := by decide) (wl : L0 m c (Proc.devRef .tc r) = E7 m c (Proc.devRef .tc r) := by exact keepL _ _)
    (w7 : E7 m c (Proc.devRef .tc r) = E5 m c (Proc.devRef .tc r) := by exact keep7 _ _)
    (w5 : r ∉ hostOps0_4_W := by decide) (w4 : E4 m c (Proc.devRef .tc r) = E0 m c (Proc.devRef .tc r) := by exact keep4 _ _) :
    finalContents condOps preI bodyI postI 128 m c (Proc.devRef .tc r) = E0 m c (Proc.devRef .tc r) :=
  (after_of_writes_sub hostOps0_12 (L4 m c) hostOps0_12_writes w12).trans ((keepM m c w8 w9 w10 w11).trans
    (wl.trans (w7.trans ((after_of_writes_sub _ _ hostOps0_4_writes w5).trans w4))))

/-- The reference's run: its result, entry by entry, and its arguments unchanged. -/
theorem run_res : θ_run (defs (F := Ideal)) (onTc (τ := τ) (main (F := Ideal))) ⟨m, fun _ => 0, ρ⟩ fun r => ∀ c : Dev nD,
      (r.2.mem ((c.tc : Thread nD τ).loc main_v162) = finalContents condOps preI bodyI postI 128 m c (Proc.devRef .tc main_v162))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨h c main_v162 rfl,
    (h c main_arg0 rfl).trans (keepAll m c), (h c main_arg1 rfl).trans (keepAll m c),
    (h c main_arg2 rfl).trans (keepAll m c), (h c main_arg3 rfl).trans (keepAll m c),
    (h c main_arg4 rfl).trans (keepAll m c), (h c main_arg5 rfl).trans (keepAll m c)⟩) (run_fold m ρ)
end Cert.ReferenceIdeal.Rd

namespace Cert.Proof

/-- The two results are the same array when the arguments are. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    finalContents Cert.ReferenceIdeal.Value.condOps Cert.ReferenceIdeal.Value.preI Cert.ReferenceIdeal.Value.bodyI
      Cert.ReferenceIdeal.Value.postI 128 m' c (Proc.devRef .tc Cert.ReferenceIdeal.main_v162)
      = Cert.KernelIdeal.Rd.resArr m c := by
  have hX : Cert.ReferenceIdeal.Rd.X m' c = Cert.KernelIdeal.Rd.aX m c := funext fun i => funext fun j => congrFun h0 (ix2 i j)
  have hW : Cert.ReferenceIdeal.Rd.W m' c = Cert.KernelIdeal.Rd.aW m c := funext fun i => funext fun j => congrFun h1 (ix2 i j)
  have hB : Cert.ReferenceIdeal.Rd.B m' c = Cert.KernelIdeal.Rd.aB m c := funext fun j => congrFun h2 (ix1 j)
  have hI : Cert.ReferenceIdeal.Rd.IB m' c = Cert.KernelIdeal.Rd.aI m c := funext fun j => congrFun h3 (ix1 j)
  have hF : Cert.ReferenceIdeal.Rd.FB m' c = Cert.KernelIdeal.Rd.aF m c := funext fun j => congrFun h4 (ix1 j)
  have hN : Cert.ReferenceIdeal.Rd.NG m' c = Cert.KernelIdeal.Rd.aN m c := funext fun i => funext fun j => congrFun h5 (ix2 i j)
  funext i
  idx_vars i
  refine (Cert.ReferenceIdeal.Rd.res_eq m' c i0 i1).trans ?_
  rw [hX, hW, hB, hI, hF, hN]
  refine (Cert.KernelIdeal.Rd.resN_eq (i0.val / 128) (i0.val % 128) i1.val ⟨i0.val % 128, by omega⟩ ⟨i1.val / 128, by omega⟩
    ⟨i1.val % 128, by omega⟩ rfl (show i1.val = i1.val / 128 * 128 + i1.val % 128 by omega)).symm

/-- The kernel's frame. -/
theorem frame_p : Cert.quiescent_Kernel (hKernel := Cert.Kernel.Gen.facts) := fun m ρ _ => Cert.Kernel.Gen.frame m ρ
/-- The idealized kernel's frame. -/
theorem frame_pi : Cert.quiescent_KernelIdeal (hKernelIdeal := Cert.KernelIdeal.Gen.facts) := fun m ρ _ => Cert.KernelIdeal.Gen.frame m ρ
/-- The reference's frame: it declares no semaphore. -/
theorem frame_ri : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Rd.run_res m ρ)
/-- The idealized kernel and the reference end with the same result. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨fun c => Cert.KernelIdeal.Rd.resArr m c,
    (θ_run _ _ _).mono (fun r h c => ⟨(h c).1.trans (Cert.KernelIdeal.Rd.final m c), (h c).2⟩) (Cert.KernelIdeal.Value.run_blocks m ρ),
    (θ_run _ _ _).mono (fun r h c => ⟨(h c).1.trans (same_result m m' c (hag c).1 (hag c).2.1 (hag c).2.2.1 (hag c).2.2.2.1
      (hag c).2.2.2.2.1 (hag c).2.2.2.2.2), (h c).2⟩) (Cert.ReferenceIdeal.Rd.run_res m' ρ')⟩

end Cert.Proof

end
-- ==== Proof.FfnRunBits.lean ====
module

public import proofs.«01_k».proof.Proof.Gen.Kernel2.Frame
public import proofs.«01_k».proof.Proof.Gen.Kernel2.Skeleton
public import Idealize.ShloMosaic.Lib.VecWindow
public import Idealize.ShloMosaic.Lib.Pipeline.ValueKit

@[expose] public section

set_option maxRecDepth 16384

noncomputable section

namespace Cert.Kernel2.Ffn

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The column block is the first one: the normalised rows are computed and the sum is cleared. -/
abbrev cond1 (i : grid0.Coords) : Prop :=
  (let arg1 : BitVec 32 := BitVec.ofNat 32 (i 1).val
   let v0 : BitVec 1 := Scalar.cmpi .eq arg1 0#32
   let v1 : BitVec 32 := Scalar.extui v0
   let v2 : BitVec 1 := Scalar.cmpi .ne v1 0#32
   v2) = 1#1

/-- The row block is the first one: the carried rows of the column block are cleared. -/
abbrev cond2 (i : grid0.Coords) : Prop := k0_cond2 i = 1#1

/-- The column block is the last one: the output rows are stored. -/
abbrev cond3 (i : grid0.Coords) : Prop := k0_cond3 i = 1#1

set_option maxHeartbeats 40000000 in
/-- The body at a point, from the blocks at known contents and the output and the scratch buffers at any: it ends with
    the blocks as they were and the output and the scratch buffers at some contents. -/
theorem run (c : Dev nD) (i : grid0.Coords) (h13 : cond1 i → ¬ cond3 i) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S1x512 .f32) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S512x2048 .f32) (harg13 : arg13.IsWhole) (arg14 : Memref sig .tc .vmem S512x2048 .bf16) (harg14 : arg14.IsWhole) (arg15 : Memref sig .tc .vmem S512x2048 .f32) (harg15 : arg15.IsWhole) (arg16 : Memref sig .tc .vmem S11x8x512 .f32) (harg16 : arg16.IsWhole)
    (x0 : Vec F S512x2048 .f32) (x1 : Vec F S1x2048 .f32) (x2 : Vec F S1x2048 .f32) (x3 : Vec F S1x2048 .f32) (x4 : Vec F S2048x512 .bf16) (x5 : Vec F S2048x512 .bf16) (x6 : Vec F S3x512 .f32) (x7 : Vec F S1x512 .f32) (x8 : Vec F S512x2048 .bf16) (x9 : Vec F S1x2048 .f32) (x10 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0__ffn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases hc1 : cond1 i <;> by_cases hc2 : cond2 i <;> by_cases hc3 : cond3 i <;> first | exact absurd hc3 (h13 hc1) | skip
  all_goals
    simp only [cc0__ffn_kernel_eq_skeleton]; unfold cc0__ffn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d0, %fo, -, HO⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HO]
    · iexists _, _; isplitr; swap; · iexact HO
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel2.Ffn

end
-- ==== Proof.FfnOblBits.lean ====
module

public import proofs.«01_k».proof.Proof.FfnRunBits
public import Idealize.ShloMosaic.Lib.Pipeline.DatRel
public import Idealize.ShloMosaic.Lib.Pipeline.ArrRel

/-! # The feed-forward kernel's frame at machine words

The kernel's program at machine words runs to the end from any contents of its scratch buffers, and leaves its arguments
as they were launched. -/

@[expose] public section

set_option maxRecDepth 16384

noncomputable section

namespace Cert.Kernel2.Ffn

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-- The first column block's points. -/
theorem hcond1 : ∀ t : Fin cfg0.N, cond1 (grid0.coords t) ↔ t.val % 11 = 0 :=
  (fun t => by
    have ht : t.val < 352 := Nat.lt_of_lt_of_eq t.isLt N_0
    have e1 : (grid0.coords t 1).val = t.val / 1 % 11 := Pipeline.Grid.coords_val t 1 (by decide) rfl
    simp only [cond1, e1]
    word_cmp
   : ∀ t : Fin grid0.N, cond1 (grid0.coords t) ↔ t.val % 11 = 0)

/-- The first row block's points. -/
theorem hcond2 : ∀ t : Fin cfg0.N, cond2 (grid0.coords t) ↔ t.val < 11 :=
  (fun t => by
    have ht : t.val < 352 := Nat.lt_of_lt_of_eq t.isLt N_0
    have e0 : (grid0.coords t 0).val = t.val / 11 % 32 := Pipeline.Grid.coords_val t 0 (by decide) rfl
    simp only [cond2, k0_cond2, e0]
    word_cmp
   : ∀ t : Fin grid0.N, cond2 (grid0.coords t) ↔ t.val < 11)

/-- The last column block's points. -/
theorem hcond3 : ∀ t : Fin cfg0.N, cond3 (grid0.coords t) ↔ t.val % 11 = 10 :=
  (fun t => by
    have ht : t.val < 352 := Nat.lt_of_lt_of_eq t.isLt N_0
    have e1 : (grid0.coords t 1).val = t.val / 1 % 11 := Pipeline.Grid.coords_val t 1 (by decide) rfl
    simp only [cond3, k0_cond3, e1]
    word_cmp
   : ∀ t : Fin grid0.N, cond3 (grid0.coords t) ↔ t.val % 11 = 10)

/-- No column block is both the first and the last. -/
theorem h13 (t : Fin cfg0.N) : cond1 (grid0.coords t) → ¬ cond3 (grid0.coords t) := fun h h' => by
  have a := (hcond1 t).mp h
  have b := (hcond3 t).mp h'
  omega

variable (m : (ℓ : Loc nD τ sig) → Buf (Elt F) ℓ) (ρ : Dev nD → PrngReg)

/-- The scratch buffer of the normalised rows. -/
abbrev scH : Memref sig .tc .vmem S512x2048 .bf16 := Memref.whole cc0_scratch0
/-- The scratch buffer of the running sum. -/
abbrev scA : Memref sig .tc .vmem S512x2048 .f32 := Memref.whole cc0_scratch1
/-- The scratch buffer of the carried rows. -/
abbrev scC : Memref sig .tc .vmem S11x8x512 .f32 := Memref.whole cc0_scratch2

/-- The launch's hand-over: the scratch buffers at some contents. -/
theorem phiA_eq (c : Dev nD) :
    (Pipeline.ΦA spec0 c : sProp 𝕄)
      = iprop(iprop((∃ d, owns (c : Thread nD τ) scH fullShare d) ∗ (∃ d, owns (c : Thread nD τ) scA fullShare d) ∗ (∃ d, owns (c : Thread nD τ) scC fullShare d)) ∗ (∃ r, prngReg c r)) := by
  unfold Pipeline.ΦA; rw [scopedRest0_eq]; simp only [scH, scA, scC, owns_whole]; try rfl

/-- The scratch buffers before any point, at some contents. -/
def Phi (c : Dev nD) : sProp 𝕄 :=
  iprop((∃ d, owns (c : Thread nD τ) scH fullShare d) ∗ (∃ d, owns (c : Thread nD τ) scA fullShare d) ∗ (∃ d, owns (c : Thread nD τ) scC fullShare d) ∗ (∃ r, prngReg c r))

/-- The output is the one window whose contents are whose contents are left open. -/
def fgt : Fin cfg0.W → Bool := fun w => match w with
  | ⟨11, _⟩ => true
  | _ => false

/-- Nothing is asked of a window's contents. -/
def Rl : (w : Fin cfg0.W) → Fin cfg0.N → ((cfg0.win w).block.Idx → Elt F (cfg0.win w).elt) → Prop :=
  fun _ _ _ => True

/-- The proof data: the arrays as the region finds them, each input's buffer at its block, the scratch buffers at
    some contents. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ t := Phi c
  q _ := fullShare
  owed _ := 0

/-- The proof data's arrays are the region's. -/
theorem A_eq (c : Dev nD) (w : Fin cfg0.W) : (dat m c).A w = V m c (Pipeline.arrRef spec0 w) := by
  dsimp only [dat]

/-- An input's buffer holds its block at every point. -/
theorem before_0 (c : Dev nD) (t : Fin cfg0.N) (d) : (dat m c).before 0 t d = iblk m c 0 t :=
  before0_0_of m (dat m c) (A_eq m c 0) (fun _ => by dsimp only [dat]) t d
/-- An input's buffer holds its block at every point. -/
theorem before_1 (c : Dev nD) (t : Fin cfg0.N) (d) : (dat m c).before 1 t d = iblk m c 1 t :=
  before0_1_of m (dat m c) (A_eq m c 1) (fun _ => by dsimp only [dat]) t d
/-- An input's buffer holds its block at every point. -/
theorem before_2 (c : Dev nD) (t : Fin cfg0.N) (d) : (dat m c).before 2 t d = iblk m c 2 t :=
  before0_2_of m (dat m c) (A_eq m c 2) (fun _ => by dsimp only [dat]) t d
/-- An input's buffer holds its block at every point. -/
theorem before_3 (c : Dev nD) (t : Fin cfg0.N) (d) : (dat m c).before 3 t d = iblk m c 3 t :=
  before0_3_of m (dat m c) (A_eq m c 3) (fun _ => by dsimp only [dat]) t d
/-- An input's buffer holds its block at every point. -/
theorem before_4 (c : Dev nD) (t : Fin cfg0.N) (d) : (dat m c).before 4 t d = iblk m c 4 t :=
  before0_4_of m (dat m c) (A_eq m c 4) (fun _ => by dsimp only [dat]) t d
/-- An input's buffer holds its block at every point. -/
theorem before_5 (c : Dev nD) (t : Fin cfg0.N) (d) : (dat m c).before 5 t d = iblk m c 5 t :=
  before0_5_of m (dat m c) (A_eq m c 5) (fun _ => by dsimp only [dat]) t d
/-- An input's buffer holds its block at every point. -/
theorem before_6 (c : Dev nD) (t : Fin cfg0.N) (d) : (dat m c).before 6 t d = iblk m c 6 t :=
  before0_6_of m (dat m c) (A_eq m c 6) (fun _ => by dsimp only [dat]) t d
/-- An input's buffer holds its block at every point. -/
theorem before_7 (c : Dev nD) (t : Fin cfg0.N) (d) : (dat m c).before 7 t d = iblk m c 7 t :=
  before0_7_of m (dat m c) (A_eq m c 7) (fun _ => by dsimp only [dat]) t d
/-- An input's buffer holds its block at every point. -/
theorem before_8 (c : Dev nD) (t : Fin cfg0.N) (d) : (dat m c).before 8 t d = iblk m c 8 t :=
  before0_8_of m (dat m c) (A_eq m c 8) (fun _ => by dsimp only [dat]) t d
/-- An input's buffer holds its block at every point. -/
theorem before_9 (c : Dev nD) (t : Fin cfg0.N) (d) : (dat m c).before 9 t d = iblk m c 9 t :=
  before0_9_of m (dat m c) (A_eq m c 9) (fun _ => by dsimp only [dat]) t d
/-- An input's buffer holds its block at every point. -/
theorem before_10 (c : Dev nD) (t : Fin cfg0.N) (d) : (dat m c).before 10 t d = iblk m c 10 t :=
  before0_10_of m (dat m c) (A_eq m c 10) (fun _ => by dsimp only [dat]) t d

/-- Window `w`'s buffer at point `t`. -/
abbrev st (w : Fin cfg0.W) (t : Fin cfg0.N) := (cfg0.win w).stage (cfg0.slots t w)

/-- What the body is called with at point `t`. -/
def pre (c : Dev nD) (t : Fin cfg0.N) : sProp 𝕄 :=
  iprop(Phi c ∗ (dat m c).owesAt () t.castSucc
    ∗ (∃ d, owns (c : Thread nD τ) (st 0 t) fullShare ((dat m c).before 0 t d))
    ∗ (∃ d, owns (c : Thread nD τ) (st 1 t) fullShare ((dat m c).before 1 t d))
    ∗ (∃ d, owns (c : Thread nD τ) (st 2 t) fullShare ((dat m c).before 2 t d))
    ∗ (∃ d, owns (c : Thread nD τ) (st 3 t) fullShare ((dat m c).before 3 t d))
    ∗ (∃ d, owns (c : Thread nD τ) (st 4 t) fullShare ((dat m c).before 4 t d))
    ∗ (∃ d, owns (c : Thread nD τ) (st 5 t) fullShare ((dat m c).before 5 t d))
    ∗ (∃ d, owns (c : Thread nD τ) (st 6 t) fullShare ((dat m c).before 6 t d))
    ∗ (∃ d, owns (c : Thread nD τ) (st 7 t) fullShare ((dat m c).before 7 t d))
    ∗ (∃ d, owns (c : Thread nD τ) (st 8 t) fullShare ((dat m c).before 8 t d))
    ∗ (∃ d, owns (c : Thread nD τ) (st 9 t) fullShare ((dat m c).before 9 t d))
    ∗ (∃ d, owns (c : Thread nD τ) (st 10 t) fullShare ((dat m c).before 10 t d))
    ∗ (∃ Y, ⌜((dat m c).toRRel fgt Rl).Finds 11 t Y⌝ ∗ owns (c : Thread nD τ) (st 11 t) fullShare Y))

/-- What the body returns at point `t`. -/
def post (c : Dev nD) (t : Fin cfg0.N) : sProp 𝕄 :=
  iprop(Phi c ∗ (dat m c).owesAt () t.succ
    ∗ owns (c : Thread nD τ) (st 0 t) fullShare (iblk m c 0 t)
    ∗ owns (c : Thread nD τ) (st 1 t) fullShare (iblk m c 1 t)
    ∗ owns (c : Thread nD τ) (st 2 t) fullShare (iblk m c 2 t)
    ∗ owns (c : Thread nD τ) (st 3 t) fullShare (iblk m c 3 t)
    ∗ owns (c : Thread nD τ) (st 4 t) fullShare (iblk m c 4 t)
    ∗ owns (c : Thread nD τ) (st 5 t) fullShare (iblk m c 5 t)
    ∗ owns (c : Thread nD τ) (st 6 t) fullShare (iblk m c 6 t)
    ∗ owns (c : Thread nD τ) (st 7 t) fullShare (iblk m c 7 t)
    ∗ owns (c : Thread nD τ) (st 8 t) fullShare (iblk m c 8 t)
    ∗ owns (c : Thread nD τ) (st 9 t) fullShare (iblk m c 9 t)
    ∗ owns (c : Thread nD τ) (st 10 t) fullShare (iblk m c 10 t)
    ∗ (∃ X, ⌜Rl (F := F) 11 t X⌝ ∗ owns (c : Thread nD τ) (st 11 t) fullShare X))

set_option maxHeartbeats 3200000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10]
  rw [show (dat m c).owesAt () t.succ = (dat m c).owesAt () t.castSucc from rfl]
  unfold Phi
  iintro ⟨⟨HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%o, -, HO⟩⟩
  iapply (run c (grid0.coords t) (h13 t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HO]; · iexists o; iexact HO
  isplitl [HS0]; · iexact HS0
  isplitl [HS1]; · iexact HS1
  isplitl [HS2]; · iexact HS2
  iintro ⟨H0, H1, H2, H3, H4, H5, H6, H7, H8, H9, H10, ⟨%oo, HO⟩, HS0, HS1, HS2⟩
  isplitl [HS0 HS1 HS2 Hg]
  · isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _
  isplitr; swap
  · iexact HO
  ipureintro; trivial

/-- The body table's row at a point is the body there. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The body's obligation at every point. -/
theorem obligation (c : Dev nD) :
    BodyObligationRel (dat m c) (defs₀ (F := F)) Variants.none () Set.univ fgt Rl := fun t => by
  rw [bigSep_W0, bigSep_W0, defs₀_row]
  exact triple_restated (sound m c t) rfl .rfl fun _ => .rfl

/-- The launch hands over the scratch buffers at some contents. -/
theorem hin (c : Dev nD) : Pipeline.ΦA spec0 c ⊢ (dat m c).Φ 0 := by
  rw [show (dat m c).Φ 0 = Phi c from rfl, phiA_eq]
  unfold Phi
  iintro ⟨⟨HS0, HS1, HS2⟩, Hg⟩
  isplitl [HS0]; · iexact HS0
  isplitl [HS1]; · iexact HS1
  isplitl [HS2]; · iexact HS2
  iexact Hg

/-- The scratch buffers are given back at the end. -/
theorem hout (c : Dev nD) : (dat m c).Φ (Fin.last cfg0.N) ⊢ Pipeline.ΦA spec0 c := by
  rw [show (dat m c).Φ (Fin.last cfg0.N) = Phi c from rfl, phiA_eq]
  unfold Phi
  iintro ⟨HS0, HS1, HS2, Hg⟩
  isplitl [HS0 HS1 HS2]
  · isplitl [HS0]; · iexact HS0
    isplitl [HS1]; · iexact HS1
    iexact HS2
  iexact Hg

set_option backward.isDefEq.respectTransparency.types false in
/-- The whole program's run. -/
theorem run_main :
    θ_run defs (onTc (τ := τ) (main (F := F))) (s₀ m ρ)
      (fun r => RDat.FramePost cfg0 (fun c => (dat m c).toRRel fgt Rl) (V m) r ∧ r.2.sem = fun _ => 0) :=
  Pipeline.RDat.θ_run_frame_track (Q' := _) cfgs (0 : Fin 1) launch0 defs₀ Variants.none
    (fun c => (dat m c).toRRel fgt Rl) m ρ main
    (hbody := fun c => (obligation m c).toRRel) (hshare := fun c => (dat m c).share_full fun _ => rfl)
    (howed := fun _ _ => rfl) (V := V m) (hmain := hmain m Variants.none) (hA := A_eq m) (hin := hin m) (hout := hout m)

/-- After the run the arguments are as launched. -/
theorem run_post :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r hr => ⟨fun c => by
    obtain ⟨h, -⟩ := hr
    obtain ⟨after, hL, hA⟩ := RDat.FramePost.exists_exact h c
    exact ⟨(hA 0).trans ((Dat.arrAt_in _ 0 rfl _).trans ((A_eq m c 0).trans (V_main_arg0 m c))),
      ((h c).2 main_arg1 (Pipeline.mem_restRefs_of main_arg1 (by decide) (by decide))).trans (V_main_arg1 m c),
      (hA 2).trans ((Dat.arrAt_in _ 2 rfl _).trans ((A_eq m c 2).trans (V_main_arg2 m c))),
      (hA 3).trans ((Dat.arrAt_in _ 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (hA 10).trans ((Dat.arrAt_in _ 10 rfl _).trans ((A_eq m c 10).trans (V_main_arg9 m c)))⟩, hr.2⟩) (run_main m ρ)

end Cert.Kernel2.Ffn

end
-- ==== Proof.FfnRun.lean ====
module

public import proofs.«01_k».proof.Proof.Gen.Kernel2Ideal.Frame
public import proofs.«01_k».proof.Proof.Gen.Kernel2Ideal.Skeleton
public import Idealize.ShloMosaic.Lib.VecWindow
public import Idealize.ShloMosaic.Lib.Pipeline.ValueKit

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The column block is the first one: the normalised rows are computed and the sum is cleared. -/
abbrev cond1 (i : grid0.Coords) : Prop :=
  (let arg1 : BitVec 32 := BitVec.ofNat 32 (i 1).val
   let v0 : BitVec 1 := Scalar.cmpi .eq arg1 0#32
   let v1 : BitVec 32 := Scalar.extui v0
   let v2 : BitVec 1 := Scalar.cmpi .ne v1 0#32
   v2) = 1#1

/-- The row block is the first one: the carried rows of the column block are cleared. -/
abbrev cond2 (i : grid0.Coords) : Prop := k0_cond2 i = 1#1

/-- The column block is the last one: the output rows are stored. -/
abbrev cond3 (i : grid0.Coords) : Prop := k0_cond3 i = 1#1

/-- The first condition as a plain proposition, for the contents named below. -/
def P1 (i : grid0.Coords) : Prop := cond1 i
/-- The second condition. -/
def P2 (i : grid0.Coords) : Prop := cond2 i
/-- The third condition. -/
def P3 (i : grid0.Coords) : Prop := cond3 i

open Classical in
/-- The normalised rows after a point. -/
def hNew (i : grid0.Coords) (x0 : Vec F S512x2048 .f32) (x1 x2 x3 : Vec F S1x2048 .f32) (hv : Vec F S512x2048 .bf16) : Vec F S512x2048 .bf16 :=
  if P1 i then k0_pay3 x0 x1 x2 x3 else hv

open Classical in
/-- The running sum as a point finds it, cleared on the first column block. -/
def aMid (i : grid0.Coords) (av : Vec F S512x2048 .f32) : Vec F S512x2048 .f32 := if P1 i then k0_pay4 else av

open Classical in
/-- The carried rows as a point reads them, the point's slot cleared on the first row block. -/
def cMid (i : grid0.Coords) (cv : Vec F S11x8x512 .f32) : Vec F S11x8x512 .f32 :=
  if P2 i then VecWindow.put cv (k0_off2 i) ![1, 8, 512] (k0_pay5 (F := F)) else cv

/-- The carried rows after a point. -/
def cNew (i : grid0.Coords) (h : Vec F S512x2048 .bf16) (x4 : Vec F S2048x512 .bf16) (cv : Vec F S11x8x512 .f32) : Vec F S11x8x512 .f32 :=
  VecWindow.put (cMid i cv) (k0_off2 i) ![1, 8, 512] (k0_pay9 h x4)

/-- The running sum after a point. -/
def aNew (i : grid0.Coords) (h : Vec F S512x2048 .bf16) (x4 x5 : Vec F S2048x512 .bf16) (x6 : Vec F S3x512 .f32) (x7 : Vec F S1x512 .f32)
    (x8 : Vec F S512x2048 .bf16) (av : Vec F S512x2048 .f32) (cv : Vec F S11x8x512 .f32) : Vec F S512x2048 .f32 :=
  have v14 : Vec F S1x8x512 .f32 := VecWindow.window (cMid i cv) (k0_off2 i) ![1, 8, 512] (k0_off2_inb i)
  k0_pay1 (k0_pay15 (k0_pay6 h x4) (k0_pay7 h x5) (k0_pay10 h x4 v14) k0_pay11 (k0_pay12 v14) k0_pay13 (k0_pay14 v14) x6 x7 (aMid i av) x8)

open Classical in
/-- The output rows after a point. -/
def oNew (i : grid0.Coords) (x0 : Vec F S512x2048 .f32) (x9 x10 : Vec F S1x2048 .f32) (a o : Vec F S512x2048 .f32) : Vec F S512x2048 .f32 :=
  if P3 i then k0_pay2 a x0 x10 x9 else o

/-- A store of the whole buffer leaves the stored rows. -/
theorem full1 {e : EltTy} {sp : Space} (v : View sig .tc sp S512x2048 e) (f : v.ty.Contents (Elt F)) (inb) (w : Vec F S512x2048 e) (L : List (View.Piece (Elt F) S512x2048 e)) :
    v.read (Elt F) (v.writes (Elt F) f (⟨Rect.unit (s := S512x2048) ![0, 0] ![512, 2048] inb, w⟩ :: L)) = w :=
  View.read_writes_full v f inb w L

/-- A store into the point's slot, over earlier stores. -/
theorem put2 (i : grid0.Coords) (inb) (arg16 : Memref sig .tc .vmem S11x8x512 .f32) (f : arg16.view.ty.Contents (Elt F)) (w : Vec F S1x8x512 .f32) (L : List (View.Piece (Elt F) S11x8x512 .f32)) :
    arg16.view.read (Elt F) (arg16.view.writes (Elt F) f (⟨Rect.unit (s := S11x8x512) (k0_off2 i) ![1, 8, 512] inb, w⟩ :: L))
      = VecWindow.put (arg16.view.read (Elt F) (arg16.view.writes (Elt F) f L)) (k0_off2 i) ![1, 8, 512] w :=
  View.read_writes_cons_put _ _ _ _ _ rfl

/-- The clearing store into the point's slot. -/
theorem put1 (i : grid0.Coords) (inb) (arg16 : Memref sig .tc .vmem S11x8x512 .f32) (f : arg16.view.ty.Contents (Elt F)) (w : Vec F S1x8x512 .f32) (L : List (View.Piece (Elt F) S11x8x512 .f32)) :
    arg16.view.read (Elt F) (arg16.view.writes (Elt F) f (⟨Rect.unit (s := S11x8x512) (k0_off1 i) ![1, 8, 512] inb, w⟩ :: L))
      = VecWindow.put (arg16.view.read (Elt F) (arg16.view.writes (Elt F) f L)) (k0_off2 i) ![1, 8, 512] w :=
  View.read_writes_cons_put _ _ _ _ _ rfl

/-- A load of the point's slot is a window of the contents. -/
theorem win1 (i : grid0.Coords) (inb) (x : Vec F S11x8x512 .f32) :
    View.ld (Val := Elt F) (e' := .f32) x (Rect.unit (s := S11x8x512) (k0_off2 i) ![1, 8, 512] inb) = VecWindow.window x (k0_off2 i) ![1, 8, 512] inb :=
  rfl

/-- A load of the point's slot just after it was cleared. -/
theorem cov1 (i : grid0.Coords) (inb) (inb') (v : View sig .tc .vmem S11x8x512 .f32) (w : Vec F S1x8x512 .f32) :
    v.readCov (Val := Elt F) [⟨Rect.unit (s := S11x8x512) (k0_off1 i) ![1, 8, 512] inb, w⟩] (Rect.unit (s := S11x8x512) (k0_off2 i) ![1, 8, 512] inb').toLoadRect = w :=
  (View.readAt_unit v _ inb' rfl inb').trans
    ((congrArg (fun x => VecWindow.window x (k0_off2 i) ![1, 8, 512] inb') (View.read_writes_cons_put v _ inb w [] rfl)).trans
      (VecWindow.window_put_same _ _ _ inb' w))

set_option maxHeartbeats 40000000 in
/-- The body at a point, from the blocks and the three scratch buffers at known contents: it ends with the blocks as
    they were and the scratch buffers and the output at the named contents. -/
theorem run (c : Dev nD) (i : grid0.Coords) (h13 : cond1 i → ¬ cond3 i) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S3x512 .f32) (harg8 : arg8.IsWhole) (arg9 : Memref sig .tc .vmem S1x512 .f32) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S512x2048 .f32) (harg13 : arg13.IsWhole) (arg14 : Memref sig .tc .vmem S512x2048 .bf16) (harg14 : arg14.IsWhole) (arg15 : Memref sig .tc .vmem S512x2048 .f32) (harg15 : arg15.IsWhole) (arg16 : Memref sig .tc .vmem S11x8x512 .f32) (harg16 : arg16.IsWhole)
    (x0 : Vec F S512x2048 .f32) (x1 : Vec F S1x2048 .f32) (x2 : Vec F S1x2048 .f32) (x3 : Vec F S1x2048 .f32) (x4 : Vec F S2048x512 .bf16) (x5 : Vec F S2048x512 .bf16) (x6 : Vec F S3x512 .f32) (x7 : Vec F S1x512 .f32) (x8 : Vec F S512x2048 .bf16) (x9 : Vec F S1x2048 .f32) (x10 : Vec F S1x2048 .f32) (o : Vec F S512x2048 .f32) (hv : Vec F S512x2048 .bf16) (av : Vec F S512x2048 .f32) (cv : Vec F S11x8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare o ∗ owns (c : Thread nD τ) arg14 fullShare hv ∗ owns (c : Thread nD τ) arg15 fullShare av ∗ owns (c : Thread nD τ) arg16 fullShare cv
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (oNew i x0 x9 x10 (aNew i (hNew i x0 x1 x2 x3 hv) x4 x5 x6 x7 x8 av cv) o) ∗ owns (c : Thread nD τ) arg14 fullShare (hNew i x0 x1 x2 x3 hv) ∗ owns (c : Thread nD τ) arg15 fullShare (aNew i (hNew i x0 x1 x2 x3 hv) x4 x5 x6 x7 x8 av cv) ∗ owns (c : Thread nD τ) arg16 fullShare (cNew i (hNew i x0 x1 x2 x3 hv) x4 cv)) -∗ K ⟨⟩))
      ⊢ wp frame (wpE (defs₀ (F := F)) Variants.none c none) E (cc0__ffn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases hc1 : cond1 i <;> by_cases hc2 : cond2 i <;> by_cases hc3 : cond3 i <;> first | exact absurd hc3 (h13 hc1) | skip
  all_goals
    simp only [cc0__ffn_kernel_eq_skeleton]; unfold cc0__ffn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fo, %hfo, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    obtain rfl := harg13.eq_unread hfo; obtain rfl := harg14.eq_unread hfs0; obtain rfl := harg15.eq_unread hfs1; obtain rfl := harg16.eq_unread hfs2
    sl_exec (disch := first | sl_exact hc1 | sl_exact hc2 | sl_exact hc3)
    sl_step
    iapply Hk
    first | (have hp1 : P1 i := hc1) | (have hp1 : ¬ P1 i := hc1)
    first | (have hp2 : P2 i := hc2) | (have hp2 : ¬ P2 i := hc2)
    first | (have hp3 : P3 i := hc3) | (have hp3 : ¬ P3 i := hc3)
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HO]
    · iexists _; isplitr; swap; · iexact HO
      ipureintro; (try sl_unfold_run_names); (try unfold oNew); (try unfold cNew); (try unfold aNew); (try unfold hNew); (try unfold aMid); (try unfold cMid)
      simp (disch := decide) only [View.ld_unit_lit', View.readCov_unit_lit', View.readCov_cons_unit_lit', View.readAt_eq_ld, Memref.IsWhole.read_unread, full1, hp1, hp2, hp3, hf0, hf1, hf2, hf3, hf4, hf5, hf6, hf7, hf8, hf9, hf10, hfo, hfs0, hfs1, hfs2, if_true, if_false, View.readAt_full, View.readCov_full, View.readAt_writes_full, View.read_writes_full, put1, put2, win1, cov1, View.writes_nil, VecWindow.window_put_same]
    isplitl [HS0]
    · iexists _; isplitr; swap; · iexact HS0
      ipureintro; (try sl_unfold_run_names); (try unfold oNew); (try unfold cNew); (try unfold aNew); (try unfold hNew); (try unfold aMid); (try unfold cMid)
      simp (disch := decide) only [View.ld_unit_lit', View.readCov_unit_lit', View.readCov_cons_unit_lit', View.readAt_eq_ld, Memref.IsWhole.read_unread, full1, hp1, hp2, hp3, hf0, hf1, hf2, hf3, hf4, hf5, hf6, hf7, hf8, hf9, hf10, hfo, hfs0, hfs1, hfs2, if_true, if_false, View.readAt_full, View.readCov_full, View.readAt_writes_full, View.read_writes_full, put1, put2, win1, cov1, View.writes_nil, VecWindow.window_put_same]
    isplitl [HS1]
    · iexists _; isplitr; swap; · iexact HS1
      ipureintro; (try sl_unfold_run_names); (try unfold oNew); (try unfold cNew); (try unfold aNew); (try unfold hNew); (try unfold aMid); (try unfold cMid)
      simp (disch := decide) only [View.ld_unit_lit', View.readCov_unit_lit', View.readCov_cons_unit_lit', View.readAt_eq_ld, Memref.IsWhole.read_unread, full1, hp1, hp2, hp3, hf0, hf1, hf2, hf3, hf4, hf5, hf6, hf7, hf8, hf9, hf10, hfo, hfs0, hfs1, hfs2, if_true, if_false, View.readAt_full, View.readCov_full, View.readAt_writes_full, View.read_writes_full, put1, put2, win1, cov1, View.writes_nil, VecWindow.window_put_same]
    iexists _; isplitr; swap; · iexact HS2
    ipureintro; (try sl_unfold_run_names); (try unfold oNew); (try unfold cNew); (try unfold aNew); (try unfold hNew); (try unfold aMid); (try unfold cMid)
    simp (disch := decide) only [View.ld_unit_lit', View.readCov_unit_lit', View.readCov_cons_unit_lit', View.readAt_eq_ld, Memref.IsWhole.read_unread, full1, hp1, hp2, hp3, hf0, hf1, hf2, hf3, hf4, hf5, hf6, hf7, hf8, hf9, hf10, hfo, hfs0, hfs1, hfs2, if_true, if_false, View.readAt_full, View.readCov_full, View.readAt_writes_full, View.read_writes_full, put1, put2, win1, cov1, View.writes_nil, VecWindow.window_put_same]

end Cert.Kernel2Ideal.Ffn

end
-- ==== Proof.FfnObl.lean ====
module

public import proofs.«01_k».proof.Proof.FfnRun
public import Idealize.ShloMosaic.Lib.Pipeline.DatRel
public import Idealize.ShloMosaic.Lib.Pipeline.ArrRel

/-! # The feed-forward kernel's run from an invariant of its scratch buffers

The three scratch buffers carry the normalised rows, the running sum and the rows carried from one row block to the
next. For any property of their contents that every point keeps, and any property of the output rows that follows, the
whole program runs and leaves in every block of the output array rows with that property. -/

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-- The first column block's points. -/
theorem hcond1 : ∀ t : Fin cfg0.N, cond1 (grid0.coords t) ↔ t.val % 11 = 0 :=
  (fun t => by
    have ht : t.val < 352 := Nat.lt_of_lt_of_eq t.isLt N_0
    have e1 : (grid0.coords t 1).val = t.val / 1 % 11 := Pipeline.Grid.coords_val t 1 (by decide) rfl
    simp only [cond1, e1]
    word_cmp
   : ∀ t : Fin grid0.N, cond1 (grid0.coords t) ↔ t.val % 11 = 0)

/-- The first row block's points. -/
theorem hcond2 : ∀ t : Fin cfg0.N, cond2 (grid0.coords t) ↔ t.val < 11 :=
  (fun t => by
    have ht : t.val < 352 := Nat.lt_of_lt_of_eq t.isLt N_0
    have e0 : (grid0.coords t 0).val = t.val / 11 % 32 := Pipeline.Grid.coords_val t 0 (by decide) rfl
    simp only [cond2, k0_cond2, e0]
    word_cmp
   : ∀ t : Fin grid0.N, cond2 (grid0.coords t) ↔ t.val < 11)

/-- The last column block's points. -/
theorem hcond3 : ∀ t : Fin cfg0.N, cond3 (grid0.coords t) ↔ t.val % 11 = 10 :=
  (fun t => by
    have ht : t.val < 352 := Nat.lt_of_lt_of_eq t.isLt N_0
    have e1 : (grid0.coords t 1).val = t.val / 1 % 11 := Pipeline.Grid.coords_val t 1 (by decide) rfl
    simp only [cond3, k0_cond3, e1]
    word_cmp
   : ∀ t : Fin grid0.N, cond3 (grid0.coords t) ↔ t.val % 11 = 10)

/-- No column block is both the first and the last. -/
theorem h13 (t : Fin cfg0.N) : cond1 (grid0.coords t) → ¬ cond3 (grid0.coords t) := fun h h' => by
  have a := (hcond1 t).mp h
  have b := (hcond3 t).mp h'
  omega

variable (m : (ℓ : Loc nD τ sig) → Buf (Elt F) ℓ) (ρ : Dev nD → PrngReg)

/-- The scratch buffer of the normalised rows. -/
abbrev scH : Memref sig .tc .vmem S512x2048 .bf16 := Memref.whole cc0_scratch0
/-- The scratch buffer of the running sum. -/
abbrev scA : Memref sig .tc .vmem S512x2048 .f32 := Memref.whole cc0_scratch1
/-- The scratch buffer of the carried rows. -/
abbrev scC : Memref sig .tc .vmem S11x8x512 .f32 := Memref.whole cc0_scratch2

/-- The launch's hand-over: the scratch buffers at some contents. -/
theorem phiA_eq (c : Dev nD) :
    (Pipeline.ΦA spec0 c : sProp 𝕄)
      = iprop(iprop((∃ d, owns (c : Thread nD τ) scH fullShare d) ∗ (∃ d, owns (c : Thread nD τ) scA fullShare d) ∗ (∃ d, owns (c : Thread nD τ) scC fullShare d)) ∗ (∃ r, prngReg c r)) := by
  unfold Pipeline.ΦA; rw [scopedRest0_eq]; simp only [scH, scA, scC, owns_whole]; try rfl

/-- A property of the scratch buffers' contents before each point. -/
abbrev InvT (F : FTy → Type) [FloatOps F] : Type := Dev nD → ℕ → Vec F S512x2048 .bf16 → Vec F S512x2048 .f32 → Vec F S11x8x512 .f32 → Prop
/-- A property of the output rows after each point. -/
abbrev OutT (F : FTy → Type) [FloatOps F] : Type := Dev nD → Fin cfg0.N → Vec F S512x2048 .f32 → Prop

variable (Inv : InvT F) (Out : OutT F)

/-- The scratch buffers before point `t`, at contents with the property. -/
def Phi (c : Dev nD) (t : ℕ) : sProp 𝕄 :=
  iprop(∃ hv av cv, ⌜Inv c t hv av cv⌝ ∗ owns (c : Thread nD τ) scH fullShare hv ∗ owns (c : Thread nD τ) scA fullShare av ∗ owns (c : Thread nD τ) scC fullShare cv ∗ (∃ r, prngReg c r))

/-- The output is the one window whose contents are held to a property. -/
def fgt : Fin cfg0.W → Bool := fun w => match w with
  | ⟨11, _⟩ => true
  | _ => false

/-- The property that each window's contents are held to. -/
def Rl (c : Dev nD) : (w : Fin cfg0.W) → Fin cfg0.N → ((cfg0.win w).block.Idx → Elt F (cfg0.win w).elt) → Prop :=
  fun w t => match w with
  | ⟨11, _⟩ => fun X => Out c t X
  | _ => fun _ => True

/-- The proof data: the arrays as the region finds them, each input's buffer at its block, the scratch buffers at
    contents with the property. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ t := Phi Inv c t.val
  q _ := fullShare
  owed _ := 0

/-- The proof data's arrays are the region's. -/
theorem A_eq (c : Dev nD) (w : Fin cfg0.W) : (dat m Inv c).A w = V m c (Pipeline.arrRef spec0 w) := by
  dsimp only [dat]

/-- An input's buffer holds its block at every point. -/
theorem before_0 (c : Dev nD) (t : Fin cfg0.N) (d) : (dat m Inv c).before 0 t d = iblk m c 0 t :=
  before0_0_of m (dat m Inv c) (A_eq m Inv c 0) (fun _ => by dsimp only [dat]) t d
/-- An input's buffer holds its block at every point. -/
theorem before_1 (c : Dev nD) (t : Fin cfg0.N) (d) : (dat m Inv c).before 1 t d = iblk m c 1 t :=
  before0_1_of m (dat m Inv c) (A_eq m Inv c 1) (fun _ => by dsimp only [dat]) t d
/-- An input's buffer holds its block at every point. -/
theorem before_2 (c : Dev nD) (t : Fin cfg0.N) (d) : (dat m Inv c).before 2 t d = iblk m c 2 t :=
  before0_2_of m (dat m Inv c) (A_eq m Inv c 2) (fun _ => by dsimp only [dat]) t d
/-- An input's buffer holds its block at every point. -/
theorem before_3 (c : Dev nD) (t : Fin cfg0.N) (d) : (dat m Inv c).before 3 t d = iblk m c 3 t :=
  before0_3_of m (dat m Inv c) (A_eq m Inv c 3) (fun _ => by dsimp only [dat]) t d
/-- An input's buffer holds its block at every point. -/
theorem before_4 (c : Dev nD) (t : Fin cfg0.N) (d) : (dat m Inv c).before 4 t d = iblk m c 4 t :=
  before0_4_of m (dat m Inv c) (A_eq m Inv c 4) (fun _ => by dsimp only [dat]) t d
/-- An input's buffer holds its block at every point. -/
theorem before_5 (c : Dev nD) (t : Fin cfg0.N) (d) : (dat m Inv c).before 5 t d = iblk m c 5 t :=
  before0_5_of m (dat m Inv c) (A_eq m Inv c 5) (fun _ => by dsimp only [dat]) t d
/-- An input's buffer holds its block at every point. -/
theorem before_6 (c : Dev nD) (t : Fin cfg0.N) (d) : (dat m Inv c).before 6 t d = iblk m c 6 t :=
  before0_6_of m (dat m Inv c) (A_eq m Inv c 6) (fun _ => by dsimp only [dat]) t d
/-- An input's buffer holds its block at every point. -/
theorem before_7 (c : Dev nD) (t : Fin cfg0.N) (d) : (dat m Inv c).before 7 t d = iblk m c 7 t :=
  before0_7_of m (dat m Inv c) (A_eq m Inv c 7) (fun _ => by dsimp only [dat]) t d
/-- An input's buffer holds its block at every point. -/
theorem before_8 (c : Dev nD) (t : Fin cfg0.N) (d) : (dat m Inv c).before 8 t d = iblk m c 8 t :=
  before0_8_of m (dat m Inv c) (A_eq m Inv c 8) (fun _ => by dsimp only [dat]) t d
/-- An input's buffer holds its block at every point. -/
theorem before_9 (c : Dev nD) (t : Fin cfg0.N) (d) : (dat m Inv c).before 9 t d = iblk m c 9 t :=
  before0_9_of m (dat m Inv c) (A_eq m Inv c 9) (fun _ => by dsimp only [dat]) t d
/-- An input's buffer holds its block at every point. -/
theorem before_10 (c : Dev nD) (t : Fin cfg0.N) (d) : (dat m Inv c).before 10 t d = iblk m c 10 t :=
  before0_10_of m (dat m Inv c) (A_eq m Inv c 10) (fun _ => by dsimp only [dat]) t d

/-- Window `w`'s buffer at point `t`. -/
abbrev st (w : Fin cfg0.W) (t : Fin cfg0.N) := (cfg0.win w).stage (cfg0.slots t w)

/-- What the body is called with at point `t`. -/
def pre (c : Dev nD) (t : Fin cfg0.N) : sProp 𝕄 :=
  iprop(Phi Inv c t.val ∗ (dat m Inv c).owesAt () t.castSucc
    ∗ (∃ d, owns (c : Thread nD τ) (st 0 t) fullShare ((dat m Inv c).before 0 t d))
    ∗ (∃ d, owns (c : Thread nD τ) (st 1 t) fullShare ((dat m Inv c).before 1 t d))
    ∗ (∃ d, owns (c : Thread nD τ) (st 2 t) fullShare ((dat m Inv c).before 2 t d))
    ∗ (∃ d, owns (c : Thread nD τ) (st 3 t) fullShare ((dat m Inv c).before 3 t d))
    ∗ (∃ d, owns (c : Thread nD τ) (st 4 t) fullShare ((dat m Inv c).before 4 t d))
    ∗ (∃ d, owns (c : Thread nD τ) (st 5 t) fullShare ((dat m Inv c).before 5 t d))
    ∗ (∃ d, owns (c : Thread nD τ) (st 6 t) fullShare ((dat m Inv c).before 6 t d))
    ∗ (∃ d, owns (c : Thread nD τ) (st 7 t) fullShare ((dat m Inv c).before 7 t d))
    ∗ (∃ d, owns (c : Thread nD τ) (st 8 t) fullShare ((dat m Inv c).before 8 t d))
    ∗ (∃ d, owns (c : Thread nD τ) (st 9 t) fullShare ((dat m Inv c).before 9 t d))
    ∗ (∃ d, owns (c : Thread nD τ) (st 10 t) fullShare ((dat m Inv c).before 10 t d))
    ∗ (∃ Y, ⌜((dat m Inv c).toRRel fgt (Rl Out c)).Finds 11 t Y⌝ ∗ owns (c : Thread nD τ) (st 11 t) fullShare Y))

/-- What the body returns at point `t`. -/
def post (c : Dev nD) (t : Fin cfg0.N) : sProp 𝕄 :=
  iprop(Phi Inv c (t.val + 1) ∗ (dat m Inv c).owesAt () t.succ
    ∗ owns (c : Thread nD τ) (st 0 t) fullShare (iblk m c 0 t)
    ∗ owns (c : Thread nD τ) (st 1 t) fullShare (iblk m c 1 t)
    ∗ owns (c : Thread nD τ) (st 2 t) fullShare (iblk m c 2 t)
    ∗ owns (c : Thread nD τ) (st 3 t) fullShare (iblk m c 3 t)
    ∗ owns (c : Thread nD τ) (st 4 t) fullShare (iblk m c 4 t)
    ∗ owns (c : Thread nD τ) (st 5 t) fullShare (iblk m c 5 t)
    ∗ owns (c : Thread nD τ) (st 6 t) fullShare (iblk m c 6 t)
    ∗ owns (c : Thread nD τ) (st 7 t) fullShare (iblk m c 7 t)
    ∗ owns (c : Thread nD τ) (st 8 t) fullShare (iblk m c 8 t)
    ∗ owns (c : Thread nD τ) (st 9 t) fullShare (iblk m c 9 t)
    ∗ owns (c : Thread nD τ) (st 10 t) fullShare (iblk m c 10 t)
    ∗ (∃ X, ⌜Rl Out c 11 t X⌝ ∗ owns (c : Thread nD τ) (st 11 t) fullShare X))

/-- The normalised rows after point `t`. -/
abbrev hAt (c : Dev nD) (t : Fin cfg0.N) (hv : Vec F S512x2048 .bf16) : Vec F S512x2048 .bf16 :=
  hNew (grid0.coords t) (iblk m c 0 t) (iblk m c 1 t) (iblk m c 2 t) (iblk m c 3 t) hv
/-- The running sum after point `t`. -/
abbrev aAt (c : Dev nD) (t : Fin cfg0.N) (hv : Vec F S512x2048 .bf16) (av : Vec F S512x2048 .f32) (cv : Vec F S11x8x512 .f32) : Vec F S512x2048 .f32 :=
  aNew (grid0.coords t) (hAt m c t hv) (iblk m c 4 t) (iblk m c 5 t) (iblk m c 6 t) (iblk m c 7 t) (iblk m c 8 t) av cv
/-- The carried rows after point `t`. -/
abbrev cAt (c : Dev nD) (t : Fin cfg0.N) (hv : Vec F S512x2048 .bf16) (cv : Vec F S11x8x512 .f32) : Vec F S11x8x512 .f32 :=
  cNew (grid0.coords t) (hAt m c t hv) (iblk m c 4 t) cv
/-- The output rows after point `t`. -/
abbrev oAt (c : Dev nD) (t : Fin cfg0.N) (hv : Vec F S512x2048 .bf16) (av o : Vec F S512x2048 .f32) (cv : Vec F S11x8x512 .f32) : Vec F S512x2048 .f32 :=
  oNew (grid0.coords t) (iblk m c 0 t) (iblk m c 9 t) (iblk m c 10 t) (aAt m c t hv av cv) o

/-- Every point keeps the property of the scratch buffers, and the output rows' property follows. -/
def Keeps : Prop := ∀ (c : Dev nD) (t : Fin cfg0.N) hv av cv o, Inv c t.val hv av cv →
  Inv c (t.val + 1) (hAt m c t hv) (aAt m c t hv av cv) (cAt m c t hv cv) ∧ Out c t (oAt m c t hv av o cv)

variable {Inv Out}

set_option maxHeartbeats 3200000 in
/-- The body at any point. -/
theorem sound (hk : Keeps m Inv Out) (c : Dev nD) (t : Fin cfg0.N) :
    pre m Inv Out c t ⊢ wp frame (wpE (defs₀ (F := F)) Variants.none c none) Set.univ (bodyAt0 t) (fun _ => post m Inv Out c t) := by
  unfold pre post bodyAt0
  simp only [before_0, before_1, before_2, before_3, before_4, before_5, before_6, before_7, before_8, before_9, before_10]
  rw [show (dat m Inv c).owesAt () t.succ = (dat m Inv c).owesAt () t.castSucc from rfl]
  unfold Phi
  iintro ⟨⟨%hv, %av, %cv, %hI, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%o, -, HO⟩⟩
  iapply (run c (grid0.coords t) (h13 t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) o hv av cv Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HO]; · iexact HO
  isplitl [HS0]; · iexact HS0
  isplitl [HS1]; · iexact HS1
  isplitl [HS2]; · iexact HS2
  iintro ⟨H0, H1, H2, H3, H4, H5, H6, H7, H8, H9, H10, HO, HS0, HS1, HS2⟩
  isplitl [HS0 HS1 HS2 Hg]
  · iexists _, _, _
    isplitr; swap
    · isplitl [HS0]; · iexact HS0
      isplitl [HS1]; · iexact HS1
      isplitl [HS2]; · iexact HS2
      iexact Hg
    ipureintro; exact (hk c t hv av cv o hI).1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _
  isplitr; swap
  · iexact HO
  ipureintro; exact (hk c t hv av cv o hI).2

/-- The body table's row at a point is the body there. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The body's obligation at every point. -/
theorem obligation (hk : Keeps m Inv Out) (c : Dev nD) :
    BodyObligationRel (dat m Inv c) (defs₀ (F := F)) Variants.none () Set.univ fgt (Rl Out c) := fun t => by
  rw [bigSep_W0, bigSep_W0, defs₀_row]
  exact triple_restated (sound m hk c t) rfl .rfl fun _ => .rfl

/-- The launch hands over the scratch buffers at contents with the property. -/
theorem hin (h0 : ∀ c hv av cv, Inv c 0 hv av cv) (c : Dev nD) : Pipeline.ΦA spec0 c ⊢ (dat m Inv c).Φ 0 := by
  rw [show (dat m Inv c).Φ 0 = Phi Inv c 0 from rfl, phiA_eq]
  unfold Phi
  iintro ⟨⟨⟨%hv, HS0⟩, ⟨%av, HS1⟩, ⟨%cv, HS2⟩⟩, Hg⟩
  iexists hv, av, cv
  isplitr
  · ipureintro; exact h0 c hv av cv
  isplitl [HS0]; · iexact HS0
  isplitl [HS1]; · iexact HS1
  isplitl [HS2]; · iexact HS2
  iexact Hg

/-- The scratch buffers are given back at the end. -/
theorem hout (c : Dev nD) : (dat m Inv c).Φ (Fin.last cfg0.N) ⊢ Pipeline.ΦA spec0 c := by
  rw [show (dat m Inv c).Φ (Fin.last cfg0.N) = Phi Inv c (Fin.last cfg0.N).val from rfl, phiA_eq]
  unfold Phi
  iintro ⟨%hv, %av, %cv, -, HS0, HS1, HS2, Hg⟩
  isplitl [HS0 HS1 HS2]
  · isplitl [HS0]; · iexists _; iexact HS0
    isplitl [HS1]; · iexists _; iexact HS1
    iexists _; iexact HS2
  iexact Hg

set_option backward.isDefEq.respectTransparency.types false in
/-- The whole program's run. -/
theorem run_main (hk : Keeps m Inv Out) (h0 : ∀ c hv av cv, Inv c 0 hv av cv) :
    θ_run defs (onTc (τ := τ) (main (F := F))) (s₀ m ρ)
      (fun r => RDat.FramePost cfg0 (fun c => (dat m Inv c).toRRel fgt (Rl Out c)) (V m) r ∧ r.2.sem = fun _ => 0) :=
  Pipeline.RDat.θ_run_frame_track (Q' := _) cfgs (0 : Fin 1) launch0 defs₀ Variants.none
    (fun c => (dat m Inv c).toRRel fgt (Rl Out c)) m ρ main
    (hbody := fun c => (obligation m hk c).toRRel) (hshare := fun c => (dat m Inv c).share_full fun _ => rfl)
    (howed := fun _ _ => rfl) (V := V m) (hmain := hmain m Variants.none) (hA := A_eq m Inv) (hin := hin m h0) (hout := hout m)

/-- After the run: the output array is tiled by rows with the property, and the arguments are as launched. -/
theorem run_post (hk : Keeps m Inv Out) (h0 : ∀ c hv av cv, Inv c 0 hv av cv) :
    θ_run defs (onTc (τ := τ) (main (F := F))) ⟨m, fun _ => 0, ρ⟩ (fun r => (∀ c : Dev nD,
      (∃ d : Dat τ (Elt F) Unit ℕ (UR sig nD τ) ℕ cfg0 c,
        (∀ t : Fin cfg0.N, (cfg0.win 11).flush t = true → Out c t (d.after 11 t))
          ∧ r.2.mem ((c.tc : Thread nD τ).loc main_v18) = d.arrAt 11 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r hr => ⟨fun c => by
    obtain ⟨h, -⟩ := hr
    obtain ⟨after, hL, hA⟩ := RDat.FramePost.exists_exact h c
    exact ⟨⟨((dat m Inv c).toRRel fgt (Rl Out c)).withAfter after, fun t hf => (dat m Inv c).toRRel_leaves (w := 11) rfl (hL 11 t hf), hA 11⟩,
      (hA 0).trans ((Dat.arrAt_in _ 0 rfl _).trans ((A_eq m Inv c 0).trans (V_main_arg0 m c))),
      ((h c).2 main_arg1 (Pipeline.mem_restRefs_of main_arg1 (by decide) (by decide))).trans (V_main_arg1 m c),
      (hA 2).trans ((Dat.arrAt_in _ 2 rfl _).trans ((A_eq m Inv c 2).trans (V_main_arg2 m c))),
      (hA 3).trans ((Dat.arrAt_in _ 3 rfl _).trans ((A_eq m Inv c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (hA 10).trans ((Dat.arrAt_in _ 10 rfl _).trans ((A_eq m Inv c 10).trans (V_main_arg9 m c)))⟩, hr.2⟩) (run_main m ρ hk h0)

end Cert.Kernel2Ideal.Ffn

end
-- ==== Proof.FfnSpec.lean ====
module

public import Idealize.ShloMosaic.Lib.Pointwise
@[expose] public noncomputable section
open Idealize.ShloMosaic

/-! # The feed-forward sublayer in real arithmetic

The values both programs compute: normalised and modulated rows, two projections, a causal convolution of width three
over the first, the gated activation, the projection back, and the normalised, gated residual. The kernel works over 5632
columns of which the last 128 are zero, so the sums are stated over natural column numbers, zero from 5504 on. -/

namespace Cert.Ffn

section Spec
variable (X : Fin 16384 → Fin 2048 → EReal) (G SC SH : Fin 2048 → EReal) (WU : Fin 2048 → Fin 11008 → EReal)
variable (CW : Fin 3 → Fin 5504 → EReal) (CB : Fin 5504 → EReal) (WD : Fin 5504 → Fin 2048 → EReal)
variable (GP GT : Fin 2048 → EReal)

/-- The factor that brings a row to unit mean square. -/
def scale (f : Fin 2048 → EReal) : EReal :=
  Ideal.rsqrt (Ideal.div (∑ d, f d * f d) (Ideal.ofBits .f32 0x45000000#32) + Ideal.ofBits .f32 0x358637BD#32)
/-- The normalised and modulated row `r`. -/
def hid (r : Fin 16384) (d : Fin 2048) : EReal :=
  X r d * scale (X r) * G d * (Ideal.ofBits .f32 0x3F800000#32 + SC d) + SH d
/-- Column `n` of the first half of the up projection, zero past the last column. -/
def wa (d : Fin 2048) (n : ℕ) : EReal := if h : n < 5504 then WU d ⟨n, by omega⟩ else 0
/-- Column `n` of the second half of the up projection, zero past the last column. -/
def wu (d : Fin 2048) (n : ℕ) : EReal := if h : n < 5504 then WU d ⟨5504 + n, by omega⟩ else 0
/-- Column `n` of a row of the convolution's weights, zero past the last column. -/
def cw (k : Fin 3) (n : ℕ) : EReal := if h : n < 5504 then CW k ⟨n, h⟩ else 0
/-- Column `n` of the convolution's bias, zero past the last column. -/
def cb (n : ℕ) : EReal := if h : n < 5504 then CB ⟨n, h⟩ else 0
/-- Row `n` of the down projection, zero past the last row. -/
def wd (n : ℕ) (k : Fin 2048) : EReal := if h : n < 5504 then WD ⟨n, h⟩ k else 0
/-- The first half of the projected row `r`. -/
def gate (r : Fin 16384) (n : ℕ) : EReal := ∑ d, hid X G SC SH r d * wa WU d n
/-- The second half of the projected row `r`. -/
def up (r : Fin 16384) (n : ℕ) : EReal := ∑ d, hid X G SC SH r d * wu WU d n
/-- The first half `k` rows before row `r`, zero before the sequence begins. -/
def back (k : ℕ) (r : Fin 16384) (n : ℕ) : EReal :=
  if k ≤ r.val then gate X G SC SH WU ⟨r.val - k, by omega⟩ n else 0
/-- The smooth activation, in the tanh form. -/
def act (x : EReal) : EReal :=
  Ideal.ofBits .f32 0x3F000000#32 * x * (Ideal.ofBits .f32 0x3F800000#32
    + Ideal.tanh (Ideal.ofBits .f32 0x3F4C422A#32 * (x + Ideal.ofBits .f32 0x3D372713#32 * (x * x * x))))
/-- The convolved column. -/
def conv (r : Fin 16384) (n : ℕ) : EReal :=
  cw CW 0 n * back X G SC SH WU 2 r n + cw CW 1 n * back X G SC SH WU 1 r n
    + cw CW 2 n * gate X G SC SH WU r n + cb CB n
/-- One term of the down projection. -/
def term (r : Fin 16384) (k : Fin 2048) (n : ℕ) : EReal :=
  act (conv X G SC SH WU CW CB r n) * up X G SC SH WU r n * wd WD n k
/-- The down projection summed over the first `j` blocks of 512 columns. -/
def part (r : Fin 16384) (k : Fin 2048) : ℕ → EReal
  | 0 => 0
  | j + 1 => part r k j + ∑ l : Fin 512, term X G SC SH WU CW CB WD r k (j * 512 + l.val)
/-- The down projection. -/
def down (r : Fin 16384) (k : Fin 2048) : EReal :=
  ∑ n : Fin 5504, term X G SC SH WU CW CB WD r k n.val
/-- The result. -/
def out (r : Fin 16384) (k : Fin 2048) : EReal :=
  X r k + GT k * (down X G SC SH WU CW CB WD r k * scale (down X G SC SH WU CW CB WD r) * GP k)

/-- The blocks of 512 columns add up to the sum over the first columns. -/
theorem part_eq_range (r : Fin 16384) (k : Fin 2048) (j : ℕ) :
    part X G SC SH WU CW CB WD r k j = ∑ n ∈ Finset.range (j * 512), term X G SC SH WU CW CB WD r k n := by
  induction j with
  | zero => simp [part]
  | succ j ih =>
    rw [part, ih, Nat.succ_mul, Finset.sum_range_add, Fin.sum_univ_eq_sum_range
      (fun l => term X G SC SH WU CW CB WD r k (j * 512 + l)) 512]

/-- After the eleven blocks the sum is the down projection: the padding columns contribute nothing. -/
theorem part_eq (r : Fin 16384) (k : Fin 2048) :
    part X G SC SH WU CW CB WD r k 11 = down X G SC SH WU CW CB WD r k := by
  rw [part_eq_range, down, Fin.sum_univ_eq_sum_range (fun n => term X G SC SH WU CW CB WD r k n) 5504]
  refine (Finset.sum_subset (Finset.range_subset_range.2 (by omega)) fun n _ hn => ?_).symm
  have h : ¬ n < 5504 := fun h => hn (Finset.mem_range.2 h)
  unfold term wd
  rw [dif_neg h, mul_zero]

end Spec

/-- Row `l` of block `i` in the whole sequence. -/
def row (i : ℕ) (l : Fin 512) : Fin 16384 := ⟨i % 32 * 512 + l.val, by omega⟩

end Cert.Ffn
-- ==== Proof.FfnPay.lean ====
module

public import proofs.«01_k».proof.Proof.Gen.Kernel2Ideal.Skeleton
public import Idealize.ShloMosaic.Lib.Pointwise
public import proofs.«01_k».proof.Proof.FfnSpec
set_option maxRecDepth 16384
@[expose] public noncomputable section
open Idealize.ShloMosaic Idealize.ShloMosaic.TcCoe Idealize.SL.Sem
namespace Cert.Kernel2Ideal.Ffn
open Cert.Kernel2Ideal Cert.Kernel2Ideal.Gen

/-- The normalised and modulated rows of a block. -/
theorem pay3_at (x0 : Vec Ideal S512x2048 .f32) (x1 x2 x3 : Vec Ideal S1x2048 .f32) (l : Fin 512) (d : Fin 2048) :
    (k0_pay3 x0 x1 x2 x3 (ix2 l d) : EReal) = (x0 : FVec Ideal S512x2048 .f32) (ix2 l d) * Ffn.scale (fun k => (x0 : FVec Ideal S512x2048 .f32) (ix2 l k))
      * (x1 : FVec Ideal S1x2048 .f32) (ix2 0 d) * (Ideal.ofBits .f32 0x3F800000#32 + (x2 : FVec Ideal S1x2048 .f32) (ix2 0 d))
      + (x3 : FVec Ideal S1x2048 .f32) (ix2 0 d) := by
  pointwise [k0_pay3, Ffn.scale]

/-- The gated, normalised residual rows of a block. -/
theorem pay2_at (a x0 : Vec Ideal S512x2048 .f32) (x10 x9 : Vec Ideal S1x2048 .f32) (l : Fin 512) (d : Fin 2048) :
    (k0_pay2 a x0 x10 x9 (ix2 l d) : EReal) = (x0 : FVec Ideal S512x2048 .f32) (ix2 l d) + (x10 : FVec Ideal S1x2048 .f32) (ix2 0 d)
      * ((a : FVec Ideal S512x2048 .f32) (ix2 l d) * Ffn.scale (fun k => (a : FVec Ideal S512x2048 .f32) (ix2 l k))
      * (x9 : FVec Ideal S1x2048 .f32) (ix2 0 d)) := by
  pointwise [k0_pay2, Ffn.scale]

/-- The first projection of a block. -/
theorem pay6_at (h : Vec Ideal S512x2048 .bf16) (x : Vec Ideal S2048x512 .bf16) (l n : Fin 512) :
    (k0_pay6 h x (ix2 l n) : EReal) = ∑ d, (h : FVec Ideal S512x2048 .bf16) (ix2 l d) * (x : FVec Ideal S2048x512 .bf16) (ix2 d n) := by
  pointwise [k0_pay6]

/-- The second projection of a block. -/
theorem pay7_at (h : Vec Ideal S512x2048 .bf16) (x : Vec Ideal S2048x512 .bf16) (l n : Fin 512) :
    (k0_pay7 h x (ix2 l n) : EReal) = ∑ d, (h : FVec Ideal S512x2048 .bf16) (ix2 l d) * (x : FVec Ideal S2048x512 .bf16) (ix2 d n) := by
  pointwise [k0_pay7]

/-- The rows carried to the next row block. -/
theorem pay9_at (h : Vec Ideal S512x2048 .bf16) (x : Vec Ideal S2048x512 .bf16) (e : Fin 8) (n : Fin 512) :
    (k0_pay9 h x (ix3 0 e n) : EReal) = k0_pay6 h x (ix2 ⟨504 + e.val, by omega⟩ n) := by
  pointwise [k0_pay9]

/-- Equality of a row number with zero or one, as the kernel compares them. -/
theorem cmp_row : ∀ (t : Fin 512) (w : Fin 2), IntOp.cmpi CmpIPredicate.eq (BitVec.ofNat 32 t.val) (BitVec.ofNat 32 w.val)
    = if t.val = w.val then 1#1 else 0#1 := by decide +kernel

/-- A choice between row zero or one and the other rows. -/
theorem sel_row (t : Fin 512) (w : ℕ) (hw : w < 2) (a b : EReal) :
    Scalar.select (IntOp.cmpi CmpIPredicate.eq (BitVec.ofNat 32 t.val) (BitVec.ofNat 32 w)) a b
      = if t.val = w then a else b := by
  rw [cmp_row t ⟨w, hw⟩]
  by_cases h : t.val = w
  · rw [if_pos h, if_pos h]; rfl
  · rw [if_neg h, if_neg h]; rfl

/-- The rows one row back. -/
theorem pay10_at (h : Vec Ideal S512x2048 .bf16) (x : Vec Ideal S2048x512 .bf16) (v : Vec Ideal S1x8x512 .f32) (l n : Fin 512) :
    (k0_pay10 h x v (ix2 l n) : EReal) = if l.val = 0 then (v : FVec Ideal S1x8x512 .f32) (ix3 0 7 n)
      else k0_pay6 h x (ix2 ⟨l.val - 1, by omega⟩ n) := by
  pointwise [k0_pay10, k0_pay8]
  rw [sel_row l 0 (by omega)]
  by_cases h0 : l.val = 0
  · rw [if_pos h0, if_pos h0]
  · rw [if_neg h0, if_neg h0]
    congr 3
    omega

/-- One block's contribution to the running sum. -/
theorem pay15_at (A U B1 : FVec Ideal S512x512 .f32) (v : Vec Ideal S1x8x512 .f32) (x6 : Vec Ideal S3x512 .f32) (x7 : Vec Ideal S1x512 .f32)
    (a : Vec Ideal S512x2048 .f32) (x8 : Vec Ideal S512x2048 .bf16) (l : Fin 512) (k : Fin 2048) :
    (k0_pay15 A U B1 k0_pay11 (k0_pay12 v) k0_pay13 (k0_pay14 v) x6 x7 a x8 (ix2 l k) : EReal)
      = (a : FVec Ideal S512x2048 .f32) (ix2 l k) + ∑ n : Fin 512, Ffn.act ((x6 : FVec Ideal S3x512 .f32) (ix2 0 n)
          * (if h : l.val < 2 then (v : FVec Ideal S1x8x512 .f32) (ix3 0 ⟨6 + l.val, by omega⟩ n) else A (ix2 ⟨l.val - 2, by omega⟩ n))
          + (x6 : FVec Ideal S3x512 .f32) (ix2 1 n) * B1 (ix2 l n) + (x6 : FVec Ideal S3x512 .f32) (ix2 2 n) * A (ix2 l n)
          + (x7 : FVec Ideal S1x512 .f32) (ix2 0 n)) * U (ix2 l n) * (x8 : FVec Ideal S512x2048 .bf16) (ix2 n k) := by
  pointwise [k0_pay15, k0_pay11, k0_pay12, k0_pay13, k0_pay14, k0_pay8, Ffn.act]
  have key : ∀ x : Fin 512, Scalar.select (IntOp.cmpi CmpIPredicate.eq (BitVec.ofNat 32 l.val) 0#32) ((v : FVec Ideal S1x8x512 .f32) (ix3 0 6 x))
      (Scalar.select (IntOp.cmpi CmpIPredicate.eq (BitVec.ofNat 32 l.val) 1#32) ((v : FVec Ideal S1x8x512 .f32) (ix3 0 7 x))
        (A (ix2 ⟨(l.val + 512 - 2) % 512, by omega⟩ x)))
      = if h : l.val < 2 then (v : FVec Ideal S1x8x512 .f32) (ix3 0 ⟨6 + l.val, by omega⟩ x) else A (ix2 ⟨l.val - 2, by omega⟩ x) := by
    intro x
    rw [sel_row l 0 (by omega), sel_row l 1 (by omega)]
    by_cases h0 : l.val = 0
    · rw [if_pos h0, dif_pos (by omega)]
      congr 2
      apply Fin.ext
      show 6 = 6 + l.val
      omega
    · rw [if_neg h0]
      by_cases h1 : l.val = 1
      · rw [if_pos h1, dif_pos (by omega)]
        congr 2
        apply Fin.ext
        show 7 = 6 + l.val
        omega
      · rw [if_neg h1, dif_neg (by omega)]
        congr 2
        apply Fin.ext
        show (l.val + 512 - 2) % 512 = l.val - 2
        omega
  refine congrArg _ (Finset.sum_congr rfl fun x _ => ?_)
  rw [key x]
end Cert.Kernel2Ideal.Ffn
-- ==== Proof.FfnBlocks.lean ====
module

public import proofs.«01_k».proof.Proof.Gen.Kernel2Ideal.Frame
public import proofs.«01_k».proof.Proof.FfnSpec
public import Idealize.ShloMosaic.Lib.Pointwise
public import Idealize.ShloMosaic.Lib.Pipeline.ValueKit
set_option maxRecDepth 16384
@[expose] public noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen
variable (m : (ℓ : Loc nD τ sig) → Buf (Elt Ideal) ℓ)

/-- The rows as launched. -/
def aX (c : Dev nD) : Fin 16384 → Fin 2048 → EReal :=
  fun r j => (m ((c : Thread nD τ).loc main_arg0) : FVec Ideal S16384x2048 .f32) (ix2 r j)
/-- The first norm's gains as launched. -/
def aG (c : Dev nD) : Fin 2048 → EReal :=
  fun j => (m ((c : Thread nD τ).loc main_arg1) : FVec Ideal S2048 .f32) (ix1 j)
/-- The modulation's scale as launched. -/
def aSC (c : Dev nD) : Fin 2048 → EReal :=
  fun j => (m ((c : Thread nD τ).loc main_arg2) : FVec Ideal S1x2048 .f32) (ix2 0 j)
/-- The modulation's shift as launched. -/
def aSH (c : Dev nD) : Fin 2048 → EReal :=
  fun j => (m ((c : Thread nD τ).loc main_arg3) : FVec Ideal S1x2048 .f32) (ix2 0 j)
/-- The up projection as launched. -/
def aWU (c : Dev nD) : Fin 2048 → Fin 11008 → EReal :=
  fun d j => (m ((c : Thread nD τ).loc main_arg4) : FVec Ideal S2048x11008 .f32) (ix2 d j)
/-- The convolution's weights as launched. -/
def aCW (c : Dev nD) : Fin 3 → Fin 5504 → EReal :=
  fun a j => (m ((c : Thread nD τ).loc main_arg5) : FVec Ideal S3x5504 .f32) (ix2 a j)
/-- The convolution's bias as launched. -/
def aCB (c : Dev nD) : Fin 5504 → EReal :=
  fun j => (m ((c : Thread nD τ).loc main_arg6) : FVec Ideal S5504 .f32) (ix1 j)
/-- The down projection as launched. -/
def aWD (c : Dev nD) : Fin 5504 → Fin 2048 → EReal :=
  fun n k => (m ((c : Thread nD τ).loc main_arg7) : FVec Ideal S5504x2048 .f32) (ix2 n k)
/-- The second norm's gains as launched. -/
def aGP (c : Dev nD) : Fin 2048 → EReal :=
  fun j => (m ((c : Thread nD τ).loc main_arg8) : FVec Ideal S2048 .f32) (ix1 j)
/-- The residual's gate as launched. -/
def aGT (c : Dev nD) : Fin 2048 → EReal :=
  fun j => (m ((c : Thread nD τ).loc main_arg9) : FVec Ideal S1x2048 .f32) (ix2 0 j)

/-- Where each window's block of each point lies, decided over the grid. -/
theorem idx : ∀ t : Fin cfg0.N, win0_0.index t = ![t.val / 11, 0] ∧ win0_1.index t = ![0, 0] ∧ win0_2.index t = ![0, 0]
    ∧ win0_3.index t = ![0, 0] ∧ win0_4.index t = ![0, t.val % 11] ∧ win0_5.index t = ![0, t.val % 11] ∧ win0_6.index t = ![0, t.val % 11]
    ∧ win0_7.index t = ![0, t.val % 11] ∧ win0_8.index t = ![t.val % 11, 0] ∧ win0_9.index t = ![0, 0] ∧ win0_10.index t = ![0, 0]
    ∧ win0_11.index t = ![t.val / 11, 0] :=
  (by decide +kernel : ∀ t : Fin grid0.N, _)

/-- The first norm's gains as the blocks find them. -/
theorem v11_at (c : Dev nD) (j : Fin 2048) : (V m c main_v11 : FVec Ideal S1x2048 .f32) (ix2 0 j) = aG m c j := by
  unfold aG
  entry_read
  pointwise
/-- The second norm's gains as the blocks find them. -/
theorem v17_at (c : Dev nD) (j : Fin 2048) : (V m c main_v17 : FVec Ideal S1x2048 .f32) (ix2 0 j) = aGP m c j := by
  unfold aGP
  entry_read
  pointwise
/-- The padded first half of the up projection. -/
theorem v3_at (c : Dev nD) (d : Fin 2048) (n : Fin 5632) :
    (V m c main_v3 : FVec Ideal S2048x5632 .bf16) (ix2 d n) = Ffn.wa (aWU m c) d n.val := by
  unfold aWU Ffn.wa
  entry_read
  pointwise
/-- The padded second half of the up projection. -/
theorem v7_at (c : Dev nD) (d : Fin 2048) (n : Fin 5632) :
    (V m c main_v7 : FVec Ideal S2048x5632 .bf16) (ix2 d n) = Ffn.wu (aWU m c) d n.val := by
  unfold aWU Ffn.wu
  entry_read
  pointwise
/-- The padded weights of the convolution. -/
theorem v13_at (c : Dev nD) (a : Fin 3) (n : Fin 5632) :
    (V m c main_v13 : FVec Ideal S3x5632 .f32) (ix2 a n) = Ffn.cw (aCW m c) a n.val := by
  unfold aCW Ffn.cw
  entry_read
  pointwise
/-- The padded bias of the convolution. -/
theorem v16_at (c : Dev nD) (n : Fin 5632) :
    (V m c main_v16 : FVec Ideal S1x5632 .f32) (ix2 0 n) = Ffn.cb (aCB m c) n.val := by
  unfold aCB Ffn.cb
  entry_read
  pointwise
/-- The padded down projection. -/
theorem v10_at (c : Dev nD) (n : Fin 5632) (k : Fin 2048) :
    (V m c main_v10 : FVec Ideal S5632x2048 .bf16) (ix2 n k) = Ffn.wd (aWD m c) n.val k := by
  unfold aWD Ffn.wd
  entry_read
  pointwise

/-- A row block. -/
theorem blk0 (c : Dev nD) (t : Fin cfg0.N) (l : Fin 512) (d : Fin 2048) :
    (iblk m c 0 t : Vec Ideal S512x2048 .f32) (ix2 l d) = aX m c (Ffn.row (t.val / 11) l) d := by
  unfold aX Ffn.row
  have ht : t.val < 352 := lt_of_lt_of_eq t.isLt N_0
  blk_ext [iblk, V, idx t]
/-- The first norm's gains, the same at every point. -/
theorem blk1 (c : Dev nD) (t : Fin cfg0.N) (j : Fin 2048) :
    (iblk m c 1 t : Vec Ideal S1x2048 .f32) (ix2 0 j) = V m c main_v11 (ix2 0 j) := by
  blk_ext [iblk, idx t]
/-- The modulation's scale, the same at every point. -/
theorem blk2 (c : Dev nD) (t : Fin cfg0.N) (j : Fin 2048) :
    (iblk m c 2 t : Vec Ideal S1x2048 .f32) (ix2 0 j) = aSC m c j := by
  unfold aSC
  blk_ext [iblk, V, idx t]
/-- The modulation's shift, the same at every point. -/
theorem blk3 (c : Dev nD) (t : Fin cfg0.N) (j : Fin 2048) :
    (iblk m c 3 t : Vec Ideal S1x2048 .f32) (ix2 0 j) = aSH m c j := by
  unfold aSH
  blk_ext [iblk, V, idx t]
/-- A column block of the first half of the up projection. -/
theorem blk4 (c : Dev nD) (t : Fin cfg0.N) (d : Fin 2048) (n : Fin 512) :
    (iblk m c 4 t : Vec Ideal S2048x512 .bf16) (ix2 d n) = V m c main_v3 (ix2 d ⟨t.val % 11 * 512 + n.val, by omega⟩) := by
  blk_ext [iblk, idx t]
/-- A column block of the second half of the up projection. -/
theorem blk5 (c : Dev nD) (t : Fin cfg0.N) (d : Fin 2048) (n : Fin 512) :
    (iblk m c 5 t : Vec Ideal S2048x512 .bf16) (ix2 d n) = V m c main_v7 (ix2 d ⟨t.val % 11 * 512 + n.val, by omega⟩) := by
  blk_ext [iblk, idx t]
/-- A column block of the convolution's weights. -/
theorem blk6 (c : Dev nD) (t : Fin cfg0.N) (a : Fin 3) (n : Fin 512) :
    (iblk m c 6 t : Vec Ideal S3x512 .f32) (ix2 a n) = V m c main_v13 (ix2 a ⟨t.val % 11 * 512 + n.val, by omega⟩) := by
  blk_ext [iblk, idx t]
/-- A column block of the convolution's bias. -/
theorem blk7 (c : Dev nD) (t : Fin cfg0.N) (n : Fin 512) :
    (iblk m c 7 t : Vec Ideal S1x512 .f32) (ix2 0 n) = V m c main_v16 (ix2 0 ⟨t.val % 11 * 512 + n.val, by omega⟩) := by
  blk_ext [iblk, idx t]
/-- A row block of the down projection. -/
theorem blk8 (c : Dev nD) (t : Fin cfg0.N) (n : Fin 512) (k : Fin 2048) :
    (iblk m c 8 t : Vec Ideal S512x2048 .bf16) (ix2 n k) = V m c main_v10 (ix2 ⟨t.val % 11 * 512 + n.val, by omega⟩ k) := by
  blk_ext [iblk, idx t]
/-- The second norm's gains, the same at every point. -/
theorem blk9 (c : Dev nD) (t : Fin cfg0.N) (j : Fin 2048) :
    (iblk m c 9 t : Vec Ideal S1x2048 .f32) (ix2 0 j) = V m c main_v17 (ix2 0 j) := by
  blk_ext [iblk, idx t]
/-- The residual's gate, the same at every point. -/
theorem blk10 (c : Dev nD) (t : Fin cfg0.N) (j : Fin 2048) :
    (iblk m c 10 t : Vec Ideal S1x2048 .f32) (ix2 0 j) = aGT m c j := by
  unfold aGT
  blk_ext [iblk, V, idx t]
end Cert.Kernel2Ideal.Ffn
-- ==== Proof.FfnKeeps.lean ====
module

public import proofs.«01_k».proof.Proof.FfnObl
public import proofs.«01_k».proof.Proof.FfnPay
public import proofs.«01_k».proof.Proof.FfnBlocks

/-! # The feed-forward kernel's values

Before each point the scratch buffers hold the normalised rows of the point's row block, the down projection summed over
the column blocks done so far, and in each slot the last rows of the first projection of the most recent row block. -/

set_option maxRecDepth 16384
@[expose] public noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen
variable (m : (ℓ : Loc nD τ sig) → Buf (Elt Ideal) ℓ)

/-- The normalised rows of the arguments. -/
abbrev sH (c : Dev nD) := Ffn.hid (aX m c) (aG m c) (aSC m c) (aSH m c)
/-- The first projection of the arguments. -/
abbrev sGate (c : Dev nD) := Ffn.gate (aX m c) (aG m c) (aSC m c) (aSH m c) (aWU m c)
/-- The second projection of the arguments. -/
abbrev sUp (c : Dev nD) := Ffn.up (aX m c) (aG m c) (aSC m c) (aSH m c) (aWU m c)
/-- The running sum of the down projection. -/
abbrev sPart (c : Dev nD) := Ffn.part (aX m c) (aG m c) (aSC m c) (aSH m c) (aWU m c) (aCW m c) (aCB m c) (aWD m c)
/-- The result of the arguments. -/
abbrev sOut (c : Dev nD) := Ffn.out (aX m c) (aG m c) (aSC m c) (aSH m c) (aWU m c) (aCW m c) (aCB m c) (aWD m c) (aGP m c) (aGT m c)

/-- The slot of a point is its column block. -/
theorem off2_eq : ∀ t : Fin cfg0.N, k0_off2 (grid0.coords t) = ![t.val % 11, 0, 0] :=
  (by decide +kernel : ∀ t : Fin grid0.N, k0_off2 (grid0.coords t) = ![t.val % 11, 0, 0])

/-- Rows put into a slot are found in that slot, and the other slots are unchanged. -/
theorem put_at (cv : FVec Ideal S11x8x512 .f32) (w : FVec Ideal S1x8x512 .f32) (off : Fin 3 → ℕ) (j : ℕ) (h : off = ![j, 0, 0])
    (s : Fin 11) (e : Fin 8) (n : Fin 512) :
    VecWindow.put (s := S11x8x512) cv off ![1, 8, 512] w (ix3 s e n) = if s.val = j then w (ix3 0 e n) else cv (ix3 s e n) := by
  subst h
  unfold VecWindow.put
  by_cases hs : s.val = j
  · have hall : ∀ a : Fin S11x8x512.rank, (![j, 0, 0] : Fin 3 → ℕ) a ≤ ((ix3 s e n : S11x8x512.Idx) a).val
        ∧ ((ix3 s e n : S11x8x512.Idx) a).val < (![j, 0, 0] : Fin 3 → ℕ) a + (![1, 8, 512] : Fin 3 → ℕ) a := by
      intro a
      match a with
      | ⟨0, _⟩ => exact ⟨Nat.le_of_eq hs.symm, Nat.lt_of_le_of_lt (Nat.le_of_eq hs) (Nat.lt_succ_self j)⟩
      | ⟨1, _⟩ => exact ⟨Nat.zero_le _, Nat.lt_of_lt_of_eq e.isLt (Nat.zero_add 8).symm⟩
      | ⟨2, _⟩ => exact ⟨Nat.zero_le _, Nat.lt_of_lt_of_eq n.isLt (Nat.zero_add 512).symm⟩
    rw [if_pos hs, dif_pos hall]
    refine congrArg w (funext fun a => Fin.ext ?_)
    match a with
    | ⟨0, _⟩ => show s.val - j = 0; omega
    | ⟨1, _⟩ => show e.val - 0 = e.val; omega
    | ⟨2, _⟩ => show n.val - 0 = n.val; omega
  · rw [if_neg hs, dif_neg]
    intro hall
    have h0 : j ≤ s.val ∧ s.val < j + 1 := hall ⟨0, Nat.succ_pos 2⟩
    omega

/-- A slot's rows as read. -/
theorem win_at (cv : FVec Ideal S11x8x512 .f32) (off : Fin 3 → ℕ) (j : ℕ) (hj : j < 11) (h : off = ![j, 0, 0])
    (inb) (e : Fin 8) (n : Fin 512) :
    VecWindow.window (s := S11x8x512) cv off ![1, 8, 512] inb (ix3 0 e n) = cv (ix3 ⟨j, hj⟩ e n) := by
  subst h
  unfold VecWindow.window
  refine congrArg cv (funext fun a => Fin.ext ?_)
  match a with
  | ⟨0, _⟩ => show j + 1 * 0 = j; omega
  | ⟨1, _⟩ => show 0 + 1 * e.val = e.val; omega
  | ⟨2, _⟩ => show 0 + 1 * n.val = n.val; omega

/-- What the scratch buffers hold before point `t`. -/
def Inv : InvT Ideal := fun c t hv av cv =>
  (t % 11 ≠ 0 → (∀ l d, (hv : FVec Ideal S512x2048 .bf16) (ix2 l d) = sH m c (Ffn.row (t / 11) l) d)
    ∧ ∀ l k, (av : FVec Ideal S512x2048 .f32) (ix2 l k) = sPart m c (Ffn.row (t / 11) l) k (t % 11))
  ∧ (∀ (s : Fin 11) (e : Fin 8) (n : Fin 512), s.val < t % 11 →
      (cv : FVec Ideal S11x8x512 .f32) (ix3 s e n) = sGate m c (Ffn.row (t / 11) ⟨504 + e.val, by omega⟩) (s.val * 512 + n.val))
  ∧ (∀ (s : Fin 11) (e : Fin 8) (n : Fin 512), t % 11 ≤ s.val → 11 ≤ t →
      (cv : FVec Ideal S11x8x512 .f32) (ix3 s e n) = sGate m c (Ffn.row (t / 11 - 1) ⟨504 + e.val, by omega⟩) (s.val * 512 + n.val))

/-- What the output rows hold after point `t`, once the last column block is done. -/
def Out : OutT Ideal := fun c t X =>
  t.val % 11 = 10 → ∀ l k, (X : FVec Ideal S512x2048 .f32) (ix2 l k) = sOut m c (Ffn.row (t.val / 11) l) k

section Point
variable (c : Dev nD) (t : Fin cfg0.N) (hv : Vec Ideal S512x2048 .bf16) (av : Vec Ideal S512x2048 .f32) (cv : Vec Ideal S11x8x512 .f32)

/-- A point's number is below the number of points. -/
theorem lt_t : t.val < 352 := lt_of_lt_of_eq t.isLt N_0

/-- The normalised rows after a point. -/
theorem h_at (hI : Inv m c t.val hv av cv) (l : Fin 512) (d : Fin 2048) :
    (hAt m c t hv : FVec Ideal S512x2048 .bf16) (ix2 l d) = sH m c (Ffn.row (t.val / 11) l) d := by
  by_cases h : t.val % 11 = 0
  · have e : hAt m c t hv = k0_pay3 (iblk m c 0 t) (iblk m c 1 t) (iblk m c 2 t) (iblk m c 3 t) := if_pos ((hcond1 t).2 h)
    have hs : (fun k => (iblk m c 0 t : Vec Ideal S512x2048 .f32) (ix2 l k)) = aX m c (Ffn.row (t.val / 11) l) := funext fun k => blk0 m c t l k
    refine (congrFun e _).trans ((pay3_at _ _ _ _ l d).trans ?_)
    rw [hs, blk0, (blk1 m c t d).trans (v11_at m c d), blk2, blk3]
    rfl
  · have e : hAt m c t hv = hv := if_neg fun h' => h ((hcond1 t).1 h')
    exact (congrFun e _).trans ((hI.1 h).1 l d)

/-- The first projection at a point. -/
theorem gate_at (hI : Inv m c t.val hv av cv) (l n : Fin 512) :
    k0_pay6 (hAt m c t hv) (iblk m c 4 t) (ix2 l n) = sGate m c (Ffn.row (t.val / 11) l) (t.val % 11 * 512 + n.val) := by
  refine (pay6_at _ _ l n).trans (Finset.sum_congr rfl fun d _ => ?_)
  rw [h_at m c t hv av cv hI, (blk4 m c t d n).trans (v3_at m c d _)]

/-- The second projection at a point. -/
theorem up_at (hI : Inv m c t.val hv av cv) (l n : Fin 512) :
    k0_pay7 (hAt m c t hv) (iblk m c 5 t) (ix2 l n) = sUp m c (Ffn.row (t.val / 11) l) (t.val % 11 * 512 + n.val) := by
  refine (pay7_at _ _ l n).trans (Finset.sum_congr rfl fun d _ => ?_)
  rw [h_at m c t hv av cv hI, (blk5 m c t d n).trans (v7_at m c d _)]

/-- The running sum as a point finds it. -/
theorem mid_at (hI : Inv m c t.val hv av cv) (l : Fin 512) (k : Fin 2048) :
    (aMid (grid0.coords t) av : FVec Ideal S512x2048 .f32) (ix2 l k) = sPart m c (Ffn.row (t.val / 11) l) k (t.val % 11) := by
  by_cases h : t.val % 11 = 0
  · have e : aMid (grid0.coords t) av = k0_pay4 (F := Ideal) := if_pos ((hcond1 t).2 h)
    have z : (k0_pay4 (F := Ideal) (ix2 l k) : EReal) = 0 := by pointwise [k0_pay4]
    rw [h]
    exact (congrFun e _).trans z
  · have e : aMid (grid0.coords t) av = av := if_neg fun h' => h ((hcond1 t).1 h')
    exact (congrFun e _).trans ((hI.1 h).2 l k)

/-- A slot that is not the point's is as it was. -/
theorem mid_other (s : Fin 11) (e : Fin 8) (n : Fin 512) (hs : s.val ≠ t.val % 11) :
    (cMid (grid0.coords t) cv : FVec Ideal S11x8x512 .f32) (ix3 s e n) = (cv : FVec Ideal S11x8x512 .f32) (ix3 s e n) := by
  by_cases h : t.val < 11
  · have q : cMid (grid0.coords t) cv = VecWindow.put cv (k0_off2 (grid0.coords t)) ![1, 8, 512] (k0_pay5 (F := Ideal)) := if_pos ((hcond2 t).2 h)
    exact (congrFun q _).trans ((put_at cv _ _ _ (off2_eq t) s e n).trans (if_neg hs))
  · have q : cMid (grid0.coords t) cv = cv := if_neg fun h' => h ((hcond2 t).1 h')
    exact congrFun q _

/-- The point's slot as the point reads it: the previous row block's last rows, or zeros. -/
theorem slot_at (hI : Inv m c t.val hv av cv) (e : Fin 8) (n : Fin 512) :
    (VecWindow.window (s := S11x8x512) (cMid (grid0.coords t) cv) (k0_off2 (grid0.coords t)) ![1, 8, 512] (k0_off2_inb (grid0.coords t)) : FVec Ideal S1x8x512 .f32) (ix3 0 e n)
      = if t.val < 11 then 0 else sGate m c (Ffn.row (t.val / 11 - 1) ⟨504 + e.val, by omega⟩) (t.val % 11 * 512 + n.val) := by
  refine (win_at (cMid (grid0.coords t) cv) _ _ (by omega) (off2_eq t) _ e n).trans ?_
  by_cases h : t.val < 11
  · have q : cMid (grid0.coords t) cv = VecWindow.put cv (k0_off2 (grid0.coords t)) ![1, 8, 512] (k0_pay5 (F := Ideal)) := if_pos ((hcond2 t).2 h)
    have z : (k0_pay5 (F := Ideal) (ix3 0 e n) : EReal) = 0 := by pointwise [k0_pay5]
    rw [if_pos h]
    exact (congrFun q _).trans ((put_at cv _ _ _ (off2_eq t) _ e n).trans ((if_pos rfl).trans z))
  · have q : cMid (grid0.coords t) cv = cv := if_neg fun h' => h ((hcond2 t).1 h')
    rw [if_neg h]
    exact (congrFun q _).trans (hI.2.2 ⟨t.val % 11, by omega⟩ e n (le_refl _) (by omega))

/-- The carried rows after a point. -/
theorem c_at (hI : Inv m c t.val hv av cv) (s : Fin 11) (e : Fin 8) (n : Fin 512) :
    (cAt m c t hv cv : FVec Ideal S11x8x512 .f32) (ix3 s e n)
      = if s.val = t.val % 11 then sGate m c (Ffn.row (t.val / 11) ⟨504 + e.val, by omega⟩) (s.val * 512 + n.val)
        else (cv : FVec Ideal S11x8x512 .f32) (ix3 s e n) := by
  refine (put_at (cMid (grid0.coords t) cv) _ _ _ (off2_eq t) s e n).trans ?_
  by_cases hs : s.val = t.val % 11
  · rw [if_pos hs, if_pos hs, hs]
    exact (pay9_at _ _ e n).trans (gate_at m c t hv av cv hI _ n)
  · rw [if_neg hs, if_neg hs]
    exact mid_other t cv s e n hs

/-- The rows one and two back of a block's rows, inside the block. -/
theorem back_in (i : ℕ) (hi : i < 32) (k : ℕ) (l : Fin 512) (hl : k ≤ l.val) (n : ℕ) :
    Ffn.back (aX m c) (aG m c) (aSC m c) (aSH m c) (aWU m c) k (Ffn.row i l) n
      = sGate m c (Ffn.row i ⟨l.val - k, by omega⟩) n := by
  unfold Ffn.back
  have hr : (Ffn.row i l).val = i % 32 * 512 + l.val := rfl
  rw [if_pos (by omega)]
  congr 1
  apply Fin.ext
  show i % 32 * 512 + l.val - k = i % 32 * 512 + (l.val - k)
  omega

/-- The rows one and two back of a block's first rows: in the block before, or nothing. -/
theorem back_out (i : ℕ) (hi : i < 32) (k : ℕ) (l : Fin 512) (hl : l.val < k) (e : Fin 8) (he : e.val + k = 8 + l.val) (n : ℕ) :
    Ffn.back (aX m c) (aG m c) (aSC m c) (aSH m c) (aWU m c) k (Ffn.row i l) n
      = if i = 0 then 0 else sGate m c (Ffn.row (i - 1) ⟨504 + e.val, by omega⟩) n := by
  unfold Ffn.back
  have hr : (Ffn.row i l).val = i % 32 * 512 + l.val := rfl
  by_cases h : i = 0
  · rw [if_pos h, if_neg (by subst h; omega)]
  · rw [if_neg h, if_pos (by omega)]
    congr 1
    apply Fin.ext
    show i % 32 * 512 + l.val - k = (i - 1) % 32 * 512 + (504 + e.val)
    omega

/-- The running sum after a point. -/
theorem a_at (hI : Inv m c t.val hv av cv) (l : Fin 512) (k : Fin 2048) :
    (aAt m c t hv av cv : FVec Ideal S512x2048 .f32) (ix2 l k) = sPart m c (Ffn.row (t.val / 11) l) k (t.val % 11 + 1) := by
  have ht := lt_t t
  have id1 : ∀ x : FVec Ideal S512x2048 .f32, k0_pay1 x (ix2 l k) = x (ix2 l k) := fun x => by pointwise [k0_pay1]
  refine (id1 _).trans ((pay15_at _ _ _ _ _ _ _ _ l k).trans ?_)
  rw [mid_at m c t hv av cv hI]
  refine congrArg _ (Finset.sum_congr rfl fun n _ => ?_)
  have hif : ∀ x : EReal, (if t.val < 11 then 0 else x) = if t.val / 11 = 0 then 0 else x := fun x => if_congr (by omega) rfl rfl
  have b1 := pay10_at (hAt m c t hv) (iblk m c 4 t) (VecWindow.window (s := S11x8x512) (cMid (grid0.coords t) cv) (k0_off2 (grid0.coords t)) ![1, 8, 512] (k0_off2_inb (grid0.coords t))) l n
  have e1 : (k0_pay10 (hAt m c t hv) (iblk m c 4 t) (VecWindow.window (s := S11x8x512) (cMid (grid0.coords t) cv) (k0_off2 (grid0.coords t)) ![1, 8, 512] (k0_off2_inb (grid0.coords t))) (ix2 l n) : EReal)
      = Ffn.back (aX m c) (aG m c) (aSC m c) (aSH m c) (aWU m c) 1 (Ffn.row (t.val / 11) l) (t.val % 11 * 512 + n.val) := by
    refine b1.trans ?_
    by_cases h : l.val = 0
    · rw [if_pos h, slot_at m c t hv av cv hI, hif, back_out m c (t.val / 11) (by omega) 1 l (by omega) 7 (by rw [h]; rfl)]
    · rw [if_neg h, gate_at m c t hv av cv hI, back_in m c (t.val / 11) (by omega) 1 l (by omega)]
  have e2 : (if h : l.val < 2 then (VecWindow.window (s := S11x8x512) (cMid (grid0.coords t) cv) (k0_off2 (grid0.coords t)) ![1, 8, 512] (k0_off2_inb (grid0.coords t)) : FVec Ideal S1x8x512 .f32) (ix3 0 ⟨6 + l.val, by omega⟩ n)
        else k0_pay6 (hAt m c t hv) (iblk m c 4 t) (ix2 ⟨l.val - 2, by omega⟩ n))
      = Ffn.back (aX m c) (aG m c) (aSC m c) (aSH m c) (aWU m c) 2 (Ffn.row (t.val / 11) l) (t.val % 11 * 512 + n.val) := by
    by_cases h : l.val < 2
    · rw [dif_pos h, slot_at m c t hv av cv hI, hif, back_out m c (t.val / 11) (by omega) 2 l h ⟨6 + l.val, by omega⟩ (by show 6 + l.val + 2 = 8 + l.val; omega)]
    · rw [dif_neg h, gate_at m c t hv av cv hI, back_in m c (t.val / 11) (by omega) 2 l (by omega)]
  unfold Ffn.term Ffn.conv
  rw [e1, e2, gate_at m c t hv av cv hI, up_at m c t hv av cv hI, (blk6 m c t 0 n).trans (v13_at m c 0 _), (blk6 m c t 1 n).trans (v13_at m c 1 _),
    (blk6 m c t 2 n).trans (v13_at m c 2 _), (blk7 m c t n).trans (v16_at m c _), (blk8 m c t n k).trans (v10_at m c _ k)]

/-- The output rows after the last column block. -/
theorem o_at (hI : Inv m c t.val hv av cv) (o : Vec Ideal S512x2048 .f32) : Out m c t (oAt m c t hv av o cv) := by
  intro h l k
  have e : oAt m c t hv av o cv = k0_pay2 (aAt m c t hv av cv) (iblk m c 0 t) (iblk m c 10 t) (iblk m c 9 t) := if_pos ((hcond3 t).2 h)
  have ha : ∀ k, (aAt m c t hv av cv : FVec Ideal S512x2048 .f32) (ix2 l k)
      = Ffn.down (aX m c) (aG m c) (aSC m c) (aSH m c) (aWU m c) (aCW m c) (aCB m c) (aWD m c) (Ffn.row (t.val / 11) l) k := fun k => by
    rw [a_at m c t hv av cv hI, h]
    exact Ffn.part_eq _ _ _ _ _ _ _ _ _ k
  refine (congrFun e _).trans ((pay2_at _ _ _ _ l k).trans ?_)
  rw [blk0, blk10, (blk9 m c t k).trans (v17_at m c k), ha, funext ha]
  rfl
end Point

/-- Every point keeps what the scratch buffers hold. -/
theorem keeps : Keeps m (Inv m) (Out m) := by
  intro c t hv av cv o hI
  have ht := lt_t t
  refine ⟨⟨fun h => ?_, fun s e n hs => ?_, fun s e n hs h11 => ?_⟩, o_at m c t hv av cv hI o⟩
  · have h1 : (t.val + 1) % 11 = t.val % 11 + 1 := by omega
    have h2 : (t.val + 1) / 11 = t.val / 11 := by omega
    rw [h1, h2]
    exact ⟨h_at m c t hv av cv hI, a_at m c t hv av cv hI⟩
  · have h2 : (t.val + 1) / 11 = t.val / 11 := by omega
    rw [h2, c_at m c t hv av cv hI]
    by_cases h : s.val = t.val % 11
    · rw [if_pos h]
    · rw [if_neg h]
      exact hI.2.1 s e n (by omega)
  · rw [c_at m c t hv av cv hI]
    by_cases h : s.val = t.val % 11
    · rw [if_pos h, show (t.val + 1) / 11 - 1 = t.val / 11 by omega]
    · rw [if_neg h]
      by_cases hj : t.val % 11 = 10
      · rw [show (t.val + 1) / 11 - 1 = t.val / 11 by omega]
        exact hI.2.1 s e n (by omega)
      · rw [show (t.val + 1) / 11 - 1 = t.val / 11 - 1 by omega]
        exact hI.2.2 s e n (by omega) (by omega)

/-- Nothing is asked of the scratch buffers before the first point. -/
theorem inv_zero (c : Dev nD) (hv av cv) : Inv m c 0 hv av cv :=
  ⟨fun h => absurd rfl h, fun s e n h => absurd h (Nat.not_lt_zero _), fun s e n _ h => absurd h (by decide)⟩

/-- The result array. -/
def resArr (c : Dev nD) : FVec Ideal S16384x2048 .f32 := fun i => sOut m c ⟨(i 0).val, (i 0).isLt⟩ ⟨(i 1).val, (i 1).isLt⟩

/-- An array tiled by output rows with the property is the result array. -/
theorem final (c : Dev nD) (d : Dat τ (Elt Ideal) Unit ℕ (UR sig nD τ) ℕ cfg0 c)
    (h : ∀ t : Fin cfg0.N, (cfg0.win 11).flush t = true → Out m c t (d.after 11 t)) : d.arrAt 11 cfg0.N = resArr m c := by
  refine d.arrAt_eq_of_covers 11 _ (by decide +kernel) fun t hf y => ?_
  have ht := lt_t t
  have hm : t.val % 11 = 10 := (by decide +kernel : ∀ t : Fin grid0.N, win0_11.flush t = true → t.val % 11 = 10) t hf
  have ho := h t hf hm ⟨(y 0).val, (y 0).isLt⟩ ⟨(y 1).val, (y 1).isLt⟩
  have h0 : ((win0_11.blk t).view.emb y 0).val = t.val / 11 * 512 + (y 0).val := by blk_simp [idx t]
  have h1 : ((win0_11.blk t).view.emb y 1).val = (y 1).val := by blk_simp [idx t]
  refine Eq.trans ?_ (Eq.trans ho ?_)
  · blk_simp
    refine congrArg (d.after 11 t) (funext fun a => ?_)
    match a with
    | ⟨0, _⟩ => rfl
    | ⟨1, _⟩ => rfl
  · refine congrArg₂ (sOut m c) (Fin.ext ?_) (Fin.ext h1.symm)
    refine Eq.trans ?_ h0.symm
    show t.val / 11 % 32 * 512 + (y 0).val = t.val / 11 * 512 + (y 0).val
    omega
end Cert.Kernel2Ideal.Ffn
-- ==== Proof.FfnRef.lean ====
module

public import proofs.«01_k».proof.Proof.Gen.Reference2Ideal.Run
public import proofs.«01_k».proof.Proof.FfnSpec
public import Idealize.ShloMosaic.Lib.Pointwise
public import Idealize.ShloMosaic.Lib.KernelVsHost
set_option maxRecDepth 16384
@[expose] public noncomputable section
open Idealize.ShloMosaic Idealize.ShloMosaic.TcCoe Idealize.SL.Sem Idealize.ShloMosaic.StableHlo
namespace Cert.Reference2Ideal.Rd
open Cert.Reference2Ideal Cert.Reference2Ideal.Gen Cert.Reference2Ideal.Value
variable (m : (ℓ : Loc nD τ sig) → Buf (Elt Ideal) ℓ)

/-- The rows as launched. -/
def aX (c : Dev nD) : Fin 16384 → Fin 2048 → EReal :=
  fun r j => (m ((c : Thread nD τ).loc main_arg0) : FVec Ideal S16384x2048 .f32) (ix2 r j)
/-- The first norm's gains as launched. -/
def aG (c : Dev nD) : Fin 2048 → EReal :=
  fun j => (m ((c : Thread nD τ).loc main_arg1) : FVec Ideal S2048 .f32) (ix1 j)
/-- The modulation's scale as launched. -/
def aSC (c : Dev nD) : Fin 2048 → EReal :=
  fun j => (m ((c : Thread nD τ).loc main_arg2) : FVec Ideal S1x2048 .f32) (ix2 0 j)
/-- The modulation's shift as launched. -/
def aSH (c : Dev nD) : Fin 2048 → EReal :=
  fun j => (m ((c : Thread nD τ).loc main_arg3) : FVec Ideal S1x2048 .f32) (ix2 0 j)
/-- The up projection as launched. -/
def aWU (c : Dev nD) : Fin 2048 → Fin 11008 → EReal :=
  fun d j => (m ((c : Thread nD τ).loc main_arg4) : FVec Ideal S2048x11008 .f32) (ix2 d j)
/-- The convolution's weights as launched. -/
def aCW (c : Dev nD) : Fin 3 → Fin 5504 → EReal :=
  fun a j => (m ((c : Thread nD τ).loc main_arg5) : FVec Ideal S3x5504 .f32) (ix2 a j)
/-- The convolution's bias as launched. -/
def aCB (c : Dev nD) : Fin 5504 → EReal :=
  fun j => (m ((c : Thread nD τ).loc main_arg6) : FVec Ideal S5504 .f32) (ix1 j)
/-- The down projection as launched. -/
def aWD (c : Dev nD) : Fin 5504 → Fin 2048 → EReal :=
  fun n k => (m ((c : Thread nD τ).loc main_arg7) : FVec Ideal S5504x2048 .f32) (ix2 n k)
/-- The second norm's gains as launched. -/
def aGP (c : Dev nD) : Fin 2048 → EReal :=
  fun j => (m ((c : Thread nD τ).loc main_arg8) : FVec Ideal S2048 .f32) (ix1 j)
/-- The residual's gate as launched. -/
def aGT (c : Dev nD) : Fin 2048 → EReal :=
  fun j => (m ((c : Thread nD τ).loc main_arg9) : FVec Ideal S1x2048 .f32) (ix2 0 j)

/-- Rows scaled to unit mean square. -/
def tNorm (x : FVec Ideal S16384x2048 .f32) : FVec Ideal S16384x2048 .f32 :=
  mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))
/-- Normalised rows times the gains. -/
def tGain (x : FVec Ideal S16384x2048 .f32) (g : FVec Ideal S2048 .f32) : FVec Ideal S16384x2048 .f32 :=
  mulf (tNorm x) (broadcastInDim S16384x2048 ![0, 1] bcast_S1x2048_S16384x2048_0_1 (broadcastInDim S1x2048 ![1] bcast_S2048_S1x2048_1 g))
/-- The normalised and modulated rows. -/
def tHid (c : Dev nD) : FVec Ideal S16384x2048 .f32 :=
  addf (mulf (tGain (m ((c.tc : Thread nD τ).loc main_arg0)) (m ((c.tc : Thread nD τ).loc main_arg1))) (broadcastInDim S16384x2048 ![0, 1] bcast_S1x2048_S16384x2048_0_1 (addf (broadcastInDim S1x2048 ![] bcast_S_S1x2048 (constant S_ .f32 0x3F800000#32)) (m ((c.tc : Thread nD τ).loc main_arg2))))) (broadcastInDim S16384x2048 ![0, 1] bcast_S1x2048_S16384x2048_0_1 (m ((c.tc : Thread nD τ).loc main_arg3)))
/-- The up projection of the rows. -/
def tProj (c : Dev nD) : FVec Ideal S16384x11008 .f32 :=
  Host.dotGeneral (φ₁ := .f32) (φ₂ := .f32) dot_S16384x2048_S2048x11008_S16384x11008_1_0_0_1_n_n none (tHid m c) (m ((c.tc : Thread nD τ).loc main_arg4) : FVec Ideal S2048x11008 .f32)
/-- Its first half with two rows of zeros before it. -/
def tPad (c : Dev nD) : FVec Ideal S16386x5504 .f32 :=
  pad S16386x5504 ![2, 0] ![0, 0] ![0, 0] (extractStridedSlice S16384x5504 ![0, 0] (tProj m c) slices_S16384x11008_S16384x5504_0_0) (sitofp .f32 (constantI S_ 32 0#32)) pads_S16384x5504_S16386x5504_200_000 h_S_
/-- The convolution. -/
def tConv (c : Dev nD) : FVec Ideal S16384x5504 .f32 :=
  addf (addf (addf (addf (broadcastInDim S16384x5504 ![] bcast_S_S16384x5504 (constant S_ .f32 0x00000000#32))
    (mulf (broadcastInDim S16384x5504 ![0, 1] bcast_S1x5504_S16384x5504_0_1 (broadcastInDim S1x5504 ![1] bcast_S5504_S1x5504_1 (shapeCast S5504 (extractStridedSlice S1x5504 ![0, 0] (m ((c.tc : Thread nD τ).loc main_arg5) : FVec Ideal S3x5504 .f32) slices_S3x5504_S1x5504_0_0) shapeCasts_S1x5504_S5504))) (extractStridedSlice S16384x5504 ![0, 0] (tPad m c) slices_S16386x5504_S16384x5504_0_0)))
    (mulf (broadcastInDim S16384x5504 ![0, 1] bcast_S1x5504_S16384x5504_0_1 (broadcastInDim S1x5504 ![1] bcast_S5504_S1x5504_1 (shapeCast S5504 (extractStridedSlice S1x5504 ![1, 0] (m ((c.tc : Thread nD τ).loc main_arg5) : FVec Ideal S3x5504 .f32) slices_S3x5504_S1x5504_1_0) shapeCasts_S1x5504_S5504))) (extractStridedSlice S16384x5504 ![1, 0] (tPad m c) slices_S16386x5504_S16384x5504_1_0)))
    (mulf (broadcastInDim S16384x5504 ![0, 1] bcast_S1x5504_S16384x5504_0_1 (broadcastInDim S1x5504 ![1] bcast_S5504_S1x5504_1 (shapeCast S5504 (extractStridedSlice S1x5504 ![2, 0] (m ((c.tc : Thread nD τ).loc main_arg5) : FVec Ideal S3x5504 .f32) slices_S3x5504_S1x5504_2_0) shapeCasts_S1x5504_S5504))) (extractStridedSlice S16384x5504 ![2, 0] (tPad m c) slices_S16386x5504_S16384x5504_2_0)))
    (broadcastInDim S16384x5504 ![0, 1] bcast_S1x5504_S16384x5504_0_1 (broadcastInDim S1x5504 ![1] bcast_S5504_S1x5504_1 (m ((c.tc : Thread nD τ).loc main_arg6) : FVec Ideal S5504 .f32)))
/-- The activation. -/
def tAct (a : FVec Ideal S16384x5504 .f32) : FVec Ideal S16384x5504 .f32 :=
  mulf a (mulf (broadcastInDim S16384x5504 ![] bcast_S_S16384x5504 (constant S_ .f32 0x3F000000#32)) (addf (broadcastInDim S16384x5504 ![] bcast_S_S16384x5504 (constant S_ .f32 0x3F800000#32))
    (Host.tanh (mulf (broadcastInDim S16384x5504 ![] bcast_S_S16384x5504 (constant S_ .f32 0x3F4C422A#32)) (addf a (mulf (broadcastInDim S16384x5504 ![] bcast_S_S16384x5504 (constant S_ .f32 0x3D372713#32)) (mulf (mulf a a) a)))))))
/-- The down projection. -/
def tDown (c : Dev nD) : FVec Ideal S16384x2048 .f32 :=
  Host.dotGeneral (φ₁ := .f32) (φ₂ := .f32) dot_S16384x5504_S5504x2048_S16384x2048_1_0_0_1_n_n none (mulf (tAct (tConv m c)) (extractStridedSlice S16384x5504 ![0, 5504] (tProj m c) slices_S16384x11008_S16384x5504_0_5504)) (m ((c.tc : Thread nD τ).loc main_arg7) : FVec Ideal S5504x2048 .f32)

/-- The result as the steps above. -/
theorem res_steps (c : Dev nD) : res_main_v78 m c = (addf (m ((c.tc : Thread nD τ).loc main_arg0) : FVec Ideal S16384x2048 .f32)
    (mulf (broadcastInDim S16384x2048 ![0, 1] bcast_S1x2048_S16384x2048_0_1 (m ((c.tc : Thread nD τ).loc main_arg9) : FVec Ideal S1x2048 .f32))
      (tGain (tDown m c) (m ((c.tc : Thread nD τ).loc main_arg8)))) : FVec Ideal S16384x2048 .f32) := rfl

/-- Normalised rows times the gains, entry by entry. -/
theorem gain_at (x : FVec Ideal S16384x2048 .f32) (g : FVec Ideal S2048 .f32) (r : Fin 16384) (d : Fin 2048) :
    tGain x g (ix2 r d) = x (ix2 r d) * Ffn.scale (fun k => x (ix2 r k)) * g (ix1 d) := by
  pointwise [tGain, tNorm, Ffn.scale]

/-- The modulated rows, entry by entry. -/
theorem hid_at (c : Dev nD) (r : Fin 16384) (d : Fin 2048) :
    tHid m c (ix2 r d) = Ffn.hid (aX m c) (aG m c) (aSC m c) (aSH m c) r d := by
  unfold Ffn.hid aX aG aSC aSH
  rw [← gain_at]
  pointwise [tHid]

/-- The projection, entry by entry. -/
theorem proj_at (c : Dev nD) (r : Fin 16384) (n : Fin 11008) :
    tProj m c (ix2 r n) = ∑ d, Ffn.hid (aX m c) (aG m c) (aSC m c) (aSH m c) r d * aWU m c d n := by
  simp only [← hid_at]
  unfold aWU
  pointwise [tProj]

/-- The first half's columns. -/
theorem gate_at (c : Dev nD) (r : Fin 16384) (n : Fin 5504) :
    tProj m c (ix2 r ⟨n.val, by omega⟩) = Ffn.gate (aX m c) (aG m c) (aSC m c) (aSH m c) (aWU m c) r n.val := by
  rw [proj_at]
  unfold Ffn.gate Ffn.wa
  exact Finset.sum_congr rfl fun d _ => by rw [dif_pos n.isLt]

/-- The second half's columns. -/
theorem up_at (c : Dev nD) (r : Fin 16384) (n : Fin 5504) :
    tProj m c (ix2 r ⟨5504 + n.val, by omega⟩) = Ffn.up (aX m c) (aG m c) (aSC m c) (aSH m c) (aWU m c) r n.val := by
  rw [proj_at]
  unfold Ffn.up Ffn.wu
  exact Finset.sum_congr rfl fun d _ => by rw [dif_pos n.isLt]

/-- The padded first half, `k` rows back. -/
theorem pad_at (c : Dev nD) (r : Fin 16384) (n : Fin 5504) (k : ℕ) (hk : k ≤ 2) :
    tPad m c (ix2 ⟨2 - k + r.val, by omega⟩ n) = Ffn.back (aX m c) (aG m c) (aSC m c) (aSH m c) (aWU m c) k r n.val := by
  unfold Ffn.back
  simp only [← gate_at]
  pointwise [tPad]
  by_cases h : k ≤ r.val
  · rw [if_pos h, dif_pos (by omega)]
    congr 3
    omega
  · rw [if_neg h, dif_neg (by omega)]
    exact Idealize.ShloMosaic.sitofp_zero (φ := .f32)

/-- The convolution, entry by entry. -/
theorem conv_at (c : Dev nD) (r : Fin 16384) (n : Fin 5504) :
    tConv m c (ix2 r n) = Ffn.conv (aX m c) (aG m c) (aSC m c) (aSH m c) (aWU m c) (aCW m c) (aCB m c) r n.val := by
  have h2 := pad_at m c r n 2 (by omega)
  have h1 := pad_at m c r n 1 (by omega)
  have h0 := pad_at m c r n 0 (by omega)
  unfold Ffn.conv Ffn.cw Ffn.cb aCW aCB
  rw [← h2, ← h1, dif_pos n.isLt, dif_pos n.isLt, dif_pos n.isLt, dif_pos n.isLt,
    show Ffn.gate (aX m c) (aG m c) (aSC m c) (aSH m c) (aWU m c) r n.val = Ffn.back (aX m c) (aG m c) (aSC m c) (aSH m c) (aWU m c) 0 r n.val from (if_pos (Nat.zero_le _)).symm, ← h0]
  pointwise [tConv]

/-- The activation, entry by entry. -/
theorem act_at (a : FVec Ideal S16384x5504 .f32) (r : Fin 16384) (n : Fin 5504) : tAct a (ix2 r n) = Ffn.act (a (ix2 r n)) := by
  have h : tAct a (ix2 r n) = a (ix2 r n) * (Ideal.ofBits .f32 0x3F000000#32 * (Ideal.ofBits .f32 0x3F800000#32
    + Ideal.tanh (Ideal.ofBits .f32 0x3F4C422A#32 * (a (ix2 r n) + Ideal.ofBits .f32 0x3D372713#32 * (a (ix2 r n) * a (ix2 r n) * a (ix2 r n)))))) := by
    pointwise [tAct]
  rw [h, Ffn.act]
  ac_rfl

/-- The down projection, entry by entry. -/
theorem down_at (c : Dev nD) (r : Fin 16384) (k : Fin 2048) :
    tDown m c (ix2 r k) = Ffn.down (aX m c) (aG m c) (aSC m c) (aSH m c) (aWU m c) (aCW m c) (aCB m c) (aWD m c) r k := by
  have h : tDown m c (ix2 r k) = ∑ n : Fin 5504, tAct (tConv m c) (ix2 r n) * tProj m c (ix2 r ⟨5504 + n.val, by omega⟩) * aWD m c n k := by
    unfold aWD
    pointwise [tDown]
  rw [h]
  unfold Ffn.down Ffn.term Ffn.wd
  refine Finset.sum_congr rfl fun n _ => ?_
  rw [act_at, conv_at, up_at, dif_pos n.isLt]

/-- The result, entry by entry. -/
theorem res_at (c : Dev nD) (r : Fin 16384) (k : Fin 2048) :
    (res_main_v78 m c : FVec Ideal S16384x2048 .f32) (ix2 r k) = Ffn.out (aX m c) (aG m c) (aSC m c) (aSH m c) (aWU m c) (aCW m c) (aCB m c) (aWD m c)
      (aGP m c) (aGT m c) r k := by
  have hd : Ffn.down (aX m c) (aG m c) (aSC m c) (aSH m c) (aWU m c) (aCW m c) (aCB m c) (aWD m c) r = fun k => tDown m c (ix2 r k) :=
    funext fun k => (down_at m c r k).symm
  have hg := gain_at (tDown m c) (m ((c.tc : Thread nD τ).loc main_arg8)) r k
  rw [res_steps, Ffn.out, hd]
  refine Eq.trans ?_ (congrArg (fun z => aX m c r k + aGT m c k * z) hg)
  unfold aX aGT
  pointwise
end Cert.Reference2Ideal.Rd
-- ==== Proof.FfnClaims.lean ====
module

public import proofs.«01_k».proof.Defs
public import proofs.«01_k».proof.Proof.FfnOblBits
public import proofs.«01_k».proof.Proof.FfnKeeps
public import proofs.«01_k».proof.Proof.FfnRef
public import Idealize.ShloMosaic.Lib.Quiescent

/-! # The claims about the feed-forward sublayer -/

set_option maxRecDepth 16384

@[expose] public noncomputable section

open Idealize.ShloMosaic Idealize.ShloMosaic.TcCoe Idealize.SL.Sem Idealize.ShloMosaic.StableHlo

namespace Cert.Proof.Ffn

/-- The reference's result is the kernel's result array when the arguments agree. -/
theorem same_result (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (hX : Cert.Reference2Ideal.Rd.aX m' c = Cert.Kernel2Ideal.Ffn.aX m c)
    (hG : Cert.Reference2Ideal.Rd.aG m' c = Cert.Kernel2Ideal.Ffn.aG m c)
    (hSC : Cert.Reference2Ideal.Rd.aSC m' c = Cert.Kernel2Ideal.Ffn.aSC m c)
    (hSH : Cert.Reference2Ideal.Rd.aSH m' c = Cert.Kernel2Ideal.Ffn.aSH m c)
    (hWU : Cert.Reference2Ideal.Rd.aWU m' c = Cert.Kernel2Ideal.Ffn.aWU m c)
    (hCW : Cert.Reference2Ideal.Rd.aCW m' c = Cert.Kernel2Ideal.Ffn.aCW m c)
    (hCB : Cert.Reference2Ideal.Rd.aCB m' c = Cert.Kernel2Ideal.Ffn.aCB m c)
    (hWD : Cert.Reference2Ideal.Rd.aWD m' c = Cert.Kernel2Ideal.Ffn.aWD m c)
    (hGP : Cert.Reference2Ideal.Rd.aGP m' c = Cert.Kernel2Ideal.Ffn.aGP m c)
    (hGT : Cert.Reference2Ideal.Rd.aGT m' c = Cert.Kernel2Ideal.Ffn.aGT m c) :
    Cert.Reference2Ideal.Value.res_main_v78 m' c = Cert.Kernel2Ideal.Ffn.resArr m c := by
  funext i
  idx_vars i
  refine (Cert.Reference2Ideal.Rd.res_at m' c i0 i1).trans ?_
  rw [hX, hG, hSC, hSH, hWU, hCW, hCB, hWD, hGP, hGT]
  rfl

/-- The kernel's frame. -/
theorem frame_p : Cert.quiescent_Kernel2 (hKernel2 := Cert.Kernel2.Gen.facts) := fun m ρ _ => Cert.Kernel2.Ffn.run_post m ρ
/-- The idealized kernel's frame. -/
theorem frame_pi : Cert.quiescent_Kernel2Ideal (hKernel2Ideal := Cert.Kernel2Ideal.Gen.facts) := fun m ρ _ =>
  (θ_run _ _ _).mono (fun r h => ⟨fun c => (h.1 c).2, h.2⟩)
    (Cert.Kernel2Ideal.Ffn.run_post m ρ (Cert.Kernel2Ideal.Ffn.keeps m) (Cert.Kernel2Ideal.Ffn.inv_zero m))
/-- The reference's frame: it declares no semaphore. -/
theorem frame_ri : Cert.quiescent_Reference2Ideal (hReference2Ideal := Cert.Reference2Ideal.Gen.facts) := fun m ρ _ =>
  (θ_run _ _ _).mono (fun r h => ⟨fun c => (h c).2, sem_eq_zero_of_no_sems rfl r.2⟩) (Cert.Reference2Ideal.Value.run m ρ)
/-- The idealized kernel and the reference end with the same result. -/
theorem algebraic : Cert.algebraic_Kernel2Ideal_Reference2Ideal (hKernel2Ideal := Cert.Kernel2Ideal.Gen.facts)
    (hReference2Ideal := Cert.Reference2Ideal.Gen.facts) := fun m ρ m' ρ' _ hag =>
  ⟨fun c => Cert.Kernel2Ideal.Ffn.resArr m c,
    (θ_run _ _ _).mono (fun r h c => by
      obtain ⟨⟨d, hd, hr⟩, ha⟩ := h.1 c
      exact ⟨hr.trans (Cert.Kernel2Ideal.Ffn.final m c d hd), ha⟩)
      (Cert.Kernel2Ideal.Ffn.run_post m ρ (Cert.Kernel2Ideal.Ffn.keeps m) (Cert.Kernel2Ideal.Ffn.inv_zero m)),
    (θ_run _ _ _).mono (fun r h c => by
      obtain ⟨h0, h1, h2, h3, h4, h5, h6, h7, h8, h9⟩ := hag c
      exact ⟨(h c).1.trans (same_result m m' c (funext fun i => funext fun j => congrFun h0 (ix2 i j)) (funext fun j => congrFun h1 (ix1 j))
        (funext fun j => congrFun h2 (ix2 0 j)) (funext fun j => congrFun h3 (ix2 0 j)) (funext fun i => funext fun j => congrFun h4 (ix2 i j))
        (funext fun i => funext fun j => congrFun h5 (ix2 i j)) (funext fun j => congrFun h6 (ix1 j)) (funext fun i => funext fun j => congrFun h7 (ix2 i j))
        (funext fun j => congrFun h8 (ix1 j)) (funext fun j => congrFun h9 (ix2 0 j))), (h c).2⟩)
      (Cert.Reference2Ideal.Value.run m' ρ')⟩

end Cert.Proof.Ffn

end
-- ==== Proof.InSpec.lean ====
module

public import proofs.«01_k».proof.Proof.FfnSpec
@[expose] public noncomputable section
open Idealize.ShloMosaic

/-! # The input projection in real arithmetic

The values both programs compute: normalised and modulated rows times the weight, whose columns are stored in another
order, with 224 columns of zeros at the end. -/

namespace Cert.Inproj

/-- Column `n` of the weight as stored. -/
def col (W : Fin 2048 → Fin 5152 → EReal) (d : Fin 2048) (n : ℕ) : EReal :=
  if h : n < 1024 then W d ⟨n, by omega⟩
  else if h : n < 2048 then W d ⟨2568 + (n - 1024), by omega⟩
  else if h : n < 2560 then W d ⟨1024 + (n - 2048), by omega⟩
  else if h : n < 3072 then W d ⟨1536 + (n - 2560), by omega⟩
  else if h : n < 3584 then W d ⟨2056 + (n - 3072), by omega⟩
  else if h : n < 5120 then W d ⟨3592 + (n - 3584), by omega⟩
  else if h : n < 5124 then W d ⟨2048 + (n - 5120), by omega⟩
  else if h : n < 5128 then W d ⟨2052 + (n - 5124), by omega⟩
  else if h : n < 5152 then W d ⟨5128 + (n - 5128), by omega⟩
  else 0

/-- The projection's column `n` of row `r`. -/
def out (X : Fin 16384 → Fin 2048 → EReal) (G SC SH : Fin 2048 → EReal) (W : Fin 2048 → Fin 5152 → EReal)
    (r : Fin 16384) (n : ℕ) : EReal := ∑ d, Ffn.hid X G SC SH r d * col W d n

/-- Row `l` of row block `i`. -/
def row (i : ℕ) (l : Fin 1024) : Fin 16384 := ⟨i % 16 * 1024 + l.val, by omega⟩

end Cert.Inproj

end
-- ==== Proof.InHost.lean ====
module

public import proofs.«01_k».proof.Proof.Gen.Kernel3Ideal.Frame
public import proofs.«01_k».proof.Proof.InSpec
public import Idealize.ShloMosaic.Lib.Pointwise
public import Idealize.ShloMosaic.Lib.StableHlo.Run
set_option maxRecDepth 16384
@[expose] public noncomputable section
open Idealize.ShloMosaic Idealize.ShloMosaic.TcCoe Idealize.SL.Sem Idealize.ShloMosaic.StableHlo
namespace Cert.Kernel3Ideal.Inproj
open Cert.Kernel3Ideal Cert.Kernel3Ideal.Gen
variable {F : FTy → Type} [FloatOps F]
variable (m : (ℓ : Loc nD τ sig) → Buf (Elt Ideal) ℓ)

/-- Three blocks of columns side by side. -/
def cat3 (u0 : FVec F S2048x4 .f32) (u1 : FVec F S2048x4 .f32) (u2 : FVec F S2048x24 .f32) : FVec F S2048x32 .f32 :=
  concatenate S2048x32 1 [⟨S2048x4, u0⟩, ⟨S2048x4, u1⟩, ⟨S2048x24, u2⟩] concatenates_S2048x4_S2048x4_S2048x24_S2048x32_d1

/-- Eight blocks of columns side by side. -/
def cat8 (u0 : FVec F S2048x1024 .f32) (u1 : FVec F S2048x1024 .f32) (u2 : FVec F S2048x512 .f32) (u3 : FVec F S2048x512 .f32) (u4 : FVec F S2048x512 .f32) (u5 : FVec F S2048x1536 .f32) (u6 : FVec F S2048x32 .f32) (u7 : FVec F S2048x224 .f32) : FVec F S2048x5376 .f32 :=
  concatenate S2048x5376 1 [⟨S2048x1024, u0⟩, ⟨S2048x1024, u1⟩, ⟨S2048x512, u2⟩, ⟨S2048x512, u3⟩, ⟨S2048x512, u4⟩, ⟨S2048x1536, u5⟩, ⟨S2048x32, u6⟩, ⟨S2048x224, u7⟩] concatenates_S2048x1024_S2048x1024_S2048x512_S2048x512_S2048x512_S2048x1536_S2048x32_S2048x224_S2048x5376_d1

/-- The host operations, the two that put blocks side by side by their names. -/
abbrev hostOps : List (HloOp τ sig (Elt F)) :=
  [ StableHlo.reshape main_arg1 main_v0 (rfl : (.f32 : EltTy) = .f32) shapeCasts_S2048_S1x2048,
    StableHlo.unary main_arg4 main_v1 ((extractStridedSlice S2048x1024 ![0, 0] · slices_S2048x5152_S2048x1024_0_0) : (⟨S2048x5152, .f32⟩ : BufTy).Contents (Elt F) → (⟨S2048x1024, .f32⟩ : BufTy).Contents (Elt F)),
    StableHlo.unary main_arg4 main_v2 ((extractStridedSlice S2048x512 ![0, 1024] · slices_S2048x5152_S2048x512_0_1024) : (⟨S2048x5152, .f32⟩ : BufTy).Contents (Elt F) → (⟨S2048x512, .f32⟩ : BufTy).Contents (Elt F)),
    StableHlo.unary main_arg4 main_v3 ((extractStridedSlice S2048x512 ![0, 1536] · slices_S2048x5152_S2048x512_0_1536) : (⟨S2048x5152, .f32⟩ : BufTy).Contents (Elt F) → (⟨S2048x512, .f32⟩ : BufTy).Contents (Elt F)),
    StableHlo.unary main_arg4 main_v4 ((extractStridedSlice S2048x4 ![0, 2048] · slices_S2048x5152_S2048x4_0_2048) : (⟨S2048x5152, .f32⟩ : BufTy).Contents (Elt F) → (⟨S2048x4, .f32⟩ : BufTy).Contents (Elt F)),
    StableHlo.unary main_arg4 main_v5 ((extractStridedSlice S2048x4 ![0, 2052] · slices_S2048x5152_S2048x4_0_2052) : (⟨S2048x5152, .f32⟩ : BufTy).Contents (Elt F) → (⟨S2048x4, .f32⟩ : BufTy).Contents (Elt F)),
    StableHlo.unary main_arg4 main_v6 ((extractStridedSlice S2048x512 ![0, 2056] · slices_S2048x5152_S2048x512_0_2056) : (⟨S2048x5152, .f32⟩ : BufTy).Contents (Elt F) → (⟨S2048x512, .f32⟩ : BufTy).Contents (Elt F)),
    StableHlo.unary main_arg4 main_v7 ((extractStridedSlice S2048x1024 ![0, 2568] · slices_S2048x5152_S2048x1024_0_2568) : (⟨S2048x5152, .f32⟩ : BufTy).Contents (Elt F) → (⟨S2048x1024, .f32⟩ : BufTy).Contents (Elt F)),
    StableHlo.unary main_arg4 main_v8 ((extractStridedSlice S2048x1536 ![0, 3592] · slices_S2048x5152_S2048x1536_0_3592) : (⟨S2048x5152, .f32⟩ : BufTy).Contents (Elt F) → (⟨S2048x1536, .f32⟩ : BufTy).Contents (Elt F)),
    StableHlo.unary main_arg4 main_v9 ((extractStridedSlice S2048x24 ![0, 5128] · slices_S2048x5152_S2048x24_0_5128) : (⟨S2048x5152, .f32⟩ : BufTy).Contents (Elt F) → (⟨S2048x24, .f32⟩ : BufTy).Contents (Elt F)),
    StableHlo.nary ![main_v4, main_v5, main_v9] main_v10 (fun u => cat3 (u 0) (u 1) (u 2)),
    StableHlo.nullary main_cst (constant S_ .f32 0x00000000#32),
    StableHlo.unary main_cst main_v11 (broadcastInDim S2048x224 ![] bcast_S_S2048x224 : (⟨S_, .f32⟩ : BufTy).Contents (Elt F) → (⟨S2048x224, .f32⟩ : BufTy).Contents (Elt F)),
    StableHlo.nary ![main_v1, main_v7, main_v2, main_v3, main_v6, main_v8, main_v10, main_v11] main_v12 (fun u => cat8 (u 0) (u 1) (u 2) (u 3) (u 4) (u 5) (u 6) (u 7)),
    StableHlo.unary main_v12 main_v13 ((truncf .bf16 · bitsLt_bf16_f32) : (⟨S2048x5376, .f32⟩ : BufTy).Contents (Elt F) → (⟨S2048x5376, .bf16⟩ : BufTy).Contents (Elt F)) ]
/-- They are the program's. -/
theorem hostOps_eq : (hostOps0 : List (HloOp τ sig (Elt F))) = hostOps := rfl

/-- The weight with its columns reordered. -/
def stored (w : FVec Ideal S2048x5152 .f32) : FVec Ideal S2048x5376 .f32 :=
  cat8 (extractStridedSlice S2048x1024 ![0, 0] w slices_S2048x5152_S2048x1024_0_0)
    (extractStridedSlice S2048x1024 ![0, 2568] w slices_S2048x5152_S2048x1024_0_2568)
    (extractStridedSlice S2048x512 ![0, 1024] w slices_S2048x5152_S2048x512_0_1024)
    (extractStridedSlice S2048x512 ![0, 1536] w slices_S2048x5152_S2048x512_0_1536)
    (extractStridedSlice S2048x512 ![0, 2056] w slices_S2048x5152_S2048x512_0_2056)
    (extractStridedSlice S2048x1536 ![0, 3592] w slices_S2048x5152_S2048x1536_0_3592)
    (cat3 (extractStridedSlice S2048x4 ![0, 2048] w slices_S2048x5152_S2048x4_0_2048)
      (extractStridedSlice S2048x4 ![0, 2052] w slices_S2048x5152_S2048x4_0_2052)
      (extractStridedSlice S2048x24 ![0, 5128] w slices_S2048x5152_S2048x24_0_5128))
    (broadcastInDim S2048x224 ![] bcast_S_S2048x224 (constant S_ .f32 0x00000000#32))

/-- The blocks find the reordered weight. -/
theorem v13_eq (c : Dev nD) : (V m c main_v13 : FVec Ideal S2048x5376 .bf16)
    = truncf .bf16 (stored (m ((c : Thread nD τ).loc main_arg4))) bitsLt_bf16_f32 := by
  show StableHlo.after hostOps0 (fun b => m (c, b)) main_v13 = _
  rw [hostOps_eq]
  after_results_simp <;> (try dsimp only [Matrix.cons_val]) <;> (try after_results_simp) <;> rfl

/-- Two choices agree when their conditions and their branches do. -/
theorem dite_step {α : Type} {p q : Prop} [Decidable p] [Decidable q] {a : p → α} {a' : q → α} {b : ¬ p → α} {b' : ¬ q → α}
    (h : p ↔ q) (ha : ∀ hp hq, a hp = a' hq) (hb : ∀ hp hq, b hp = b' hq) : dite p a b = dite q a' b' := by
  by_cases hp : p
  · rw [dif_pos hp, dif_pos (h.mp hp)]
    exact ha hp _
  · rw [dif_neg hp, dif_neg (fun hq => hp (h.mpr hq))]
    exact hb hp _

/-- Three blocks side by side, entry by entry. -/
theorem cat3_at (u0 : FVec Ideal S2048x4 .f32) (u1 : FVec Ideal S2048x4 .f32) (u2 : FVec Ideal S2048x24 .f32) (d : Fin 2048) (n : Fin 32) :
    cat3 u0 u1 u2 (ix2 d n) = if h : n.val < 4 then u0 (ix2 d ⟨n.val, h⟩) else if h : n.val < 8 then u1 (ix2 d ⟨n.val - 4, by omega⟩)
      else u2 (ix2 d ⟨n.val - 8, by omega⟩) := by
  refine Eq.trans (b := if h : n.val < 4 then u0 (ix2 d ⟨n.val, h⟩) else if h : n.val - 4 < 4 then u1 (ix2 d ⟨n.val - 4, h⟩)
    else u2 (ix2 d ⟨n.val - 4 - 4, by omega⟩)) ?_ ?_
  · pointwise [cat3]
  · refine dite_step Iff.rfl (fun _ _ => rfl) fun _ _ => dite_step (by omega) (fun _ _ => rfl) fun _ _ => ?_
    exact congrArg (fun k => u2 (ix2 d k)) (Fin.ext (by dsimp only; omega))
/-- The reordered weight, entry by entry. -/
theorem stored_at (w : FVec Ideal S2048x5152 .f32) (d : Fin 2048) (n : Fin 5376) :
    stored w (ix2 d n) = Inproj.col (fun i j => w (ix2 i j)) d n.val := by
  have e : ∀ (a b : ℕ) (ha : a < 5152) (hb : b < 5152), a = b → w (ix2 d ⟨a, ha⟩) = w (ix2 d ⟨b, hb⟩) := by
    intro a b ha hb h
    subst h
    rfl
  unfold Inproj.col
  pointwise [stored, cat8]
  refine dite_step (by omega) (fun _ _ => e _ _ _ _ (by omega)) fun _ _ => ?_
  refine dite_step (by omega) (fun _ _ => e _ _ _ _ (by omega)) fun _ _ => ?_
  refine dite_step (by omega) (fun _ _ => e _ _ _ _ (by omega)) fun _ _ => ?_
  refine dite_step (by omega) (fun _ _ => e _ _ _ _ (by omega)) fun _ _ => ?_
  refine dite_step (by omega) (fun _ _ => e _ _ _ _ (by omega)) fun _ _ => ?_
  refine dite_step (by omega) (fun _ _ => e _ _ _ _ (by omega)) fun _ _ => ?_
  by_cases h : n.val < 5152
  · rw [dif_pos (by omega), cat3_at]
    pointwise
    refine dite_step (by omega) (fun _ _ => e _ _ _ _ (by omega)) fun _ _ => ?_
    refine dite_step (by omega) (fun _ _ => e _ _ _ _ (by omega)) fun _ _ => ?_
    rw [dif_pos h]
    exact e _ _ _ _ (by omega)
  · rw [dif_neg (by omega), dif_neg (by omega), dif_neg (by omega), dif_neg (by omega)]

/-- The blocks find the reordered weight, entry by entry. -/
theorem v13_at (c : Dev nD) (d : Fin 2048) (n : Fin 5376) :
    (V m c main_v13 : FVec Ideal S2048x5376 .bf16) (ix2 d n)
      = Inproj.col (fun i j => (m ((c : Thread nD τ).loc main_arg4) : FVec Ideal S2048x5152 .f32) (ix2 i j)) d n.val := by
  rw [v13_eq, ← stored_at]
  rfl
end Cert.Kernel3Ideal.Inproj
-- ==== Proof.InVal.lean ====
module

public import proofs.«01_k».proof.Proof.Gen.Kernel3Ideal.Value
public import proofs.«01_k».proof.Proof.InHost
public import Idealize.ShloMosaic.Lib.Pointwise
public import Idealize.ShloMosaic.Lib.Pipeline.ValueKit
public import Idealize.ShloMosaic.Lib.WritesUnit
public import Idealize.ShloMosaic.Lib.Pipeline.ReadBack
set_option maxRecDepth 16384
@[expose] public noncomputable section
open Idealize.ShloMosaic Idealize.ShloMosaic.TcCoe Idealize.SL.Sem
open Idealize.ShloMosaic.Pipeline (Dat)
namespace Cert.Kernel3Ideal.Inproj
open Cert.Kernel3Ideal Cert.Kernel3Ideal.Gen
variable (m : (ℓ : Loc nD τ sig) → Buf (Elt Ideal) ℓ)

/-- The rows as launched. -/
def aX (c : Dev nD) : Fin 16384 → Fin 2048 → EReal :=
  fun r j => (m ((c : Thread nD τ).loc main_arg0) : FVec Ideal S16384x2048 .f32) (ix2 r j)
/-- The norm's gains as launched. -/
def aG (c : Dev nD) : Fin 2048 → EReal :=
  fun j => (m ((c : Thread nD τ).loc main_arg1) : FVec Ideal S2048 .f32) (ix1 j)
/-- The modulation's scale as launched. -/
def aSC (c : Dev nD) : Fin 2048 → EReal :=
  fun j => (m ((c : Thread nD τ).loc main_arg2) : FVec Ideal S1x2048 .f32) (ix2 0 j)
/-- The modulation's shift as launched. -/
def aSH (c : Dev nD) : Fin 2048 → EReal :=
  fun j => (m ((c : Thread nD τ).loc main_arg3) : FVec Ideal S1x2048 .f32) (ix2 0 j)
/-- The weight as launched. -/
def aW (c : Dev nD) : Fin 2048 → Fin 5152 → EReal :=
  fun d j => (m ((c : Thread nD τ).loc main_arg4) : FVec Ideal S2048x5152 .f32) (ix2 d j)

/-- Where each window's block of each point lies, decided over the grid. -/
theorem idx : ∀ t : Fin cfg0.N, win0_0.index t = ![t.val / 7, 0] ∧ win0_1.index t = ![0, 0] ∧ win0_2.index t = ![0, 0]
    ∧ win0_3.index t = ![0, 0] ∧ win0_4.index t = ![0, t.val % 7] ∧ win0_5.index t = ![t.val / 7, t.val % 7] :=
  (by decide +kernel : ∀ t : Fin grid0.N, _)

/-- The gains as the blocks find them. -/
theorem v0_at (c : Dev nD) (j : Fin 2048) : (V m c main_v0 : FVec Ideal S1x2048 .f32) (ix2 0 j) = aG m c j := by
  unfold aG
  entry_read
  pointwise
/-- A row block. -/
theorem blk0 (c : Dev nD) (t : Fin cfg0.N) (l : Fin 1024) (d : Fin 2048) :
    (iblk m c 0 t : Vec Ideal S1024x2048 .f32) (ix2 l d) = aX m c (Inproj.row (t.val / 7) l) d := by
  unfold aX Inproj.row
  have ht : t.val < 112 := lt_of_lt_of_eq t.isLt N_0
  blk_ext [iblk, V, idx t]
/-- The gains, the same at every point. -/
theorem blk1 (c : Dev nD) (t : Fin cfg0.N) (j : Fin 2048) :
    (iblk m c 1 t : Vec Ideal S1x2048 .f32) (ix2 0 j) = aG m c j := by
  refine Eq.trans (b := V m c main_v0 (ix2 0 j)) ?_ (v0_at m c j)
  blk_ext [iblk, idx t]
/-- The modulation's scale, the same at every point. -/
theorem blk2 (c : Dev nD) (t : Fin cfg0.N) (j : Fin 2048) :
    (iblk m c 2 t : Vec Ideal S1x2048 .f32) (ix2 0 j) = aSC m c j := by
  unfold aSC
  blk_ext [iblk, V, idx t]
/-- The modulation's shift, the same at every point. -/
theorem blk3 (c : Dev nD) (t : Fin cfg0.N) (j : Fin 2048) :
    (iblk m c 3 t : Vec Ideal S1x2048 .f32) (ix2 0 j) = aSH m c j := by
  unfold aSH
  blk_ext [iblk, V, idx t]
/-- A column block of the weight. -/
theorem blk4 (c : Dev nD) (t : Fin cfg0.N) (d : Fin 2048) (n : Fin 768) :
    (iblk m c 4 t : Vec Ideal S2048x768 .bf16) (ix2 d n) = V m c main_v13 (ix2 d ⟨t.val % 7 * 768 + n.val, by omega⟩) := by
  blk_ext [iblk, idx t]

/-- The normalised and modulated rows of a block. -/
theorem pay1_at (x0 : Vec Ideal S1024x2048 .f32) (x1 x2 x3 : Vec Ideal S1x2048 .f32) (l : Fin 1024) (d : Fin 2048) :
    (k0_pay1 x0 x1 x2 x3 (ix2 l d) : EReal) = (x0 : FVec Ideal S1024x2048 .f32) (ix2 l d) * Ffn.scale (fun k => (x0 : FVec Ideal S1024x2048 .f32) (ix2 l k))
      * (x1 : FVec Ideal S1x2048 .f32) (ix2 0 d) * (Ideal.ofBits .f32 0x3F800000#32 + (x2 : FVec Ideal S1x2048 .f32) (ix2 0 d))
      + (x3 : FVec Ideal S1x2048 .f32) (ix2 0 d) := by
  pointwise [k0_pay1, Ffn.scale]
/-- The projection of a block. -/
theorem pay2_at (h : Vec Ideal S1024x2048 .bf16) (x : Vec Ideal S2048x768 .bf16) (l : Fin 1024) (n : Fin 768) :
    (k0_pay2 h x (ix2 l n) : EReal) = ∑ d, (h : FVec Ideal S1024x2048 .bf16) (ix2 l d) * (x : FVec Ideal S2048x768 .bf16) (ix2 d n) := by
  pointwise [k0_pay2]

/-- The rows of a point's block, normalised and modulated. -/
theorem hid_at (c : Dev nD) (t : Fin cfg0.N) (l : Fin 1024) (d : Fin 2048) :
    (k0_pay1 (iblk m c 0 t) (iblk m c 1 t) (iblk m c 2 t) (iblk m c 3 t) (ix2 l d) : EReal)
      = Ffn.hid (aX m c) (aG m c) (aSC m c) (aSH m c) (Inproj.row (t.val / 7) l) d := by
  refine (pay1_at (iblk m c 0 t) (iblk m c 1 t) (iblk m c 2 t) (iblk m c 3 t) l d).trans ?_
  simp only [blk0 m c t, blk1 m c t, blk2 m c t, blk3 m c t]
  rfl

/-- The scratch rows after a point of the first column block. -/
theorem rowsA (c : Dev nD) (t : Fin cfg0.N) (h : t.val % 7 = 0) :
    (outsAt0 m c t.val t.isLt).2 = k0_pay1 (iblk m c 0 t) (iblk m c 1 t) (iblk m c 2 t) (iblk m c 3 t) := by
  rw [outsAt0_A m c t h]
  dsimp only
  generalize iblk m c 0 t = x0
  generalize iblk m c 1 t = x1
  generalize iblk m c 2 t = x2
  generalize iblk m c 3 t = x3
  generalize iblk m c 4 t = x4
  frame_out
/-- The other points leave the scratch rows. -/
theorem rowsB (c : Dev nD) (t : Fin cfg0.N) (h : ¬ t.val % 7 = 0) :
    (outsAt0 m c t.val t.isLt).2 = (outsAt0 m c (t.val - 1) (Nat.lt_of_le_of_lt (Nat.sub_le _ _) t.isLt)).2 := by
  rw [outsAt0_B m c t h]
  rfl
/-- The rows stored by a point of the first column block. -/
theorem outA (c : Dev nD) (t : Fin cfg0.N) (h : t.val % 7 = 0) :
    (outsAt0 m c t.val t.isLt).1 = k0_pay2 (k0_pay1 (iblk m c 0 t) (iblk m c 1 t) (iblk m c 2 t) (iblk m c 3 t)) (iblk m c 4 t) := by
  rw [outsAt0_A m c t h]
  dsimp only
  generalize iblk m c 0 t = x0
  generalize iblk m c 1 t = x1
  generalize iblk m c 2 t = x2
  generalize iblk m c 3 t = x3
  generalize iblk m c 4 t = x4
  frame_out
/-- The rows stored by another point. -/
theorem outB (c : Dev nD) (t : Fin cfg0.N) (h : ¬ t.val % 7 = 0) :
    (outsAt0 m c t.val t.isLt).1
      = k0_pay2 (outsAt0 m c (t.val - 1) (Nat.lt_of_le_of_lt (Nat.sub_le _ _) t.isLt)).2 (iblk m c 4 t) := by
  rw [outsAt0_B m c t h]
  dsimp only
  generalize (outsAt0 m c (t.val - 1) _).2 = s
  generalize iblk m c 0 t = x0
  generalize iblk m c 1 t = x1
  generalize iblk m c 2 t = x2
  generalize iblk m c 3 t = x3
  generalize iblk m c 4 t = x4
  frame_out
  simp only [read_unread_whole]

/-- After every point the scratch holds its row block's rows, normalised and modulated. -/
theorem rows_all (c : Dev nD) (t : ℕ) : ∀ (ht : t < cfg0.N) (l : Fin 1024) (d : Fin 2048),
    ((outsAt0 m c t ht).2 : FVec Ideal S1024x2048 .bf16) (ix2 l d) = Ffn.hid (aX m c) (aG m c) (aSC m c) (aSH m c) (Inproj.row (t / 7) l) d := by
  induction t with
  | zero =>
    intro ht l d
    rw [rowsA m c ⟨0, ht⟩ rfl]
    exact hid_at m c ⟨0, ht⟩ l d
  | succ t ih =>
    intro ht l d
    by_cases h : (t + 1) % 7 = 0
    · rw [rowsA m c ⟨t + 1, ht⟩ h]
      exact hid_at m c ⟨t + 1, ht⟩ l d
    · rw [rowsB m c ⟨t + 1, ht⟩ h, show (t + 1) / 7 = t / 7 by omega]
      exact ih (Nat.lt_of_succ_lt ht) l d

/-- What a point stores. -/
theorem out_all (c : Dev nD) (t : Fin cfg0.N) (l : Fin 1024) (n : Fin 768) :
    ((outsAt0 m c t.val t.isLt).1 : FVec Ideal S1024x768 .f32) (ix2 l n)
      = Inproj.out (aX m c) (aG m c) (aSC m c) (aSH m c) (aW m c) (Inproj.row (t.val / 7) l) (t.val % 7 * 768 + n.val) := by
  have key : ((outsAt0 m c t.val t.isLt).1 : FVec Ideal S1024x768 .f32) (ix2 l n)
      = k0_pay2 (outsAt0 m c t.val t.isLt).2 (iblk m c 4 t) (ix2 l n) := by
    by_cases h : t.val % 7 = 0
    · rw [outA m c t h, rowsA m c t h]
    · rw [outB m c t h, rowsB m c t h]
  rw [key]
  refine (pay2_at _ (iblk m c 4 t) l n).trans ?_
  unfold Inproj.out
  refine Finset.sum_congr rfl fun d _ => ?_
  rw [rows_all m c t.val t.isLt l d]
  exact congrArg _ ((blk4 m c t d n).trans (v13_at m c d _))

/-- The result array. -/
def resArr (c : Dev nD) : FVec Ideal S16384x5376 .f32 := fun i =>
  Inproj.out (aX m c) (aG m c) (aSC m c) (aSH m c) (aW m c) ⟨(i 0).val, (i 0).isLt⟩ (i 1).val

/-- Every block is written once, so the result array is the specification's. -/
theorem final (c : Dev nD) : (dats m 0 c).arrAt 5 cfg0.N = resArr m c := by
  refine (dats m 0 c).arrAt_eq_of_covers 5 _ (by decide +kernel) fun t _ y => ?_
  have ht : t.val < 112 := lt_of_lt_of_eq t.isLt N_0
  have ho := out_all m c t ⟨(y 0).val, (y 0).isLt⟩ ⟨(y 1).val, (y 1).isLt⟩
  have h0 : ((win0_5.blk t).view.emb y 0).val = t.val / 7 * 1024 + (y 0).val := by blk_simp [idx t]
  have h1 : ((win0_5.blk t).view.emb y 1).val = t.val % 7 * 768 + (y 1).val := by blk_simp [idx t]
  refine Eq.trans ?_ (Eq.trans ho ?_)
  · blk_simp
    rw [after0_5]
    refine congrArg (outsAt0 m c t.val t.isLt).1 (funext fun a => ?_)
    match a with
    | ⟨0, _⟩ => rfl
    | ⟨1, _⟩ => rfl
  · refine congrArg₂ (Inproj.out (aX m c) (aG m c) (aSC m c) (aSH m c) (aW m c)) (Fin.ext ?_) h1.symm
    refine Eq.trans ?_ h0.symm
    show t.val / 7 % 16 * 1024 + (y 0).val = t.val / 7 * 1024 + (y 0).val
    omega
end Cert.Kernel3Ideal.Inproj
-- ==== Proof.InRef.lean ====
module

public import proofs.«01_k».proof.Proof.Gen.Reference3Ideal.Run
public import proofs.«01_k».proof.Proof.InSpec
public import Idealize.ShloMosaic.Lib.Pointwise
set_option maxRecDepth 16384
@[expose] public noncomputable section
open Idealize.ShloMosaic Idealize.ShloMosaic.TcCoe Idealize.SL.Sem Idealize.ShloMosaic.StableHlo
namespace Cert.Reference3Ideal.Rd
open Cert.Reference3Ideal Cert.Reference3Ideal.Gen Cert.Reference3Ideal.Value
variable (m : (ℓ : Loc nD τ sig) → Buf (Elt Ideal) ℓ)

/-- The rows as launched. -/
def aX (c : Dev nD) : Fin 16384 → Fin 2048 → EReal :=
  fun r j => (m ((c : Thread nD τ).loc main_arg0) : FVec Ideal S16384x2048 .f32) (ix2 r j)
/-- The norm's gains as launched. -/
def aG (c : Dev nD) : Fin 2048 → EReal :=
  fun j => (m ((c : Thread nD τ).loc main_arg1) : FVec Ideal S2048 .f32) (ix1 j)
/-- The modulation's scale as launched. -/
def aSC (c : Dev nD) : Fin 2048 → EReal :=
  fun j => (m ((c : Thread nD τ).loc main_arg2) : FVec Ideal S1x2048 .f32) (ix2 0 j)
/-- The modulation's shift as launched. -/
def aSH (c : Dev nD) : Fin 2048 → EReal :=
  fun j => (m ((c : Thread nD τ).loc main_arg3) : FVec Ideal S1x2048 .f32) (ix2 0 j)
/-- The weight as launched. -/
def aW (c : Dev nD) : Fin 2048 → Fin 5152 → EReal :=
  fun d j => (m ((c : Thread nD τ).loc main_arg4) : FVec Ideal S2048x5152 .f32) (ix2 d j)

/-- Rows brought to unit mean square. -/
def tNorm (x : FVec Ideal S16384x2048 .f32) : FVec Ideal S16384x2048 .f32 :=
  mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))
/-- The normalised and modulated rows. -/
def tHid (c : Dev nD) : FVec Ideal S16384x2048 .f32 :=
  addf (mulf (mulf (tNorm (m ((c.tc : Thread nD τ).loc main_arg0))) (broadcastInDim S16384x2048 ![0, 1] bcast_S1x2048_S16384x2048_0_1 (broadcastInDim S1x2048 ![1] bcast_S2048_S1x2048_1 (m ((c.tc : Thread nD τ).loc main_arg1) : FVec Ideal S2048 .f32))))
    (broadcastInDim S16384x2048 ![0, 1] bcast_S1x2048_S16384x2048_0_1 (addf (broadcastInDim S1x2048 ![] bcast_S_S1x2048 (constant S_ .f32 0x3F800000#32)) (m ((c.tc : Thread nD τ).loc main_arg2)))))
    (broadcastInDim S16384x2048 ![0, 1] bcast_S1x2048_S16384x2048_0_1 (m ((c.tc : Thread nD τ).loc main_arg3) : FVec Ideal S1x2048 .f32))
/-- The projection of the rows. -/
def tProj (c : Dev nD) : FVec Ideal S16384x5152 .f32 :=
  Host.dotGeneral (φ₁ := .f32) (φ₂ := .f32) dot_S16384x2048_S2048x5152_S16384x5152_1_0_0_1_n_n none (tHid m c) (m ((c.tc : Thread nD τ).loc main_arg4) : FVec Ideal S2048x5152 .f32)
/-- Its columns in the stored order. -/
def tCat (p : FVec Ideal S16384x5152 .f32) : FVec Ideal S16384x5376 .f32 :=
  fn_main_v30 (F := Ideal) (extractStridedSlice S16384x1024 ![0, 0] p slices_S16384x5152_S16384x1024_0_0)
    (extractStridedSlice S16384x1024 ![0, 2568] p slices_S16384x5152_S16384x1024_0_2568)
    (extractStridedSlice S16384x512 ![0, 1024] p slices_S16384x5152_S16384x512_0_1024)
    (extractStridedSlice S16384x512 ![0, 1536] p slices_S16384x5152_S16384x512_0_1536)
    (extractStridedSlice S16384x512 ![0, 2056] p slices_S16384x5152_S16384x512_0_2056)
    (extractStridedSlice S16384x1536 ![0, 3592] p slices_S16384x5152_S16384x1536_0_3592)
    (extractStridedSlice S16384x4 ![0, 2048] p slices_S16384x5152_S16384x4_0_2048)
    (extractStridedSlice S16384x4 ![0, 2052] p slices_S16384x5152_S16384x4_0_2052)
    (extractStridedSlice S16384x24 ![0, 5128] p slices_S16384x5152_S16384x24_0_5128)
    (broadcastInDim S16384x224 ![] bcast_S_S16384x224 (constant S_ .f32 0x00000000#32 : FVec Ideal S_ .f32) : FVec Ideal S16384x224 .f32)

/-- The result as the steps above. -/
theorem res_steps (c : Dev nD) : res_main_v30 m c = tCat (tProj m c) := rfl

/-- The modulated rows, entry by entry. -/
theorem hid_at (c : Dev nD) (r : Fin 16384) (d : Fin 2048) :
    tHid m c (ix2 r d) = Ffn.hid (aX m c) (aG m c) (aSC m c) (aSH m c) r d := by
  unfold Ffn.hid aX aG aSC aSH
  pointwise [tHid, tNorm, Ffn.scale]
/-- The projection, entry by entry. -/
theorem proj_at (c : Dev nD) (r : Fin 16384) (n : Fin 5152) :
    tProj m c (ix2 r n) = ∑ d, Ffn.hid (aX m c) (aG m c) (aSC m c) (aSH m c) r d * aW m c d n := by
  simp only [← hid_at]
  unfold aW
  pointwise [tProj]

/-- Two choices agree when their conditions and their branches do. -/
theorem dite_step {α : Type} {p q : Prop} [Decidable p] [Decidable q] {a : p → α} {a' : q → α} {b : ¬ p → α} {b' : ¬ q → α}
    (h : p ↔ q) (ha : ∀ hp hq, a hp = a' hq) (hb : ∀ hp hq, b hp = b' hq) : dite p a b = dite q a' b' := by
  by_cases hp : p
  · rw [dif_pos hp, dif_pos (h.mp hp)]
    exact ha hp _
  · rw [dif_neg hp, dif_neg (fun hq => hp (h.mpr hq))]
    exact hb hp _

/-- The columns in the stored order are one row of the reordered ones. -/
theorem cat_at (p : FVec Ideal S16384x5152 .f32) (w : Fin 2048 → Fin 5152 → EReal) (r : Fin 16384) (n : Fin 5376)
    (hp : ∀ (d : Fin 2048) (k : Fin 5152), w d k = p (ix2 r k)) : tCat p (ix2 r n) = Inproj.col w 0 n.val := by
  have e : ∀ (a b : ℕ) (ha : a < 5152) (hb : b < 5152), a = b → p (ix2 r ⟨a, ha⟩) = w 0 ⟨b, hb⟩ := by
    intro a b ha hb h
    subst h
    exact (hp 0 _).symm
  unfold Inproj.col
  pointwise [tCat, fn_main_v30]
  refine dite_step (by omega) (fun _ _ => e _ _ _ _ (by omega)) fun _ _ => ?_
  refine dite_step (by omega) (fun _ _ => e _ _ _ _ (by omega)) fun _ _ => ?_
  refine dite_step (by omega) (fun _ _ => e _ _ _ _ (by omega)) fun _ _ => ?_
  refine dite_step (by omega) (fun _ _ => e _ _ _ _ (by omega)) fun _ _ => ?_
  refine dite_step (by omega) (fun _ _ => e _ _ _ _ (by omega)) fun _ _ => ?_
  refine dite_step (by omega) (fun _ _ => e _ _ _ _ (by omega)) fun _ _ => ?_
  refine dite_step (by omega) (fun _ _ => e _ _ _ _ (by omega)) fun _ _ => ?_
  refine dite_step (by omega) (fun _ _ => e _ _ _ _ (by omega)) fun _ _ => ?_
  exact dite_step (by omega) (fun _ _ => e _ _ _ _ (by omega)) fun _ _ => rfl

/-- The sum over a reordered weight is the reordered sum. -/
theorem sum_col (f : Fin 2048 → EReal) (W : Fin 2048 → Fin 5152 → EReal) (d₀ : Fin 2048) (n : ℕ) :
    Inproj.col (fun _ k => ∑ d, f d * W d k) d₀ n = ∑ d, f d * Inproj.col W d n := by
  unfold Inproj.col
  by_cases h0 : n < 1024
  · simp only [dif_pos h0]
  simp only [dif_neg h0]
  by_cases h1 : n < 2048
  · simp only [dif_pos h1]
  simp only [dif_neg h1]
  by_cases h2 : n < 2560
  · simp only [dif_pos h2]
  simp only [dif_neg h2]
  by_cases h3 : n < 3072
  · simp only [dif_pos h3]
  simp only [dif_neg h3]
  by_cases h4 : n < 3584
  · simp only [dif_pos h4]
  simp only [dif_neg h4]
  by_cases h5 : n < 5120
  · simp only [dif_pos h5]
  simp only [dif_neg h5]
  by_cases h6 : n < 5124
  · simp only [dif_pos h6]
  simp only [dif_neg h6]
  by_cases h7 : n < 5128
  · simp only [dif_pos h7]
  simp only [dif_neg h7]
  by_cases h8 : n < 5152
  · simp only [dif_pos h8]
  simp only [dif_neg h8]
  simp only [mul_zero, Finset.sum_const_zero]

/-- The reference's result, entry by entry. -/
theorem res_at (c : Dev nD) (r : Fin 16384) (n : Fin 5376) : (res_main_v30 m c : FVec Ideal S16384x5376 .f32) (ix2 r n)
    = Inproj.out (aX m c) (aG m c) (aSC m c) (aSH m c) (aW m c) r n.val := by
  rw [res_steps]
  refine (cat_at (tProj m c) (fun _ k => ∑ d, Ffn.hid (aX m c) (aG m c) (aSC m c) (aSH m c) r d * aW m c d k) r n
    fun _ k => (proj_at m c r k).symm).trans ?_
  exact sum_col _ _ 0 n.val
end Cert.Reference3Ideal.Rd
-- ==== Proof.InClaims.lean ====
module

public import proofs.«01_k».proof.Defs
public import proofs.«01_k».proof.Proof.Gen.Kernel3.Frame
public import proofs.«01_k».proof.Proof.InVal
public import proofs.«01_k».proof.Proof.InRef
public import Idealize.ShloMosaic.Lib.Quiescent

/-! # The claims about the input projection -/

set_option maxRecDepth 16384

@[expose] public noncomputable section

open Idealize.ShloMosaic Idealize.ShloMosaic.TcCoe Idealize.SL.Sem Idealize.ShloMosaic.StableHlo

namespace Cert.Proof.Inproj

/-- The reference's result is the kernel's result array when the arguments agree. -/
theorem same_result (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (hX : Cert.Reference3Ideal.Rd.aX m' c = Cert.Kernel3Ideal.Inproj.aX m c)
    (hG : Cert.Reference3Ideal.Rd.aG m' c = Cert.Kernel3Ideal.Inproj.aG m c)
    (hSC : Cert.Reference3Ideal.Rd.aSC m' c = Cert.Kernel3Ideal.Inproj.aSC m c)
    (hSH : Cert.Reference3Ideal.Rd.aSH m' c = Cert.Kernel3Ideal.Inproj.aSH m c)
    (hW : Cert.Reference3Ideal.Rd.aW m' c = Cert.Kernel3Ideal.Inproj.aW m c) :
    Cert.Reference3Ideal.Value.res_main_v30 m' c = Cert.Kernel3Ideal.Inproj.resArr m c := by
  funext i
  idx_vars i
  refine (Cert.Reference3Ideal.Rd.res_at m' c i0 i1).trans ?_
  rw [hX, hG, hSC, hSH, hW]
  rfl

/-- The kernel's frame. -/
theorem frame_p : Cert.quiescent_Kernel3 (hKernel3 := Cert.Kernel3.Gen.facts) := fun m ρ _ => Cert.Kernel3.Gen.frame m ρ
/-- The idealized kernel's frame. -/
theorem frame_pi : Cert.quiescent_Kernel3Ideal (hKernel3Ideal := Cert.Kernel3Ideal.Gen.facts) := fun m ρ _ => Cert.Kernel3Ideal.Gen.frame m ρ
/-- The reference's frame: it declares no semaphore. -/
theorem frame_ri : Cert.quiescent_Reference3Ideal (hReference3Ideal := Cert.Reference3Ideal.Gen.facts) := fun m ρ _ =>
  (θ_run _ _ _).mono (fun r h => ⟨fun c => (h c).2, sem_eq_zero_of_no_sems rfl r.2⟩) (Cert.Reference3Ideal.Value.run m ρ)
/-- The idealized kernel and the reference end with the same result. -/
theorem algebraic : Cert.algebraic_Kernel3Ideal_Reference3Ideal (hKernel3Ideal := Cert.Kernel3Ideal.Gen.facts)
    (hReference3Ideal := Cert.Reference3Ideal.Gen.facts) := fun m ρ m' ρ' _ hag =>
  ⟨fun c => Cert.Kernel3Ideal.Inproj.resArr m c,
    (θ_run _ _ _).mono (fun r h c => ⟨(h c).1.trans (Cert.Kernel3Ideal.Inproj.final m c), (h c).2⟩) (Cert.Kernel3Ideal.Value.run_blocks m ρ),
    (θ_run _ _ _).mono (fun r h c => by
      obtain ⟨h0, h1, h2, h3, h4⟩ := hag c
      exact ⟨(h c).1.trans (same_result m m' c (funext fun i => funext fun j => congrFun h0 (ix2 i j)) (funext fun j => congrFun h1 (ix1 j))
        (funext fun j => congrFun h2 (ix2 0 j)) (funext fun j => congrFun h3 (ix2 0 j))
        (funext fun i => funext fun j => congrFun h4 (ix2 i j))), (h c).2⟩)
      (Cert.Reference3Ideal.Value.run m' ρ')⟩

end Cert.Proof.Inproj

end
-- ==== Proof.OutSpec.lean ====
module

public import proofs.«01_k».proof.Proof.FfnSpec
@[expose] public noncomputable section
open Idealize.ShloMosaic

/-! # The end of the mixer in real arithmetic

The values both programs compute: the scan's output with its skip term, the activation and the gated unit; the output
projection of the three groups side by side; and the normalised, gated residual. -/

namespace Cert.Outproj

section Spec
variable (YM : Fin 16384 → Fin 512 → EReal) (Y5 : Fin 4 → Fin 16384 → Fin 128 → EReal) (U : Fin 16384 → Fin 512 → EReal)
variable (D : Fin 512 → EReal) (WG : Fin 512 → Fin 512 → EReal) (BG : Fin 512 → EReal) (YN : Fin 16384 → Fin 1024 → EReal)
variable (W : Fin 2048 → Fin 2048 → EReal) (X : Fin 16384 → Fin 2048 → EReal) (G GT : Fin 2048 → EReal)

/-- The scan's output with its skip term, after the activation. -/
def act (r : Fin 16384) (n : Fin 512) : EReal :=
  Ffn.act (Y5 ⟨n.val / 128, by omega⟩ r ⟨n.val % 128, by omega⟩ + D n * U r n)
/-- The gated unit. -/
def glu (r : Fin 16384) (n : Fin 512) : EReal :=
  act Y5 U D r n * Ideal.logistic ((∑ k, act Y5 U D r k * WG k n) + BG n)
/-- The output projection of the three groups. -/
def mix (r : Fin 16384) (k : Fin 2048) : EReal :=
  (∑ n : Fin 512, YM r n * W ⟨n.val, by omega⟩ k) + (∑ n : Fin 512, glu Y5 U D WG BG r n * W ⟨512 + n.val, by omega⟩ k)
    + ∑ n : Fin 1024, YN r n * W ⟨1024 + n.val, by omega⟩ k
/-- The normalised, gated residual. -/
def out (r : Fin 16384) (k : Fin 2048) : EReal :=
  X r k + GT k * (mix YM Y5 U D WG BG YN W r k * Ffn.scale (mix YM Y5 U D WG BG YN W r) * G k)
end Spec

/-- Row `l` of row block `i`. -/
def row (i : ℕ) (l : Fin 512) : Fin 16384 := ⟨i % 32 * 512 + l.val, by omega⟩

end Cert.Outproj

end
-- ==== Proof.OutVal.lean ====
module

public import proofs.«01_k».proof.Proof.Gen.Kernel4Ideal.Value
public import proofs.«01_k».proof.Proof.OutSpec
public import Idealize.ShloMosaic.Lib.Pointwise
public import Idealize.ShloMosaic.Lib.Pipeline.ValueKit
public import Idealize.ShloMosaic.Lib.WritesUnit
public import Idealize.ShloMosaic.Lib.Pipeline.ReadBack
set_option maxRecDepth 16384
@[expose] public noncomputable section
open Idealize.ShloMosaic Idealize.ShloMosaic.TcCoe Idealize.SL.Sem
open Idealize.ShloMosaic.Pipeline (Dat)
namespace Cert.Kernel4Ideal.Outproj
open Cert.Kernel4Ideal Cert.Kernel4Ideal.Gen
variable (m : (ℓ : Loc nD τ sig) → Buf (Elt Ideal) ℓ)

/-- The first group's rows as launched. -/
def aYM (c : Dev nD) : Fin 16384 → Fin 512 → EReal :=
  fun i j => (m ((c : Thread nD τ).loc main_arg0) : FVec Ideal S16384x512 .bf16) (ix2 i j)
/-- The scan's output as launched. -/
def aY5 (c : Dev nD) : Fin 4 → Fin 16384 → Fin 128 → EReal :=
  fun i j k => (m ((c : Thread nD τ).loc main_arg1) : FVec Ideal S4x16384x128 .f32) (ix3 i j k)
/-- The skip's weights as launched. -/
def aD (c : Dev nD) : Fin 512 → EReal :=
  fun i => (m ((c : Thread nD τ).loc main_arg3) : FVec Ideal S512 .f32) (ix1 i)
/-- The gated unit's weight as launched. -/
def aWG (c : Dev nD) : Fin 512 → Fin 512 → EReal :=
  fun i j => (m ((c : Thread nD τ).loc main_arg4) : FVec Ideal S512x512 .f32) (ix2 i j)
/-- The gated unit's bias as launched. -/
def aBG (c : Dev nD) : Fin 512 → EReal :=
  fun i => (m ((c : Thread nD τ).loc main_arg5) : FVec Ideal S512 .f32) (ix1 i)
/-- The third group's rows as launched. -/
def aYN (c : Dev nD) : Fin 16384 → Fin 1024 → EReal :=
  fun i j => (m ((c : Thread nD τ).loc main_arg6) : FVec Ideal S16384x1024 .bf16) (ix2 i j)
/-- The output projection as launched. -/
def aW (c : Dev nD) : Fin 2048 → Fin 2048 → EReal :=
  fun i j => (m ((c : Thread nD τ).loc main_arg7) : FVec Ideal S2048x2048 .f32) (ix2 i j)
/-- The residual's rows as launched. -/
def aX (c : Dev nD) : Fin 16384 → Fin 2048 → EReal :=
  fun i j => (m ((c : Thread nD τ).loc main_arg8) : FVec Ideal S16384x2048 .f32) (ix2 i j)
/-- The norm's gains as launched. -/
def aG (c : Dev nD) : Fin 2048 → EReal :=
  fun i => (m ((c : Thread nD τ).loc main_arg9) : FVec Ideal S2048 .f32) (ix1 i)
/-- The scan's input, columns 3072 to 3583 of the projection as launched. -/
def aU (c : Dev nD) : Fin 16384 → Fin 512 → EReal :=
  fun i j => (m ((c : Thread nD τ).loc main_arg2) : FVec Ideal S16384x5376 .f32) (ix2 i ⟨3072 + j.val, by omega⟩)
/-- The residual's gate as launched. -/
def aGT (c : Dev nD) : Fin 2048 → EReal :=
  fun j => (m ((c : Thread nD τ).loc main_arg10) : FVec Ideal S1x2048 .f32) (ix2 0 j)

/-- Where each window's block of each point lies, decided over the grid. -/
theorem idx : ∀ t : Fin cfg0.N, win0_0.index t = ![t.val, 0] ∧ win0_1.index t = ![0, t.val, 0] ∧ win0_2.index t = ![t.val, 6]
    ∧ win0_3.index t = ![0, 0] ∧ win0_4.index t = ![0, 0] ∧ win0_5.index t = ![0, 0] ∧ win0_6.index t = ![t.val, 0]
    ∧ win0_7.index t = ![0, 0] ∧ win0_8.index t = ![t.val, 0] ∧ win0_9.index t = ![0, 0] ∧ win0_10.index t = ![0, 0]
    ∧ win0_11.index t = ![t.val, 0] :=
  (by decide +kernel : ∀ t : Fin grid0.N, _)

/-- The skip's weights as the blocks find them. -/
theorem v0_at (c : Dev nD) (j : Fin 512) : (V m c main_v0 : FVec Ideal S1x512 .f32) (ix2 0 j) = aD m c j := by
  unfold aD
  entry_read
  pointwise
/-- The gated unit's weight as the blocks find it. -/
theorem v1_at (c : Dev nD) (i j : Fin 512) : (V m c main_v1 : FVec Ideal S512x512 .bf16) (ix2 i j) = aWG m c i j := by
  unfold aWG
  entry_read
  pointwise
/-- The gated unit's bias as the blocks find it. -/
theorem v2_at (c : Dev nD) (j : Fin 512) : (V m c main_v2 : FVec Ideal S1x512 .f32) (ix2 0 j) = aBG m c j := by
  unfold aBG
  entry_read
  pointwise
/-- The output projection as the blocks find it. -/
theorem v3_at (c : Dev nD) (i j : Fin 2048) : (V m c main_v3 : FVec Ideal S2048x2048 .bf16) (ix2 i j) = aW m c i j := by
  unfold aW
  entry_read
  pointwise
/-- The norm's gains as the blocks find them. -/
theorem v4_at (c : Dev nD) (j : Fin 2048) : (V m c main_v4 : FVec Ideal S1x2048 .f32) (ix2 0 j) = aG m c j := by
  unfold aG
  entry_read
  pointwise
/-- A row block of the first group. -/
theorem blk0 (c : Dev nD) (t : Fin cfg0.N) (l n : Fin 512) :
    (iblk m c 0 t : Vec Ideal S512x512 .bf16) (ix2 l n) = aYM m c (Outproj.row t.val l) n := by
  unfold aYM Outproj.row
  have ht : t.val < 32 := lt_of_lt_of_eq t.isLt N_0
  blk_ext [iblk, V, idx t]
/-- A row block of the scan's output. -/
theorem blk1 (c : Dev nD) (t : Fin cfg0.N) (o : Fin 4) (l : Fin 512) (e : Fin 128) :
    (iblk m c 1 t : Vec Ideal S4x512x128 .f32) (ix3 o l e) = aY5 m c o (Outproj.row t.val l) e := by
  unfold aY5 Outproj.row
  have ht : t.val < 32 := lt_of_lt_of_eq t.isLt N_0
  blk_ext [iblk, V, idx t]
/-- A row block of the scan's input. -/
theorem blk2 (c : Dev nD) (t : Fin cfg0.N) (l n : Fin 512) : (X0_2 m c t : Vec Ideal S512x512 .f32) (ix2 l n) = aU m c (Outproj.row t.val l) n := by
  unfold aU Outproj.row
  have ht : t.val < 32 := lt_of_lt_of_eq t.isLt N_0
  unfold X0_2 Pipeline.Window.fill
  rw [dif_pos (moved0_2 t _)]
  blk_ext [iblk, V, idx t]
/-- The skip's weights, the same at every point. -/
theorem blk3 (c : Dev nD) (t : Fin cfg0.N) (j : Fin 512) :
    (iblk m c 3 t : Vec Ideal S1x512 .f32) (ix2 0 j) = aD m c j := by
  refine Eq.trans (b := V m c main_v0 (ix2 0 j)) ?_ (v0_at m c _)
  blk_ext [iblk, idx t]
/-- The gated unit's weight, the same at every point. -/
theorem blk4 (c : Dev nD) (t : Fin cfg0.N) (i j : Fin 512) :
    (iblk m c 4 t : Vec Ideal S512x512 .bf16) (ix2 i j) = aWG m c i j := by
  refine Eq.trans (b := V m c main_v1 (ix2 i j)) ?_ (v1_at m c _ _)
  blk_ext [iblk, idx t]
/-- The gated unit's bias, the same at every point. -/
theorem blk5 (c : Dev nD) (t : Fin cfg0.N) (j : Fin 512) :
    (iblk m c 5 t : Vec Ideal S1x512 .f32) (ix2 0 j) = aBG m c j := by
  refine Eq.trans (b := V m c main_v2 (ix2 0 j)) ?_ (v2_at m c _)
  blk_ext [iblk, idx t]
/-- A row block of the third group. -/
theorem blk6 (c : Dev nD) (t : Fin cfg0.N) (l : Fin 512) (n : Fin 1024) :
    (iblk m c 6 t : Vec Ideal S512x1024 .bf16) (ix2 l n) = aYN m c (Outproj.row t.val l) n := by
  unfold aYN Outproj.row
  have ht : t.val < 32 := lt_of_lt_of_eq t.isLt N_0
  blk_ext [iblk, V, idx t]
/-- The output projection, the same at every point. -/
theorem blk7 (c : Dev nD) (t : Fin cfg0.N) (i j : Fin 2048) :
    (iblk m c 7 t : Vec Ideal S2048x2048 .bf16) (ix2 i j) = aW m c i j := by
  refine Eq.trans (b := V m c main_v3 (ix2 i j)) ?_ (v3_at m c _ _)
  blk_ext [iblk, idx t]
/-- A row block of the residual. -/
theorem blk8 (c : Dev nD) (t : Fin cfg0.N) (l : Fin 512) (j : Fin 2048) :
    (iblk m c 8 t : Vec Ideal S512x2048 .f32) (ix2 l j) = aX m c (Outproj.row t.val l) j := by
  unfold aX Outproj.row
  have ht : t.val < 32 := lt_of_lt_of_eq t.isLt N_0
  blk_ext [iblk, V, idx t]
/-- The norm's gains, the same at every point. -/
theorem blk9 (c : Dev nD) (t : Fin cfg0.N) (j : Fin 2048) :
    (iblk m c 9 t : Vec Ideal S1x2048 .f32) (ix2 0 j) = aG m c j := by
  refine Eq.trans (b := V m c main_v4 (ix2 0 j)) ?_ (v4_at m c _)
  blk_ext [iblk, idx t]
/-- The residual's gate, the same at every point. -/
theorem blk10 (c : Dev nD) (t : Fin cfg0.N) (j : Fin 2048) :
    (iblk m c 10 t : Vec Ideal S1x2048 .f32) (ix2 0 j) = aGT m c j := by
  unfold aGT
  have ht : t.val < 32 := lt_of_lt_of_eq t.isLt N_0
  blk_ext [iblk, V, idx t]

/-- Two choices agree when their conditions and their branches do. -/
theorem dite_step {α : Type} {p q : Prop} [Decidable p] [Decidable q] {a : p → α} {a' : q → α} {b : ¬ p → α} {b' : ¬ q → α}
    (h : p ↔ q) (ha : ∀ hp hq, a hp = a' hq) (hb : ∀ hp hq, b hp = b' hq) : dite p a b = dite q a' b' := by
  by_cases hp : p
  · rw [dif_pos hp, dif_pos (h.mp hp)]
    exact ha hp _
  · rw [dif_neg hp, dif_neg (fun hq => hp (h.mpr hq))]
    exact hb hp _

/-- Four blocks side by side, entry by entry. -/
theorem cat_at (v0 v1 v2 v3 : FVec Ideal S512x128 .f32) (f : Fin 4 → Fin 512 → Fin 128 → EReal)
    (h0 : ∀ l e, v0 (ix2 l e) = f 0 l e) (h1 : ∀ l e, v1 (ix2 l e) = f 1 l e) (h2 : ∀ l e, v2 (ix2 l e) = f 2 l e)
    (h3 : ∀ l e, v3 (ix2 l e) = f 3 l e) (l n : Fin 512) :
    (concatenate S512x512 1 [⟨S512x128, v0⟩, ⟨S512x128, v1⟩, ⟨S512x128, v2⟩, ⟨S512x128, v3⟩]
      concatenates_S512x128_S512x128_S512x128_S512x128_S512x512_d1 : FVec Ideal S512x512 .f32) (ix2 l n)
      = f ⟨n.val / 128, by omega⟩ l ⟨n.val % 128, by omega⟩ := by
  have e : ∀ (a a' : Fin 4) (b b' : Fin 128), a.val = a'.val → b.val = b'.val → f a l b = f a' l b' := by
    intro a a' b b' ha hb
    rw [Fin.ext ha, Fin.ext hb]
  pointwise
  by_cases c0 : n.val < 128
  · rw [dif_pos c0, h0]
    exact e _ _ _ _ (by dsimp only; omega) (by dsimp only; omega)
  rw [dif_neg c0]
  by_cases c1 : n.val - 128 < 128
  · rw [dif_pos c1, h1]
    exact e _ _ _ _ (by dsimp only; omega) (by dsimp only; omega)
  rw [dif_neg c1]
  by_cases c2 : n.val - 128 - 128 < 128
  · rw [dif_pos c2, h2]
    exact e _ _ _ _ (by dsimp only; omega) (by dsimp only; omega)
  rw [dif_neg c2, h3]
  exact e _ _ _ _ (by dsimp only; omega) (by dsimp only; omega)

section Payload
variable (x1 : FVec Ideal S4x512x128 .f32) (x2 : FVec Ideal S512x512 .f32) (x3 x5 : FVec Ideal S1x512 .f32)
variable (x0 x4 : FVec Ideal S512x512 .bf16) (x6 : FVec Ideal S512x1024 .bf16) (x7 : FVec Ideal S2048x2048 .bf16)
variable (x8 : FVec Ideal S512x2048 .f32) (x9 x10 : FVec Ideal S1x2048 .f32)

/-- The activated rows of a block. -/
def actB : FVec Ideal S512x512 .f32 :=
  k0_pay1 (View.ld (Val := Elt Ideal) (e' := .f32) x1 (Rect.unit ![0, 0, 0] ![1, 512, 128] inb_S4x512x128_S1x512x128_0_0_0))
    (View.ld (Val := Elt Ideal) (e' := .f32) x1 (Rect.unit ![1, 0, 0] ![1, 512, 128] inb_S4x512x128_S1x512x128_1_0_0))
    (View.ld (Val := Elt Ideal) (e' := .f32) x1 (Rect.unit ![2, 0, 0] ![1, 512, 128] inb_S4x512x128_S1x512x128_2_0_0))
    (View.ld (Val := Elt Ideal) (e' := .f32) x1 (Rect.unit ![3, 0, 0] ![1, 512, 128] inb_S4x512x128_S1x512x128_3_0_0)) x3 x2
/-- The activated rows times the gated unit's weight. -/
def gateB : FVec Ideal S512x512 .f32 :=
  k0_pay2 (View.ld (Val := Elt Ideal) (e' := .f32) x1 (Rect.unit ![0, 0, 0] ![1, 512, 128] inb_S4x512x128_S1x512x128_0_0_0))
    (View.ld (Val := Elt Ideal) (e' := .f32) x1 (Rect.unit ![1, 0, 0] ![1, 512, 128] inb_S4x512x128_S1x512x128_1_0_0))
    (View.ld (Val := Elt Ideal) (e' := .f32) x1 (Rect.unit ![2, 0, 0] ![1, 512, 128] inb_S4x512x128_S1x512x128_2_0_0))
    (View.ld (Val := Elt Ideal) (e' := .f32) x1 (Rect.unit ![3, 0, 0] ![1, 512, 128] inb_S4x512x128_S1x512x128_3_0_0)) x3 x2 x4
/-- What a point stores. -/
def outB : FVec Ideal S512x2048 .f32 :=
  k0_pay4 (actB x1 x2 x3) (gateB x1 x2 x3 x4) (k0_pay3 x5) x0
    (View.ld (Val := Elt Ideal) (e' := .bf16) x7 (Rect.unit ![0, 0] ![512, 2048] inb_S2048x2048_S512x2048_0_0))
    (View.ld (Val := Elt Ideal) (e' := .bf16) x7 (Rect.unit ![512, 0] ![512, 2048] inb_S2048x2048_S512x2048_512_0)) x6
    (View.ld (Val := Elt Ideal) (e' := .bf16) x7 (Rect.unit ![1024, 0] ![1024, 2048] inb_S2048x2048_S1024x2048_1024_0)) x8 x10 x9

/-- The payload's activation of four slices side by side, entry by entry. -/
theorem pay1_at (v0 v1 v2 v3 : FVec Ideal S1x512x128 .f32) (f : Fin 4 → Fin 512 → Fin 128 → EReal)
    (h0 : ∀ l e, v0 (ix3 0 l e) = f 0 l e) (h1 : ∀ l e, v1 (ix3 0 l e) = f 1 l e) (h2 : ∀ l e, v2 (ix3 0 l e) = f 2 l e)
    (h3 : ∀ l e, v3 (ix3 0 l e) = f 3 l e) (l n : Fin 512) : (k0_pay1 (F := Ideal) v0 v1 v2 v3 x3 x2 : FVec Ideal S512x512 .f32) (ix2 l n)
      = Ffn.act (f ⟨n.val / 128, by omega⟩ l ⟨n.val % 128, by omega⟩ + x3 (ix2 0 n) * x2 (ix2 l n)) := by
  have hc := cat_at (shapeCast S512x128 v0 shapeCasts_S1x512x128_S512x128) (shapeCast S512x128 v1 shapeCasts_S1x512x128_S512x128)
    (shapeCast S512x128 v2 shapeCasts_S1x512x128_S512x128) (shapeCast S512x128 v3 shapeCasts_S1x512x128_S512x128) f
    (fun l e => by rw [← h0]; pointwise) (fun l e => by rw [← h1]; pointwise) (fun l e => by rw [← h2]; pointwise)
    (fun l e => by rw [← h3]; pointwise) l n
  rw [← hc]
  unfold k0_pay1
  generalize concatenate S512x512 1 _ _ = w
  pointwise [Ffn.act]
/-- The activated rows of a block, entry by entry. -/
theorem actB_at (l n : Fin 512) : actB x1 x2 x3 (ix2 l n)
    = Ffn.act (x1 (ix3 ⟨n.val / 128, by omega⟩ l ⟨n.val % 128, by omega⟩) + x3 (ix2 0 n) * x2 (ix2 l n)) := by
  have e : ∀ (o : ℕ) (ho : o < 4) (inb) (l : Fin 512) (e : Fin 128),
      (View.ld (Val := Elt Ideal) (e' := .f32) x1 (Rect.unit ![o, 0, 0] ![1, 512, 128] inb) : FVec Ideal S1x512x128 .f32) (ix3 0 l e) = x1 (ix3 ⟨o, ho⟩ l e) := by
    intro o ho inb l e
    refine View.ld_unit_apply_of (Val := Elt Ideal) (e := .f32) x1 _ _ _ _ (ix3 ⟨o, ho⟩ l e) fun a => ?_
    match a with
    | ⟨0, _⟩ => rfl
    | ⟨1, _⟩ => exact (Nat.zero_add _).symm
    | ⟨2, _⟩ => exact (Nat.zero_add _).symm
  exact pay1_at x2 x3 _ _ _ _ (fun o l e => x1 (ix3 o l e)) (e 0 (by omega) _) (e 1 (by omega) _) (e 2 (by omega) _) (e 3 (by omega) _) l n
/-- The activated rows times the gated unit's weight, entry by entry. -/
theorem gateB_at (l n : Fin 512) : gateB x1 x2 x3 x4 (ix2 l n) = ∑ k : Fin 512, actB x1 x2 x3 (ix2 l k) * x4 (ix2 k n) := by
  unfold gateB k0_pay2
  rw [show k0_pay1 _ _ _ _ x3 x2 = actB x1 x2 x3 from rfl]
  generalize actB x1 x2 x3 = w
  pointwise
/-- The mixed rows of a block from the gated unit and the three slices of the projection. -/
theorem pay4_at (a g : FVec Ideal S512x512 .f32) (wm ws : FVec Ideal S512x2048 .bf16) (wn : FVec Ideal S1024x2048 .bf16)
    (y : Fin 512 → Fin 2048 → EReal)
    (hy : ∀ l k, y l k = (∑ n : Fin 512, x0 (ix2 l n) * wm (ix2 n k))
      + (∑ n : Fin 512, a (ix2 l n) * Ideal.logistic (g (ix2 l n) + x5 (ix2 0 n)) * ws (ix2 n k)) + ∑ n : Fin 1024, x6 (ix2 l n) * wn (ix2 n k))
    (l : Fin 512) (k : Fin 2048) : k0_pay4 a g (k0_pay3 x5) x0 wm ws x6 wn x8 x10 x9 (ix2 l k)
      = x8 (ix2 l k) + x10 (ix2 0 k) * (y l k * Ffn.scale (y l) * x9 (ix2 0 k)) := by
  unfold Ffn.scale
  simp only [hy]
  pointwise [k0_pay4, k0_pay3]
/-- A slice of rows of the projection, entry by entry. -/
theorem rows_at (o h : ℕ) (ho : o + h ≤ 2048) (inb) (n : Fin h) (k : Fin 2048) :
    (View.ld (Val := Elt Ideal) (e' := .bf16) x7 (Rect.unit ![o, 0] ![h, 2048] inb) : FVec Ideal ⟨2, ![h, 2048]⟩ .bf16) (ix2 n k) = x7 (ix2 ⟨o + n.val, by omega⟩ k) := by
  refine View.ld_unit_apply_of (Val := Elt Ideal) (e := .bf16) x7 _ _ _ _ (ix2 (⟨o + n.val, by omega⟩ : Fin 2048) k) fun a => ?_
  match a with
  | ⟨0, _⟩ => rfl
  | ⟨1, _⟩ => exact (Nat.zero_add _).symm
end Payload

/-- What a point stores, as the payload of its blocks. -/
theorem out_eq (c : Dev nD) (t : Fin cfg0.N) : outsAt0 m c t = outB (iblk m c 1 t) (X0_2 m c t) (iblk m c 3 t) (iblk m c 5 t)
    (iblk m c 0 t) (iblk m c 4 t) (iblk m c 6 t) (iblk m c 7 t) (iblk m c 8 t) (iblk m c 9 t) (iblk m c 10 t) := by
  unfold outsAt0
  generalize iblk m c 0 t = x0
  generalize iblk m c 1 t = x1
  generalize X0_2 m c t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  frame_out
  rfl

/-- The activated rows of a point's block. -/
theorem act_all (c : Dev nD) (t : Fin cfg0.N) (l n : Fin 512) : actB (iblk m c 1 t) (X0_2 m c t) (iblk m c 3 t) (ix2 l n)
    = Outproj.act (aY5 m c) (aU m c) (aD m c) (Outproj.row t.val l) n := by
  unfold Outproj.act
  rw [actB_at, blk1, blk2, blk3]
/-- The gated unit of a point's block. -/
theorem glu_all (c : Dev nD) (t : Fin cfg0.N) (l n : Fin 512) : actB (iblk m c 1 t) (X0_2 m c t) (iblk m c 3 t) (ix2 l n)
      * Ideal.logistic (gateB (iblk m c 1 t) (X0_2 m c t) (iblk m c 3 t) (iblk m c 4 t) (ix2 l n) + (iblk m c 5 t : FVec Ideal S1x512 .f32) (ix2 0 n))
    = Outproj.glu (aY5 m c) (aU m c) (aD m c) (aWG m c) (aBG m c) (Outproj.row t.val l) n := by
  unfold Outproj.glu
  have hg := gateB_at (iblk m c 1 t) (X0_2 m c t) (iblk m c 3 t) (iblk m c 4 t) l n
  simp only [act_all, blk4] at hg
  rw [hg, act_all, blk5]
/-- Every point stores the specification's rows. -/
theorem out_all (c : Dev nD) (t : Fin cfg0.N) (l : Fin 512) (k : Fin 2048) : (outsAt0 m c t : FVec Ideal S512x2048 .f32) (ix2 l k)
    = Outproj.out (aYM m c) (aY5 m c) (aU m c) (aD m c) (aWG m c) (aBG m c) (aYN m c) (aW m c) (aX m c) (aG m c) (aGT m c) (Outproj.row t.val l) k := by
  rw [out_eq]
  unfold outB
  refine (pay4_at (iblk m c 5 t) (iblk m c 0 t) (iblk m c 6 t) (iblk m c 8 t) (iblk m c 9 t) (iblk m c 10 t) _ _ _ _ _
    (fun l k => Outproj.mix (aYM m c) (aY5 m c) (aU m c) (aD m c) (aWG m c) (aBG m c) (aYN m c) (aW m c) (Outproj.row t.val l) k) (fun l k => ?_) l k).trans ?_
  · unfold Outproj.mix
    refine congrArg₂ _ (congrArg₂ _ (Finset.sum_congr rfl fun n _ => ?_) (Finset.sum_congr rfl fun n _ => ?_)) (Finset.sum_congr rfl fun n _ => ?_)
    · rw [blk0]
      refine congrArg _ (((rows_at _ 0 512 (by omega) _ n k).trans (blk7 m c t _ k)).trans ?_).symm
      exact congrArg (fun z => aW m c z k) (Fin.ext (Nat.zero_add _))
    · rw [glu_all]
      exact congrArg _ ((rows_at _ 512 512 (by omega) _ n k).trans (blk7 m c t _ k)).symm
    · rw [blk6]
      exact congrArg _ ((rows_at _ 1024 1024 (by omega) _ n k).trans (blk7 m c t _ k)).symm
  · unfold Outproj.out
    rw [blk8, blk9, blk10]

/-- The result array. -/
def resArr (c : Dev nD) : FVec Ideal S16384x2048 .f32 := fun i =>
  Outproj.out (aYM m c) (aY5 m c) (aU m c) (aD m c) (aWG m c) (aBG m c) (aYN m c) (aW m c) (aX m c) (aG m c) (aGT m c)
    ⟨(i 0).val, (i 0).isLt⟩ ⟨(i 1).val, (i 1).isLt⟩

/-- Every block is written once, so the result array is the specification's. -/
theorem final (c : Dev nD) : (dats m 0 c).arrAt 11 cfg0.N = resArr m c := by
  refine (dats m 0 c).arrAt_eq_of_covers 11 _ (by decide +kernel) fun t _ y => ?_
  have ht : t.val < 32 := lt_of_lt_of_eq t.isLt N_0
  have ho := out_all m c t ⟨(y 0).val, (y 0).isLt⟩ ⟨(y 1).val, (y 1).isLt⟩
  have h0 : ((win0_11.blk t).view.emb y 0).val = t.val * 512 + (y 0).val := by blk_simp [idx t]
  have h1 : ((win0_11.blk t).view.emb y 1).val = (y 1).val := by blk_simp [idx t]
  refine Eq.trans ?_ (Eq.trans ho ?_)
  · blk_simp
    rw [after0_11]
    refine congrArg (outsAt0 m c t) (funext fun a => ?_)
    match a with
    | ⟨0, _⟩ => rfl
    | ⟨1, _⟩ => rfl
  · refine congrArg₂ (Outproj.out (aYM m c) (aY5 m c) (aU m c) (aD m c) (aWG m c) (aBG m c) (aYN m c) (aW m c) (aX m c) (aG m c) (aGT m c))
      (Fin.ext ?_) (Fin.ext h1.symm)
    refine Eq.trans ?_ h0.symm
    show t.val % 32 * 512 + (y 0).val = t.val * 512 + (y 0).val
    omega
end Cert.Kernel4Ideal.Outproj
-- ==== Proof.OutRef.lean ====
module

public import proofs.«01_k».proof.Proof.Gen.Reference4Ideal.Run
public import proofs.«01_k».proof.Proof.OutSpec
public import Idealize.ShloMosaic.Lib.Pointwise
public import Idealize.ShloMosaic.Lib.KernelVsHost
set_option maxRecDepth 16384
@[expose] public noncomputable section
open Idealize.ShloMosaic Idealize.ShloMosaic.TcCoe Idealize.SL.Sem Idealize.ShloMosaic.StableHlo
namespace Cert.Reference4Ideal.Rd
open Cert.Reference4Ideal Cert.Reference4Ideal.Gen Cert.Reference4Ideal.Value
variable (m : (ℓ : Loc nD τ sig) → Buf (Elt Ideal) ℓ)

/-- The first group's rows as launched. -/
def aYM (c : Dev nD) : Fin 16384 → Fin 512 → EReal :=
  fun i j => (m ((c : Thread nD τ).loc main_arg0) : FVec Ideal S16384x512 .bf16) (ix2 i j)
/-- The scan's output as launched. -/
def aY5 (c : Dev nD) : Fin 4 → Fin 16384 → Fin 128 → EReal :=
  fun i j k => (m ((c : Thread nD τ).loc main_arg1) : FVec Ideal S4x16384x128 .f32) (ix3 i j k)
/-- The skip's weights as launched. -/
def aD (c : Dev nD) : Fin 512 → EReal :=
  fun i => (m ((c : Thread nD τ).loc main_arg3) : FVec Ideal S512 .f32) (ix1 i)
/-- The gated unit's weight as launched. -/
def aWG (c : Dev nD) : Fin 512 → Fin 512 → EReal :=
  fun i j => (m ((c : Thread nD τ).loc main_arg4) : FVec Ideal S512x512 .f32) (ix2 i j)
/-- The gated unit's bias as launched. -/
def aBG (c : Dev nD) : Fin 512 → EReal :=
  fun i => (m ((c : Thread nD τ).loc main_arg5) : FVec Ideal S512 .f32) (ix1 i)
/-- The third group's rows as launched. -/
def aYN (c : Dev nD) : Fin 16384 → Fin 1024 → EReal :=
  fun i j => (m ((c : Thread nD τ).loc main_arg6) : FVec Ideal S16384x1024 .bf16) (ix2 i j)
/-- The output projection as launched. -/
def aW (c : Dev nD) : Fin 2048 → Fin 2048 → EReal :=
  fun i j => (m ((c : Thread nD τ).loc main_arg7) : FVec Ideal S2048x2048 .f32) (ix2 i j)
/-- The residual's rows as launched. -/
def aX (c : Dev nD) : Fin 16384 → Fin 2048 → EReal :=
  fun i j => (m ((c : Thread nD τ).loc main_arg8) : FVec Ideal S16384x2048 .f32) (ix2 i j)
/-- The norm's gains as launched. -/
def aG (c : Dev nD) : Fin 2048 → EReal :=
  fun i => (m ((c : Thread nD τ).loc main_arg9) : FVec Ideal S2048 .f32) (ix1 i)
/-- The scan's input, columns 3072 to 3583 of the projection as launched. -/
def aU (c : Dev nD) : Fin 16384 → Fin 512 → EReal :=
  fun i j => (m ((c : Thread nD τ).loc main_arg2) : FVec Ideal S16384x5376 .f32) (ix2 i ⟨3072 + j.val, by omega⟩)
/-- The residual's gate as launched. -/
def aGT (c : Dev nD) : Fin 2048 → EReal :=
  fun j => (m ((c : Thread nD τ).loc main_arg10) : FVec Ideal S1x2048 .f32) (ix2 0 j)

/-- The scan's output with its skip term. -/
def tSkip (c : Dev nD) : FVec Ideal S16384x512 .f32 :=
  addf (shapeCast S16384x512 (transpose S16384x4x128 [1, 0, 2] (m ((c.tc : Thread nD τ).loc main_arg1) : FVec Ideal S4x16384x128 .f32) transposes_S4x16384x128_S16384x4x128_1_0_2) shapeCasts_S16384x4x128_S16384x512)
    (mulf (broadcastInDim S16384x512 ![0, 1] bcast_S1x512_S16384x512_0_1 (broadcastInDim S1x512 ![1] bcast_S512_S1x512_1 (m ((c.tc : Thread nD τ).loc main_arg3) : FVec Ideal S512 .f32)))
      (extractStridedSlice S16384x512 ![0, 3072] (m ((c.tc : Thread nD τ).loc main_arg2) : FVec Ideal S16384x5376 .f32) slices_S16384x5376_S16384x512_0_3072))
/-- The activation. -/
def tAct (a : FVec Ideal S16384x512 .f32) : FVec Ideal S16384x512 .f32 :=
  mulf a (mulf (broadcastInDim S16384x512 ![] bcast_S_S16384x512 (constant S_ .f32 0x3F000000#32)) (addf (broadcastInDim S16384x512 ![] bcast_S_S16384x512 (constant S_ .f32 0x3F800000#32))
    (Host.tanh (mulf (broadcastInDim S16384x512 ![] bcast_S_S16384x512 (constant S_ .f32 0x3F4C422A#32)) (addf a (mulf (broadcastInDim S16384x512 ![] bcast_S_S16384x512 (constant S_ .f32 0x3D372713#32)) (mulf (mulf a a) a)))))))
/-- The gated unit before the logistic function. -/
def tGate (c : Dev nD) : FVec Ideal S16384x512 .f32 :=
  addf (Host.dotGeneral (φ₁ := .f32) (φ₂ := .f32) dot_S16384x512_S512x512_S16384x512_1_0_0_1_n_n none (tAct (tSkip m c)) (m ((c.tc : Thread nD τ).loc main_arg4) : FVec Ideal S512x512 .f32))
    (broadcastInDim S16384x512 ![0, 1] bcast_S1x512_S16384x512_0_1 (broadcastInDim S1x512 ![1] bcast_S512_S1x512_1 (m ((c.tc : Thread nD τ).loc main_arg5) : FVec Ideal S512 .f32)))
/-- The gated unit. -/
def tGlu (c : Dev nD) : FVec Ideal S16384x512 .f32 :=
  mulf (tAct (tSkip m c)) (Host.divf (broadcastInDim S16384x512 ![] bcast_S_S16384x512 (constant S_ .f32 0x3F800000#32))
    (addf (broadcastInDim S16384x512 ![] bcast_S_S16384x512 (constant S_ .f32 0x3F800000#32)) (Host.exp (Host.negf (tGate m c)))))
/-- The output projection. -/
def tMix (c : Dev nD) : FVec Ideal S16384x2048 .f32 :=
  Host.dotGeneral (φ₁ := .f32) (φ₂ := .f32) dot_S16384x2048_S2048x2048_S16384x2048_1_0_0_1_n_n none
    (fn_main_v33 (F := Ideal) (extf .f32 (m ((c.tc : Thread nD τ).loc main_arg0) : FVec Ideal S16384x512 .bf16) bitsLt_bf16_f32 : FVec Ideal S16384x512 .f32) (tGlu m c)
      (extf .f32 (m ((c.tc : Thread nD τ).loc main_arg6) : FVec Ideal S16384x1024 .bf16) bitsLt_bf16_f32 : FVec Ideal S16384x1024 .f32) : FVec Ideal S16384x2048 .f32)
    (m ((c.tc : Thread nD τ).loc main_arg7) : FVec Ideal S2048x2048 .f32)
/-- Rows scaled to unit mean square, times the gains. -/
def tGain (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

/-- The result as the steps above. -/
theorem res_steps (c : Dev nD) : res_main_v50 m c = (addf (m ((c.tc : Thread nD τ).loc main_arg8) : FVec Ideal S16384x2048 .f32)
    (mulf (broadcastInDim S16384x2048 ![0, 1] bcast_S1x2048_S16384x2048_0_1 (m ((c.tc : Thread nD τ).loc main_arg10) : FVec Ideal S1x2048 .f32))
      (tGain (tMix m c) (m ((c.tc : Thread nD τ).loc main_arg9)))) : FVec Ideal S16384x2048 .f32) := rfl

/-- The normalised rows times the gains, entry by entry. -/
theorem gain_at (x : FVec Ideal S16384x2048 .f32) (g : FVec Ideal S2048 .f32) (r : Fin 16384) (d : Fin 2048) :
    tGain x g (ix2 r d) = x (ix2 r d) * Ffn.scale (fun k => x (ix2 r k)) * g (ix1 d) := by
  pointwise [tGain, Ffn.scale]
/-- The activation, entry by entry. -/
theorem tAct_at (a : FVec Ideal S16384x512 .f32) (r : Fin 16384) (n : Fin 512) : tAct a (ix2 r n) = Ffn.act (a (ix2 r n)) := by
  have e : ∀ x y z : EReal, x * (y * z) = y * x * z := fun x y z => by ac_rfl
  unfold Ffn.act
  rw [← e]
  pointwise [tAct]
/-- The skip term added, entry by entry. -/
theorem skip_at (c : Dev nD) (r : Fin 16384) (n : Fin 512) :
    tSkip m c (ix2 r n) = aY5 m c ⟨n.val / 128, by omega⟩ r ⟨n.val % 128, by omega⟩ + aD m c n * aU m c r n := by
  unfold aY5 aD aU
  pointwise [tSkip]
/-- The activated rows, entry by entry. -/
theorem act_at (c : Dev nD) (r : Fin 16384) (n : Fin 512) :
    tAct (tSkip m c) (ix2 r n) = Outproj.act (aY5 m c) (aU m c) (aD m c) r n := by
  rw [tAct_at, skip_at]
  rfl
/-- The gated unit before the logistic function, entry by entry. -/
theorem gate_at (c : Dev nD) (r : Fin 16384) (n : Fin 512) :
    tGate m c (ix2 r n) = (∑ k, Outproj.act (aY5 m c) (aU m c) (aD m c) r k * aWG m c k n) + aBG m c n := by
  simp only [← act_at]
  unfold aWG aBG
  pointwise [tGate]
/-- The gated unit, entry by entry. -/
theorem glu_at (c : Dev nD) (r : Fin 16384) (n : Fin 512) :
    tGlu m c (ix2 r n) = Outproj.glu (aY5 m c) (aU m c) (aD m c) (aWG m c) (aBG m c) r n := by
  unfold Outproj.glu
  rw [← gate_at, ← act_at]
  pointwise [tGlu, Ideal.logistic]
/-- A sum over all columns, cut at the bounds of the three groups. -/
theorem sum_three (f : Fin 2048 → EReal) : ∑ x, f x = (∑ n : Fin 512, f ⟨n.val, by omega⟩) + (∑ n : Fin 512, f ⟨512 + n.val, by omega⟩)
    + ∑ n : Fin 1024, f ⟨1024 + n.val, by omega⟩ := by
  refine (Fin.sum_univ_add (a := 1024) (b := 1024) f).trans (congrArg₂ _ ?_ rfl)
  exact Fin.sum_univ_add (a := 512) (b := 512) fun i => f (Fin.castAdd 1024 i)
/-- The output projection, entry by entry. -/
theorem mix_at (c : Dev nD) (r : Fin 16384) (k : Fin 2048) :
    tMix m c (ix2 r k) = Outproj.mix (aYM m c) (aY5 m c) (aU m c) (aD m c) (aWG m c) (aBG m c) (aYN m c) (aW m c) r k := by
  unfold Outproj.mix aYM aYN aW
  simp only [← glu_at]
  pointwise [tMix, fn_main_v33]
  rw [sum_three]
  refine congrArg₂ _ (congrArg₂ _ (Finset.sum_congr rfl fun n _ => ?_) (Finset.sum_congr rfl fun n _ => ?_)) (Finset.sum_congr rfl fun n _ => ?_)
  · rw [dif_pos n.isLt]
  · rw [dif_neg (by dsimp only; omega), dif_pos (by dsimp only; omega)]
    exact congrArg (fun z => tGlu m c (ix2 r z) * _) (Fin.ext (by dsimp only; omega))
  · rw [dif_neg (by dsimp only; omega), dif_neg (by dsimp only; omega)]
    exact congrArg₂ (fun a b : EReal => a * b) (congrArg (fun z => (m (c.tc.loc main_arg6) : FVec Ideal S16384x1024 .bf16) (ix2 r z)) (Fin.ext (by dsimp only; omega))) rfl
/-- The reference's result, entry by entry. -/
theorem res_at (c : Dev nD) (r : Fin 16384) (k : Fin 2048) : (res_main_v50 m c : FVec Ideal S16384x2048 .f32) (ix2 r k)
    = Outproj.out (aYM m c) (aY5 m c) (aU m c) (aD m c) (aWG m c) (aBG m c) (aYN m c) (aW m c) (aX m c) (aG m c) (aGT m c) r k := by
  have hg := gain_at (tMix m c) (m ((c.tc : Thread nD τ).loc main_arg9)) r k
  simp only [mix_at] at hg
  rw [res_steps]
  unfold Outproj.out
  refine Eq.trans ?_ (congrArg (fun z => aX m c r k + aGT m c k * z) hg)
  unfold aX aGT
  pointwise
end Cert.Reference4Ideal.Rd
-- ==== Proof.OutClaims.lean ====
module

public import proofs.«01_k».proof.Defs
public import proofs.«01_k».proof.Proof.Gen.Kernel4.Frame
public import proofs.«01_k».proof.Proof.OutVal
public import proofs.«01_k».proof.Proof.OutRef
public import Idealize.ShloMosaic.Lib.Quiescent

/-! # The claims about the end of the mixer -/

set_option maxRecDepth 16384

@[expose] public noncomputable section

open Idealize.ShloMosaic Idealize.ShloMosaic.TcCoe Idealize.SL.Sem Idealize.ShloMosaic.StableHlo

namespace Cert.Proof.Outproj

/-- The reference's result is the kernel's result array when the arguments agree. -/
theorem same_result (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD)
    (hYM : Cert.Reference4Ideal.Rd.aYM m' c = Cert.Kernel4Ideal.Outproj.aYM m c)
    (hY5 : Cert.Reference4Ideal.Rd.aY5 m' c = Cert.Kernel4Ideal.Outproj.aY5 m c)
    (hU : Cert.Reference4Ideal.Rd.aU m' c = Cert.Kernel4Ideal.Outproj.aU m c)
    (hD : Cert.Reference4Ideal.Rd.aD m' c = Cert.Kernel4Ideal.Outproj.aD m c)
    (hWG : Cert.Reference4Ideal.Rd.aWG m' c = Cert.Kernel4Ideal.Outproj.aWG m c)
    (hBG : Cert.Reference4Ideal.Rd.aBG m' c = Cert.Kernel4Ideal.Outproj.aBG m c)
    (hYN : Cert.Reference4Ideal.Rd.aYN m' c = Cert.Kernel4Ideal.Outproj.aYN m c)
    (hW : Cert.Reference4Ideal.Rd.aW m' c = Cert.Kernel4Ideal.Outproj.aW m c)
    (hX : Cert.Reference4Ideal.Rd.aX m' c = Cert.Kernel4Ideal.Outproj.aX m c)
    (hG : Cert.Reference4Ideal.Rd.aG m' c = Cert.Kernel4Ideal.Outproj.aG m c)
    (hGT : Cert.Reference4Ideal.Rd.aGT m' c = Cert.Kernel4Ideal.Outproj.aGT m c) :
    Cert.Reference4Ideal.Value.res_main_v50 m' c = Cert.Kernel4Ideal.Outproj.resArr m c := by
  funext i
  idx_vars i
  refine (Cert.Reference4Ideal.Rd.res_at m' c i0 i1).trans ?_
  rw [hYM, hY5, hU, hD, hWG, hBG, hYN, hW, hX, hG, hGT]
  rfl

/-- The kernel's frame. -/
theorem frame_p : Cert.quiescent_Kernel4 (hKernel4 := Cert.Kernel4.Gen.facts) := fun m ρ _ => Cert.Kernel4.Gen.frame m ρ
/-- The idealized kernel's frame. -/
theorem frame_pi : Cert.quiescent_Kernel4Ideal (hKernel4Ideal := Cert.Kernel4Ideal.Gen.facts) := fun m ρ _ => Cert.Kernel4Ideal.Gen.frame m ρ
/-- The reference's frame: it declares no semaphore. -/
theorem frame_ri : Cert.quiescent_Reference4Ideal (hReference4Ideal := Cert.Reference4Ideal.Gen.facts) := fun m ρ _ =>
  (θ_run _ _ _).mono (fun r h => ⟨fun c => (h c).2, sem_eq_zero_of_no_sems rfl r.2⟩) (Cert.Reference4Ideal.Value.run m ρ)
/-- The idealized kernel and the reference end with the same result. -/
theorem algebraic : Cert.algebraic_Kernel4Ideal_Reference4Ideal (hKernel4Ideal := Cert.Kernel4Ideal.Gen.facts)
    (hReference4Ideal := Cert.Reference4Ideal.Gen.facts) := fun m ρ m' ρ' _ hag =>
  ⟨fun c => Cert.Kernel4Ideal.Outproj.resArr m c,
    (θ_run _ _ _).mono (fun r h c => ⟨(h c).1.trans (Cert.Kernel4Ideal.Outproj.final m c), (h c).2⟩) (Cert.Kernel4Ideal.Value.run_blocks m ρ),
    (θ_run _ _ _).mono (fun r h c => by
      obtain ⟨h0, h1, h2, h3, h4, h5, h6, h7, h8, h9, h10⟩ := hag c
      exact ⟨(h c).1.trans (same_result m m' c
        (funext fun i => funext fun j => congrFun h0 (ix2 i j))
        (funext fun i => funext fun j => funext fun k => congrFun h1 (ix3 i j k))
        (funext fun i => funext fun j => congrFun h2 (ix2 i ⟨3072 + j.val, by omega⟩))
        (funext fun j => congrFun h3 (ix1 j))
        (funext fun i => funext fun j => congrFun h4 (ix2 i j))
        (funext fun j => congrFun h5 (ix1 j))
        (funext fun i => funext fun j => congrFun h6 (ix2 i j))
        (funext fun i => funext fun j => congrFun h7 (ix2 i j))
        (funext fun i => funext fun j => congrFun h8 (ix2 i j))
        (funext fun j => congrFun h9 (ix1 j))
        (funext fun j => congrFun h10 (ix2 0 j))), (h c).2⟩)
      (Cert.Reference4Ideal.Value.run m' ρ')⟩

end Cert.Proof.Outproj

end
-- ==== Proof.CmpSpec.lean ====
module

public import proofs.«01_k».proof.Proof.FfnSpec
@[expose] public noncomputable section
open Idealize.ShloMosaic

/-! # The compression of keys and values in real arithmetic

The values both programs compute for a piece and the piece after it: sixteen positions each, with their position encodings,
through the two products with the activation between them. -/

namespace Cert.Cmp

section Spec
variable (X : Fin 2 → Fin 1024 → Fin 2048 → EReal) (PE : Fin 32 → Fin 128 → EReal)
variable (W : Fin 4096 → Fin 128 → EReal) (W2 : Fin 128 → Fin 128 → EReal)

/-- A piece with the first half of the position encodings. -/
def lo (h : Fin 2) (j : Fin 1024) (d : Fin 2048) : EReal := X h j d + PE ⟨d.val / 128, by omega⟩ ⟨d.val % 128, by omega⟩
/-- The piece after it with the second half of the position encodings. -/
def hi (h : Fin 2) (j : Fin 1024) (d : Fin 2048) : EReal :=
  X h ⟨(j.val + 1) % 1024, by omega⟩ d + PE ⟨16 + d.val / 128, by omega⟩ ⟨d.val % 128, by omega⟩
/-- The first product. -/
def pre (h : Fin 2) (j : Fin 1024) (e : Fin 128) : EReal :=
  (∑ d : Fin 2048, lo X PE h j d * W ⟨d.val, by omega⟩ e) + ∑ d : Fin 2048, hi X PE h j d * W ⟨2048 + d.val, by omega⟩ e
/-- The second product. -/
def out (h : Fin 2) (j : Fin 1024) (k : Fin 128) : EReal := ∑ e : Fin 128, Ffn.act (pre X PE W h j e) * W2 e k
end Spec

end Cert.Cmp

end
-- ==== Proof.CmpVal.lean ====
module

public import proofs.«01_k».proof.Proof.Gen.Kernel5Ideal.Value
public import proofs.«01_k».proof.Proof.CmpSpec
public import Idealize.ShloMosaic.Lib.Pointwise
public import Idealize.ShloMosaic.Lib.Pipeline.ValueKit
public import Idealize.ShloMosaic.Lib.WritesUnit
public import Idealize.ShloMosaic.Lib.Pipeline.ReadBack
set_option maxRecDepth 16384
@[expose] public noncomputable section
open Idealize.ShloMosaic Idealize.ShloMosaic.TcCoe Idealize.SL.Sem
open Idealize.ShloMosaic.Pipeline (Dat)
namespace Cert.Kernel5Ideal.Cmp
open Cert.Kernel5Ideal Cert.Kernel5Ideal.Gen
variable (m : (ℓ : Loc nD τ sig) → Buf (Elt Ideal) ℓ)

/-- The pieces as launched. -/
def aX (c : Dev nD) : Fin 2 → Fin 1024 → Fin 2048 → EReal :=
  fun i j k => (m ((c : Thread nD τ).loc main_arg0) : FVec Ideal S2x1024x2048 .f32) (ix3 i j k)
/-- The position encodings as launched. -/
def aPE (c : Dev nD) : Fin 32 → Fin 128 → EReal :=
  fun i j => (m ((c : Thread nD τ).loc main_arg1) : FVec Ideal S32x128 .f32) (ix2 i j)
/-- The first weight as launched. -/
def aW (c : Dev nD) : Fin 4096 → Fin 128 → EReal :=
  fun i j => (m ((c : Thread nD τ).loc main_arg2) : FVec Ideal S4096x128 .f32) (ix2 i j)
/-- The second weight as launched. -/
def aW2 (c : Dev nD) : Fin 128 → Fin 128 → EReal :=
  fun i j => (m ((c : Thread nD τ).loc main_arg3) : FVec Ideal S128x128 .f32) (ix2 i j)

/-- Where each window's block of each point lies, decided over the grid. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![t.val, 0, 0] :=
  (by decide +kernel : ∀ t : Fin grid0.N, _)

/-- The first half of the position encodings as the blocks find them. -/
theorem v1_at (c : Dev nD) (d : Fin 2048) :
    (V m c main_v1 : FVec Ideal S1x2048 .f32) (ix2 0 d) = aPE m c ⟨d.val / 128, by omega⟩ ⟨d.val % 128, by omega⟩ := by
  unfold aPE
  entry_read
  pointwise
/-- The second half of the position encodings as the blocks find them. -/
theorem v3_at (c : Dev nD) (d : Fin 2048) :
    (V m c main_v3 : FVec Ideal S1x2048 .f32) (ix2 0 d) = aPE m c ⟨16 + d.val / 128, by omega⟩ ⟨d.val % 128, by omega⟩ := by
  unfold aPE
  entry_read
  pointwise
/-- The upper half of the first weight as the blocks find it. -/
theorem v5_at (c : Dev nD) (d : Fin 2048) (e : Fin 128) :
    (V m c main_v5 : FVec Ideal S2048x128 .bf16) (ix2 d e) = aW m c ⟨d.val, by omega⟩ e := by
  unfold aW
  entry_read
  pointwise
/-- The lower half of the first weight as the blocks find it. -/
theorem v7_at (c : Dev nD) (d : Fin 2048) (e : Fin 128) :
    (V m c main_v7 : FVec Ideal S2048x128 .bf16) (ix2 d e) = aW m c ⟨2048 + d.val, by omega⟩ e := by
  unfold aW
  entry_read
  pointwise
/-- The second weight as the blocks find it. -/
theorem v8_at (c : Dev nD) (d e : Fin 128) : (V m c main_v8 : FVec Ideal S128x128 .bf16) (ix2 d e) = aW2 m c d e := by
  unfold aW2
  entry_read
  pointwise

/-- The pieces of a point's key head. -/
theorem blk0 (c : Dev nD) (t : Fin cfg0.N) (l : Fin 1024) (d : Fin 2048) :
    (iblk m c 0 t : Vec Ideal S1x1024x2048 .f32) (ix3 0 l d) = aX m c ⟨t.val, lt_of_lt_of_eq t.isLt N_0⟩ l d := by
  unfold aX
  blk_ext [iblk, V, idx t]
/-- The first half of the position encodings, the same at every point. -/
theorem blk1 (c : Dev nD) (t : Fin cfg0.N) (d : Fin 2048) : (iblk m c 1 t : Vec Ideal S1x2048 .f32) (ix2 0 d) = aPE m c ⟨d.val / 128, by omega⟩ ⟨d.val % 128, by omega⟩ := by
  refine Eq.trans (b := V m c main_v1 (ix2 0 d)) ?_ (v1_at m c _)
  blk_ext [iblk, idx t]
/-- The second half of the position encodings, the same at every point. -/
theorem blk2 (c : Dev nD) (t : Fin cfg0.N) (d : Fin 2048) : (iblk m c 2 t : Vec Ideal S1x2048 .f32) (ix2 0 d) = aPE m c ⟨16 + d.val / 128, by omega⟩ ⟨d.val % 128, by omega⟩ := by
  refine Eq.trans (b := V m c main_v3 (ix2 0 d)) ?_ (v3_at m c _)
  blk_ext [iblk, idx t]
/-- The upper half of the first weight, the same at every point. -/
theorem blk3 (c : Dev nD) (t : Fin cfg0.N) (d : Fin 2048) (e : Fin 128) : (iblk m c 3 t : Vec Ideal S2048x128 .bf16) (ix2 d e) = aW m c ⟨d.val, by omega⟩ e := by
  refine Eq.trans (b := V m c main_v5 (ix2 d e)) ?_ (v5_at m c _ _)
  blk_ext [iblk, idx t]
/-- The lower half of the first weight, the same at every point. -/
theorem blk4 (c : Dev nD) (t : Fin cfg0.N) (d : Fin 2048) (e : Fin 128) : (iblk m c 4 t : Vec Ideal S2048x128 .bf16) (ix2 d e) = aW m c ⟨2048 + d.val, by omega⟩ e := by
  refine Eq.trans (b := V m c main_v7 (ix2 d e)) ?_ (v7_at m c _ _)
  blk_ext [iblk, idx t]
/-- The second weight, the same at every point. -/
theorem blk5 (c : Dev nD) (t : Fin cfg0.N) (d e : Fin 128) : (iblk m c 5 t : Vec Ideal S128x128 .bf16) (ix2 d e) = aW2 m c d e := by
  refine Eq.trans (b := V m c main_v8 (ix2 d e)) ?_ (v8_at m c _ _)
  blk_ext [iblk, idx t]

/-- The payload, entry by entry: a row takes its second half from the row after it. -/
theorem pay2_at (x : FVec Ideal S1x1024x2048 .f32) (p q : FVec Ideal S1x2048 .f32) (wt wb : FVec Ideal S2048x128 .bf16)
    (w2 : FVec Ideal S128x128 .bf16) (l : Fin 1024) (k : Fin 128) : (k0_pay2 (F := Ideal) x p wt q wb w2 : FVec Ideal S1024x128 .f32) (ix2 l k)
      = ∑ e : Fin 128, Ffn.act ((∑ d : Fin 2048, (x (ix3 0 l d) + p (ix2 0 d)) * wt (ix2 d e))
          + ∑ d : Fin 2048, (x (ix3 0 ⟨(l.val + 1) % 1024, by omega⟩ d) + q (ix2 0 d)) * wb (ix2 d e)) * w2 (ix2 e k) := by
  have e : (⟨(l.val + 1) % 1024, by omega⟩ : Fin 1024) = ⟨(l.val + 1024 - 1023) % 1024, by omega⟩ := Fin.ext (by dsimp only; omega)
  rw [e]
  pointwise [k0_pay2, Ffn.act]

/-- Every point stores the specification's rows of its key head. -/
theorem out_all (c : Dev nD) (t : Fin cfg0.N) (l : Fin 1024) (k : Fin 128) :
    (out0_6 (iblk m c 0 t) (iblk m c 1 t) (iblk m c 2 t) (iblk m c 3 t) (iblk m c 4 t) (iblk m c 5 t) : FVec Ideal S1x1024x128 .f32) (ix3 0 l k)
      = Cmp.out (aX m c) (aPE m c) (aW m c) (aW2 m c) ⟨t.val, lt_of_lt_of_eq t.isLt N_0⟩ l k := by
  have key : (out0_6 (iblk m c 0 t) (iblk m c 1 t) (iblk m c 2 t) (iblk m c 3 t) (iblk m c 4 t) (iblk m c 5 t) : FVec Ideal S1x1024x128 .f32) (ix3 0 l k)
      = (k0_pay2 (F := Ideal) (iblk m c 0 t) (iblk m c 1 t) (iblk m c 3 t) (iblk m c 2 t) (iblk m c 4 t) (iblk m c 5 t) : FVec Ideal S1024x128 .f32) (ix2 l k) := by
    generalize iblk m c 0 t = x0
    generalize iblk m c 1 t = x1
    generalize iblk m c 2 t = x2
    generalize iblk m c 3 t = x3
    generalize iblk m c 4 t = x4
    generalize iblk m c 5 t = x5
    frame_out
    pointwise [k0_pay1]
  refine key.trans ((pay2_at _ _ _ _ _ _ l k).trans ?_)
  unfold Cmp.out Cmp.pre Cmp.lo Cmp.hi
  refine Finset.sum_congr rfl fun e _ => congrArg₂ _ (congrArg _ (congrArg₂ _ (Finset.sum_congr rfl fun d _ => ?_) (Finset.sum_congr rfl fun d _ => ?_))) (blk5 m c t e k)
  · exact congrArg₂ _ (congrArg₂ _ (blk0 m c t l d) (blk1 m c t d)) (blk3 m c t d e)
  · exact congrArg₂ _ (congrArg₂ _ (blk0 m c t _ d) (blk2 m c t d)) (blk4 m c t d e)

/-- The result array. -/
def resArr (c : Dev nD) : FVec Ideal S2x1024x128 .f32 := fun i =>
  Cmp.out (aX m c) (aPE m c) (aW m c) (aW2 m c) ⟨(i 0).val, (i 0).isLt⟩ ⟨(i 1).val, (i 1).isLt⟩ ⟨(i 2).val, (i 2).isLt⟩

/-- Every block is written once, so the result array is the specification's. -/
theorem final (c : Dev nD) : (dats m 0 c).arrAt 6 cfg0.N = resArr m c := by
  refine (dats m 0 c).arrAt_eq_of_covers 6 _ (by decide +kernel) fun t _ y => ?_
  have hy : (y 0).val = 0 := Nat.lt_one_iff.mp (y 0).isLt
  have ho := out_all m c t ⟨(y 1).val, (y 1).isLt⟩ ⟨(y 2).val, (y 2).isLt⟩
  have h0 : ((win0_6.blk t).view.emb y 0).val = t.val + (y 0).val := by blk_simp [idx t]
  have h1 : ((win0_6.blk t).view.emb y 1).val = (y 1).val := by blk_simp [idx t]
  have h2 : ((win0_6.blk t).view.emb y 2).val = (y 2).val := by blk_simp [idx t]
  refine Eq.trans ?_ (Eq.trans ho ?_)
  · blk_simp
    rw [after0_6]
    refine congrArg (out0_6 (iblk m c 0 t) (iblk m c 1 t) (iblk m c 2 t) (iblk m c 3 t) (iblk m c 4 t) (iblk m c 5 t)) (funext fun a => ?_)
    match a with
    | ⟨0, _⟩ => exact Fin.ext hy
    | ⟨1, _⟩ => rfl
    | ⟨2, _⟩ => rfl
  · have e : ∀ (a a' : Fin 2) (b b' : Fin 1024) (d d' : Fin 128), a = a' → b = b' → d = d' →
        Cmp.out (aX m c) (aPE m c) (aW m c) (aW2 m c) a b d = Cmp.out (aX m c) (aPE m c) (aW m c) (aW2 m c) a' b' d' := by
      intro a a' b b' d d' ha hb hd
      rw [ha, hb, hd]
    refine e _ _ _ _ _ _ (Fin.ext ?_) (Fin.ext h1.symm) (Fin.ext h2.symm)
    refine Eq.trans ?_ h0.symm
    show t.val = t.val + (y 0).val
    omega
end Cert.Kernel5Ideal.Cmp
-- ==== Proof.CmpRef.lean ====
module

public import proofs.«01_k».proof.Proof.Gen.Reference5Ideal.Run
public import proofs.«01_k».proof.Proof.CmpSpec
public import Idealize.ShloMosaic.Lib.Pointwise
public import Idealize.ShloMosaic.Lib.KernelVsHost
set_option maxRecDepth 16384
@[expose] public noncomputable section
open Idealize.ShloMosaic Idealize.ShloMosaic.TcCoe Idealize.SL.Sem Idealize.ShloMosaic.StableHlo
namespace Cert.Reference5Ideal.Rd
open Cert.Reference5Ideal Cert.Reference5Ideal.Gen Cert.Reference5Ideal.Value
variable (m : (ℓ : Loc nD τ sig) → Buf (Elt Ideal) ℓ)

/-- The pieces as launched. -/
def aX (c : Dev nD) : Fin 2 → Fin 1024 → Fin 2048 → EReal :=
  fun i j k => (m ((c : Thread nD τ).loc main_arg0) : FVec Ideal S2x1024x2048 .f32) (ix3 i j k)
/-- The position encodings as launched. -/
def aPE (c : Dev nD) : Fin 32 → Fin 128 → EReal :=
  fun i j => (m ((c : Thread nD τ).loc main_arg1) : FVec Ideal S32x128 .f32) (ix2 i j)
/-- The first weight as launched. -/
def aW (c : Dev nD) : Fin 4096 → Fin 128 → EReal :=
  fun i j => (m ((c : Thread nD τ).loc main_arg2) : FVec Ideal S4096x128 .f32) (ix2 i j)
/-- The second weight as launched. -/
def aW2 (c : Dev nD) : Fin 128 → Fin 128 → EReal :=
  fun i j => (m ((c : Thread nD τ).loc main_arg3) : FVec Ideal S128x128 .f32) (ix2 i j)

/-- The pieces, position by position. -/
def tPieces (c : Dev nD) : FVec Ideal S2x1024x16x128 .f32 :=
  shapeCast S2x1024x16x128 (m ((c.tc : Thread nD τ).loc main_arg0) : FVec Ideal S2x1024x2048 .f32) shapeCasts_S2x1024x2048_S2x1024x16x128
/-- Every piece's successor. -/
def tNext (p : FVec Ideal S2x1024x16x128 .f32) : FVec Ideal S2x1024x16x128 .f32 :=
  concatenate S2x1024x16x128 1 [⟨S2x1023x16x128, extractStridedSlice S2x1023x16x128 ![0, 1, 0, 0] p slices_S2x1024x16x128_S2x1023x16x128_0_1_0_0⟩,
    ⟨S2x1x16x128, extractStridedSlice S2x1x16x128 ![0, 0, 0, 0] p slices_S2x1024x16x128_S2x1x16x128_0_0_0_0⟩] concatenates_S2x1023x16x128_S2x1x16x128_S2x1024x16x128_d1
/-- The blocks of two pieces with the position encodings. -/
def tBlocks (c : Dev nD) : FVec Ideal S2x1024x32x128 .f32 :=
  addf (concatenate S2x1024x32x128 2 [⟨S2x1024x16x128, tPieces m c⟩, ⟨S2x1024x16x128, tNext (tPieces m c)⟩] concatenates_S2x1024x16x128_S2x1024x16x128_S2x1024x32x128_d2)
    (broadcastInDim S2x1024x32x128 ![0, 1, 2, 3] bcast_S1x1x32x128_S2x1024x32x128_0_1_2_3 (broadcastInDim S1x1x32x128 ![2, 3] bcast_S32x128_S1x1x32x128_2_3 (m ((c.tc : Thread nD τ).loc main_arg1) : FVec Ideal S32x128 .f32)))
/-- The first product. -/
def tPre (c : Dev nD) : FVec Ideal S2x1024x128 .f32 :=
  Host.dotGeneral (φ₁ := .f32) (φ₂ := .f32) dot_S2x1024x4096_S4096x128_S2x1024x128_2_0_01_1_n_n none (shapeCast S2x1024x4096 (tBlocks m c) shapeCasts_S2x1024x32x128_S2x1024x4096)
    (m ((c.tc : Thread nD τ).loc main_arg2) : FVec Ideal S4096x128 .f32)
/-- The activation. -/
def tAct (a : FVec Ideal S2x1024x128 .f32) : FVec Ideal S2x1024x128 .f32 :=
  mulf a (mulf (broadcastInDim S2x1024x128 ![] bcast_S_S2x1024x128 (constant S_ .f32 0x3F000000#32)) (addf (broadcastInDim S2x1024x128 ![] bcast_S_S2x1024x128 (constant S_ .f32 0x3F800000#32))
    (Host.tanh (mulf (broadcastInDim S2x1024x128 ![] bcast_S_S2x1024x128 (constant S_ .f32 0x3F4C422A#32)) (addf a (mulf (broadcastInDim S2x1024x128 ![] bcast_S_S2x1024x128 (constant S_ .f32 0x3D372713#32)) (mulf (mulf a a) a)))))))
/-- The result as the steps above. -/
theorem res_steps (c : Dev nD) : res_main_v23 m c = (Host.dotGeneral (φ₁ := .f32) (φ₂ := .f32) dot_S2x1024x128_S128x128_S2x1024x128_2_0_01_1_n_n none
    (tAct (tPre m c)) (m ((c.tc : Thread nD τ).loc main_arg3) : FVec Ideal S128x128 .f32) : FVec Ideal S2x1024x128 .f32) := rfl

/-- The activation, entry by entry. -/
theorem tAct_at (a : FVec Ideal S2x1024x128 .f32) (h : Fin 2) (j : Fin 1024) (n : Fin 128) : tAct a (ix3 h j n) = Ffn.act (a (ix3 h j n)) := by
  have e : ∀ x y z : EReal, x * (y * z) = y * x * z := fun x y z => by ac_rfl
  unfold Ffn.act
  rw [← e]
  pointwise [tAct]
/-- The pieces, entry by entry. -/
theorem pieces_at (c : Dev nD) (h : Fin 2) (j : Fin 1024) (p : Fin 16) (e : Fin 128) :
    tPieces m c (ix4 h j p e) = aX m c h j ⟨p.val * 128 + e.val, by omega⟩ := by
  unfold aX
  pointwise [tPieces]
/-- Every piece's successor, entry by entry. -/
theorem next_at (w : FVec Ideal S2x1024x16x128 .f32) (h : Fin 2) (j : Fin 1024) (p : Fin 16) (e : Fin 128) :
    tNext w (ix4 h j p e) = w (ix4 h ⟨(j.val + 1) % 1024, by omega⟩ p e) := by
  have key : ∀ (a b : ℕ) (ha : a < 1024) (hb : b < 1024), a = b → w (ix4 h ⟨a, ha⟩ p e) = w (ix4 h ⟨b, hb⟩ p e) := by
    intro a b ha hb hab
    subst hab
    rfl
  pointwise [tNext]
  by_cases hj : j.val < 1023
  · rw [dif_pos hj]
    exact key _ _ _ _ (by omega)
  · rw [dif_neg hj]
    exact key _ _ _ _ (by omega)
/-- The first sixteen positions of a block, entry by entry. -/
theorem lo_at (c : Dev nD) (h : Fin 2) (j : Fin 1024) (d : Fin 2048) :
    tBlocks m c (ix4 h j ⟨d.val / 128, by omega⟩ ⟨d.val % 128, by omega⟩) = Cmp.lo (aX m c) (aPE m c) h j d := by
  have hd : d.val / 128 < 16 := by omega
  have hp := pieces_at m c h j ⟨d.val / 128, hd⟩ ⟨d.val % 128, by omega⟩
  unfold Cmp.lo
  refine Eq.trans (b := tPieces m c (ix4 h j ⟨d.val / 128, hd⟩ ⟨d.val % 128, by omega⟩) + aPE m c ⟨d.val / 128, by omega⟩ ⟨d.val % 128, by omega⟩) ?_ ?_
  · unfold aPE
    pointwise [tBlocks]
    rw [dif_pos hd]
  · exact congrArg (· + _) (hp.trans (congrArg (aX m c h j) (Fin.ext (by dsimp only; omega))))
/-- The last sixteen positions of a block, entry by entry. -/
theorem hi_at (c : Dev nD) (h : Fin 2) (j : Fin 1024) (d : Fin 2048) :
    tBlocks m c (ix4 h j ⟨16 + d.val / 128, by omega⟩ ⟨d.val % 128, by omega⟩) = Cmp.hi (aX m c) (aPE m c) h j d := by
  have hd : d.val / 128 < 16 := by omega
  have hp := (next_at (tPieces m c) h j ⟨d.val / 128, hd⟩ ⟨d.val % 128, by omega⟩).trans (pieces_at m c h _ _ _)
  unfold Cmp.hi
  refine Eq.trans (b := tNext (tPieces m c) (ix4 h j ⟨d.val / 128, hd⟩ ⟨d.val % 128, by omega⟩) + aPE m c ⟨16 + d.val / 128, by omega⟩ ⟨d.val % 128, by omega⟩) ?_ ?_
  · unfold aPE
    pointwise [tBlocks]
  · exact congrArg (· + _) (hp.trans (congrArg (aX m c h _) (Fin.ext (by dsimp only; omega))))
/-- A sum over a block's entries, cut between its two pieces. -/
theorem sum_two (f : Fin 4096 → EReal) : ∑ x, f x = (∑ d : Fin 2048, f ⟨d.val, by omega⟩) + ∑ d : Fin 2048, f ⟨2048 + d.val, by omega⟩ :=
  Fin.sum_univ_add (a := 2048) (b := 2048) f
/-- The first product, entry by entry. -/
theorem pre_at (c : Dev nD) (h : Fin 2) (j : Fin 1024) (e : Fin 128) : tPre m c (ix3 h j e) = Cmp.pre (aX m c) (aPE m c) (aW m c) h j e := by
  have key : tPre m c (ix3 h j e) = ∑ x : Fin 4096, tBlocks m c (ix4 h j ⟨x.val / 128, by omega⟩ ⟨x.val % 128, by omega⟩) * aW m c x e := by
    unfold aW tPre
    generalize tBlocks m c = w
    pointwise
  have ix : ∀ (a a' : Fin 32) (b b' : Fin 128), a = a' → b = b' → tBlocks m c (ix4 h j a b) = tBlocks m c (ix4 h j a' b') := by
    intro a a' b b' ha hb
    rw [ha, hb]
  rw [key, sum_two]
  unfold Cmp.pre
  refine congrArg₂ _ (Finset.sum_congr rfl fun d _ => ?_) (Finset.sum_congr rfl fun d _ => ?_)
  · rw [← lo_at]
  · rw [← hi_at]
    exact congrArg (· * _) (ix _ _ _ _ (Fin.ext (by dsimp only; omega)) (Fin.ext (by dsimp only; omega)))
/-- The reference's result, entry by entry. -/
theorem res_at (c : Dev nD) (h : Fin 2) (j : Fin 1024) (k : Fin 128) : (res_main_v23 m c : FVec Ideal S2x1024x128 .f32) (ix3 h j k)
    = Cmp.out (aX m c) (aPE m c) (aW m c) (aW2 m c) h j k := by
  rw [res_steps]
  unfold Cmp.out
  simp only [← pre_at, ← tAct_at]
  unfold aW2
  generalize tAct (tPre m c) = w
  pointwise
end Cert.Reference5Ideal.Rd
-- ==== Proof.CmpClaims.lean ====
module

public import proofs.«01_k».proof.Defs
public import proofs.«01_k».proof.Proof.Gen.Kernel5.Frame
public import proofs.«01_k».proof.Proof.CmpVal
public import proofs.«01_k».proof.Proof.CmpRef
public import Idealize.ShloMosaic.Lib.Quiescent

/-! # The claims about the compression of keys and values -/

set_option maxRecDepth 16384

@[expose] public noncomputable section

open Idealize.ShloMosaic Idealize.ShloMosaic.TcCoe Idealize.SL.Sem Idealize.ShloMosaic.StableHlo

namespace Cert.Proof.Cmp

/-- The reference's result is the kernel's result array when the arguments agree. -/
theorem same_result (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ)
    (c : Dev Cert.Kernel5Ideal.nD)
    (hX : Cert.Reference5Ideal.Rd.aX m' c = Cert.Kernel5Ideal.Cmp.aX m c)
    (hPE : Cert.Reference5Ideal.Rd.aPE m' c = Cert.Kernel5Ideal.Cmp.aPE m c)
    (hW : Cert.Reference5Ideal.Rd.aW m' c = Cert.Kernel5Ideal.Cmp.aW m c)
    (hW2 : Cert.Reference5Ideal.Rd.aW2 m' c = Cert.Kernel5Ideal.Cmp.aW2 m c) :
    Cert.Reference5Ideal.Value.res_main_v23 m' c = Cert.Kernel5Ideal.Cmp.resArr m c := by
  funext i
  idx_vars i
  refine (Cert.Reference5Ideal.Rd.res_at m' c i0 i1 i2).trans ?_
  rw [hX, hPE, hW, hW2]
  rfl

/-- The kernel's frame. -/
theorem frame_p : Cert.quiescent_Kernel5 (hKernel5 := Cert.Kernel5.Gen.facts) := fun m ρ _ => Cert.Kernel5.Gen.frame m ρ
/-- The idealized kernel's frame. -/
theorem frame_pi : Cert.quiescent_Kernel5Ideal (hKernel5Ideal := Cert.Kernel5Ideal.Gen.facts) := fun m ρ _ => Cert.Kernel5Ideal.Gen.frame m ρ
/-- The reference's frame: it declares no semaphore. -/
theorem frame_ri : Cert.quiescent_Reference5Ideal (hReference5Ideal := Cert.Reference5Ideal.Gen.facts) := fun m ρ _ =>
  (θ_run _ _ _).mono (fun r h => ⟨fun c => (h c).2, sem_eq_zero_of_no_sems rfl r.2⟩) (Cert.Reference5Ideal.Value.run m ρ)
/-- The idealized kernel and the reference end with the same result. -/
theorem algebraic : Cert.algebraic_Kernel5Ideal_Reference5Ideal (hKernel5Ideal := Cert.Kernel5Ideal.Gen.facts)
    (hReference5Ideal := Cert.Reference5Ideal.Gen.facts) := fun m ρ m' ρ' _ hag =>
  ⟨fun c => Cert.Kernel5Ideal.Cmp.resArr m c,
    (θ_run _ _ _).mono (fun r h c => ⟨(h c).1.trans (Cert.Kernel5Ideal.Cmp.final m c), (h c).2⟩) (Cert.Kernel5Ideal.Value.run_blocks m ρ),
    (θ_run _ _ _).mono (fun r h c => by
      obtain ⟨h0, h1, h2, h3⟩ := hag c
      exact ⟨(h c).1.trans (same_result m m' c
        (funext fun i => funext fun j => funext fun k => congrFun h0 (ix3 i j k))
        (funext fun i => funext fun j => congrFun h1 (ix2 i j))
        (funext fun i => funext fun j => congrFun h2 (ix2 i j))
        (funext fun i => funext fun j => congrFun h3 (ix2 i j))), (h c).2⟩)
      (Cert.Reference5Ideal.Value.run m' ρ')⟩

end Cert.Proof.Cmp

end
-- ==== Proof.lean ====
/- The proof of the certificate: the frames, the idealization and the equality of the results. -/
module

public import proofs.«01_k».proof.Defs
public import proofs.«01_k».proof.Proof.Gen.Kernel2.Skeleton
public import proofs.«01_k».proof.Proof.Gen.Kernel2Ideal.Skeleton
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Claims
public import proofs.«01_k».proof.Proof.FfnClaims
public import proofs.«01_k».proof.Proof.InClaims
public import proofs.«01_k».proof.Proof.OutClaims
public import proofs.«01_k».proof.Proof.CmpClaims

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  frame_p, frame_pi, frame_ri,
  Ffn.frame_p, Ffn.frame_pi, Ffn.frame_ri,
  Inproj.frame_p, Inproj.frame_pi, Inproj.frame_ri,
  Outproj.frame_p, Outproj.frame_pi, Outproj.frame_ri,
  Cmp.frame_p, Cmp.frame_pi, Cmp.frame_ri,
  trivial, algebraic, trivial, Ffn.algebraic, trivial, Inproj.algebraic, trivial, Outproj.algebraic,
  trivial, Cmp.algebraic⟩

end Cert.Proof

end
